-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_v80) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x2048x32x96 : Shape := ⟨4, ![6, 2048, 32, 96]⟩
abbrev S32 : Shape := ⟨1, ![32]⟩
abbrev S6x2048x4x96 : Shape := ⟨4, ![6, 2048, 4, 96]⟩
abbrev S4 : Shape := ⟨1, ![4]⟩
abbrev S6x32x2048 : Shape := ⟨3, ![6, 32, 2048]⟩
abbrev S6x2048x32 : Shape := ⟨3, ![6, 2048, 32]⟩
abbrev S6x32x1x2048 : Shape := ⟨4, ![6, 32, 1, 2048]⟩
abbrev S6x32x2048x96 : Shape := ⟨4, ![6, 32, 2048, 96]⟩
abbrev S6x4x2048x96 : Shape := ⟨4, ![6, 4, 2048, 96]⟩
abbrev S1x1x2048x96 : Shape := ⟨4, ![1, 1, 2048, 96]⟩
abbrev S1x1x1x2048 : Shape := ⟨4, ![1, 1, 1, 2048]⟩
abbrev S2048x96 : Shape := ⟨2, ![2048, 96]⟩
abbrev S2048x128 : Shape := ⟨2, ![2048, 128]⟩
abbrev S1 : Shape := ⟨1, ![1]⟩
abbrev S1x2048 : Shape := ⟨2, ![1, 2048]⟩
abbrev S8x2048 : Shape := ⟨2, ![8, 2048]⟩
abbrev S2048x8 : Shape := ⟨2, ![2048, 8]⟩
abbrev S2048x1 : Shape := ⟨2, ![2048, 1]⟩
abbrev S2048 : Shape := ⟨1, ![2048]⟩
abbrev S1x1x512x96 : Shape := ⟨4, ![1, 1, 512, 96]⟩
abbrev S512x96 : Shape := ⟨2, ![512, 96]⟩
abbrev S512x512 : Shape := ⟨2, ![512, 512]⟩
abbrev S512x128 : Shape := ⟨2, ![512, 128]⟩

abbrev nBuf : Space → Nat
  | .hbm => 24
  | .vmem => 28
  | .smem => 3
  | _ => 0

abbrev bufTy : (tb : Table) → Fin (tcTables nBuf tb) → BufTy
  | .hbm, ⟨0, _⟩ => ⟨S6x2048x32x96, .fp8e4m3⟩
  | .hbm, ⟨1, _⟩ => ⟨S32, .f32⟩
  | .hbm, ⟨2, _⟩ => ⟨S6x2048x4x96, .fp8e4m3⟩
  | .hbm, ⟨3, _⟩ => ⟨S4, .f32⟩
  | .hbm, ⟨4, _⟩ => ⟨S6x2048x4x96, .fp8e4m3⟩
  | .hbm, ⟨5, _⟩ => ⟨S4, .f32⟩
  | .hbm, ⟨6, _⟩ => ⟨S6x2048x32x96, .bf16⟩
  | .hbm, ⟨7, _⟩ => ⟨S6x32x2048, .f32⟩
  | .hbm, ⟨8, _⟩ => ⟨S6x2048x32x96, .fp8e5m2⟩
  | .hbm, ⟨9, _⟩ => ⟨S6x2048x32, .f32⟩
  | .hbm, ⟨10, _⟩ => ⟨S6x32x1x2048, .f32⟩
  | .hbm, ⟨11, _⟩ => ⟨S6x32x2048, .f32⟩
  | .hbm, ⟨12, _⟩ => ⟨S6x32x1x2048, .f32⟩
  | .hbm, ⟨13, _⟩ => ⟨S6x32x2048x96, .fp8e4m3⟩
  | .hbm, ⟨14, _⟩ => ⟨S6x4x2048x96, .fp8e4m3⟩
  | .hbm, ⟨15, _⟩ => ⟨S6x4x2048x96, .fp8e4m3⟩
  | .hbm, ⟨16, _⟩ => ⟨S6x32x2048x96, .bf16⟩
  | .hbm, ⟨17, _⟩ => ⟨S6x32x2048x96, .fp8e5m2⟩
  | .hbm, ⟨18, _⟩ => ⟨S6x32x2048x96, .bf16⟩
  | .hbm, ⟨19, _⟩ => ⟨S6x4x2048x96, .bf16⟩
  | .hbm, ⟨20, _⟩ => ⟨S6x4x2048x96, .bf16⟩
  | .hbm, ⟨21, _⟩ => ⟨S6x2048x32x96, .bf16⟩
  | .hbm, ⟨22, _⟩ => ⟨S6x2048x4x96, .bf16⟩
  | .hbm, ⟨23, _⟩ => ⟨S6x2048x4x96, .bf16⟩
  | .local _ .vmem, ⟨0, _⟩ => ⟨S1x1x2048x96, .fp8e4m3⟩
  | .local _ .vmem, ⟨1, _⟩ => ⟨S1x1x2048x96, .fp8e4m3⟩
  | .local _ .vmem, ⟨2, _⟩ => ⟨S1x1x2048x96, .fp8e4m3⟩
  | .local _ .vmem, ⟨3, _⟩ => ⟨S1x1x2048x96, .fp8e4m3⟩
  | .local _ .vmem, ⟨4, _⟩ => ⟨S1x1x2048x96, .fp8e4m3⟩
  | .local _ .vmem, ⟨5, _⟩ => ⟨S1x1x2048x96, .fp8e4m3⟩
  | .local _ .vmem, ⟨6, _⟩ => ⟨S1x1x2048x96, .bf16⟩
  | .local _ .vmem, ⟨7, _⟩ => ⟨S1x1x2048x96, .bf16⟩
  | .local _ .vmem, ⟨8, _⟩ => ⟨S1x1x2048x96, .fp8e5m2⟩
  | .local _ .vmem, ⟨9, _⟩ => ⟨S1x1x2048x96, .fp8e5m2⟩
  | .local _ .vmem, ⟨10, _⟩ => ⟨S1x1x1x2048, .f32⟩
  | .local _ .vmem, ⟨11, _⟩ => ⟨S1x1x1x2048, .f32⟩
  | .local _ .vmem, ⟨12, _⟩ => ⟨S1x1x1x2048, .f32⟩
  | .local _ .vmem, ⟨13, _⟩ => ⟨S1x1x1x2048, .f32⟩
  | .local _ .vmem, ⟨14, _⟩ => ⟨S1x1x2048x96, .bf16⟩
  | .local _ .vmem, ⟨15, _⟩ => ⟨S1x1x2048x96, .bf16⟩
  | .local _ .vmem, ⟨16, _⟩ => ⟨S1x1x2048x96, .bf16⟩
  | .local _ .vmem, ⟨17, _⟩ => ⟨S1x1x2048x96, .bf16⟩
  | .local _ .vmem, ⟨18, _⟩ => ⟨S1x1x2048x96, .bf16⟩
  | .local _ .vmem, ⟨19, _⟩ => ⟨S1x1x2048x96, .bf16⟩
  | .local _ .vmem, ⟨20, _⟩ => ⟨S2048x96, .bf16⟩
  | .local _ .vmem, ⟨21, _⟩ => ⟨S2048x96, .bf16⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S2048x96, .f32⟩
  | .local _ .vmem, ⟨26, _⟩ => ⟨S2048x96, .f32⟩
  | .local _ .vmem, ⟨27, _⟩ => ⟨S2048x96, .f32⟩
  | .local _ .smem, ⟨0, _⟩ => ⟨S32, .f32⟩
  | .local _ .smem, ⟨1, _⟩ => ⟨S4, .f32⟩
  | .local _ .smem, ⟨2, _⟩ => ⟨S4, .f32⟩
  | _, _ => ⟨S6x2048x32x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨3, ![6, 4, 8], ![false, false, false]⟩

def k0_off1 (i : grid0.Coords) : Fin 1 → Nat :=
  let arg1 : BitVec 32 := BitVec.ofNat 32 (i 1).val
  let c8_i32 : BitVec 32 := 8#32
  let v0 : BitVec 32 := Scalar.muli arg1 c8_i32
  let arg2 : BitVec 32 := BitVec.ofNat 32 (i 2).val
  let v1 : BitVec 32 := Scalar.addi v0 arg2
  let v2 : Index := Scalar.indexCast v1
  ![v2.toNat]
def k0_off2 (i : grid0.Coords) : Fin 1 → Nat :=
  let arg1 : BitVec 32 := BitVec.ofNat 32 (i 1).val
  let v4 : Index := Scalar.indexCast arg1
  ![v4.toNat]
@[reducible] def k0_t1_loop : Scf.Loop 32 :=
  let c0_i32_35 : BitVec 32 := 0#32
  let c4_i32 : BitVec 32 := 4#32
  let v73 : BitVec 32 := Scalar.addi c0_i32_35 c4_i32
  let c1_i32 : BitVec 32 := 1#32
  ⟨c0_i32_35, v73, c1_i32⟩
def k0_off3 (k0_t1 : Fin k0_t1_loop.trips) : Fin 4 → Nat :=
  let c0_46 : Index := 0#32
  let c0_47 : Index := 0#32
  let c0_i32_35 : BitVec 32 := 0#32
  let c1_i32 : BitVec 32 := 1#32
  let arg24 : BitVec 32 := Scf.iv c0_i32_35 c1_i32 k0_t1
  let c512_i32 : BitVec 32 := 512#32
  let v85 : BitVec 32 := Scalar.muli arg24 c512_i32
  let v87 : Index := Scalar.indexCast v85
  let c0_48 : Index := 0#32
  ![0, 0, v87.toNat, 0]
def k0_off4 (k0_t1 : Fin k0_t1_loop.trips) : Fin 2 → Nat :=
  let c0_i32_35 : BitVec 32 := 0#32
  let c1_i32 : BitVec 32 := 1#32
  let arg24 : BitVec 32 := Scf.iv c0_i32_35 c1_i32 k0_t1
  let c512_i32 : BitVec 32 := 512#32
  let v85 : BitVec 32 := Scalar.muli arg24 c512_i32
  let v97 : Index := Scalar.indexCast v85
  let c0_54 : Index := 0#32
  ![v97.toNat, 0]
def k0_off5 (k0_t1 : Fin k0_t1_loop.trips) : Fin 2 → Nat :=
  let c0_i32_35 : BitVec 32 := 0#32
  let c1_i32 : BitVec 32 := 1#32
  let arg24 : BitVec 32 := Scf.iv c0_i32_35 c1_i32 k0_t1
  let c512_i32_45 : BitVec 32 := 512#32
  let v86 : BitVec 32 := Scalar.muli arg24 c512_i32_45
  let v126 : Index := Scalar.indexCast v86
  let c0_65 : Index := 0#32
  ![v126.toNat, 0]
@[reducible] def k0_t2_loop (k0_t1 : Fin k0_t1_loop.trips) : Scf.Loop 32 :=
  let c0_i32_35 : BitVec 32 := 0#32
  let c1_i32 : BitVec 32 := 1#32
  let arg24 : BitVec 32 := Scf.iv c0_i32_35 c1_i32 k0_t1
  let c1_i32_79 : BitVec 32 := 1#32
  let v159 : BitVec 32 := Scalar.addi arg24 c1_i32_79
  let c4_i32_80 : BitVec 32 := 4#32
  let v160 : BitVec 32 := Scalar.subi c4_i32_80 v159
  let c1_i32_82 : BitVec 32 := 1#32
  let v162 : BitVec 32 := Scalar.divsi v160 c1_i32_82
  let v163 : BitVec 32 := Scalar.muli v162 c1_i32_82
  let v164 : BitVec 32 := Scalar.addi v159 v163
  let c1_i32_83 : BitVec 32 := 1#32
  ⟨v159, v164, c1_i32_83⟩
def k0_off6 (k0_t1 : Fin k0_t1_loop.trips) (k0_t2 : Fin (k0_t2_loop k0_t1).trips) : Fin 4 → Nat :=
  let c0_87 : Index := 0#32
  let c0_88 : Index := 0#32
  let c0_i32_35 : BitVec 32 := 0#32
  let c1_i32 : BitVec 32 := 1#32
  let arg24 : BitVec 32 := Scf.iv c0_i32_35 c1_i32 k0_t1
  let c1_i32_79 : BitVec 32 := 1#32
  let v159 : BitVec 32 := Scalar.addi arg24 c1_i32_79
  let c1_i32_83 : BitVec 32 := 1#32
  let arg25 : BitVec 32 := Scf.iv v159 c1_i32_83 k0_t2
  let c512_i32_85 : BitVec 32 := 512#32
  let v167 : BitVec 32 := Scalar.muli arg25 c512_i32_85
  let v169 : Index := Scalar.indexCast v167
  let c0_89 : Index := 0#32
  ![0, 0, v169.toNat, 0]
def k0_off7 (k0_t1 : Fin k0_t1_loop.trips) : Fin 4 → Nat :=
  let c0_90 : Index := 0#32
  let c0_91 : Index := 0#32
  let c0_i32_35 : BitVec 32 := 0#32
  let c1_i32 : BitVec 32 := 1#32
  let arg24 : BitVec 32 := Scf.iv c0_i32_35 c1_i32 k0_t1
  let c512_i32_86 : BitVec 32 := 512#32
  let v168 : BitVec 32 := Scalar.muli arg24 c512_i32_86
  let v172 : Index := Scalar.indexCast v168
  let c0_92 : Index := 0#32
  ![0, 0, v172.toNat, 0]
def k0_off8 (k0_t1 : Fin k0_t1_loop.trips) (k0_t2 : Fin (k0_t2_loop k0_t1).trips) : Fin 2 → Nat :=
  let c0_i32_35 : BitVec 32 := 0#32
  let c1_i32 : BitVec 32 := 1#32
  let arg24 : BitVec 32 := Scf.iv c0_i32_35 c1_i32 k0_t1
  let c1_i32_79 : BitVec 32 := 1#32
  let v159 : BitVec 32 := Scalar.addi arg24 c1_i32_79
  let c1_i32_83 : BitVec 32 := 1#32
  let arg25 : BitVec 32 := Scf.iv v159 c1_i32_83 k0_t2
  let c512_i32_85 : BitVec 32 := 512#32
  let v167 : BitVec 32 := Scalar.muli arg25 c512_i32_85
  let v179 : Index := Scalar.indexCast v167
  let c0_95 : Index := 0#32
  ![v179.toNat, 0]
def k0_off9 (k0_t1 : Fin k0_t1_loop.trips) : Fin 2 → Nat :=
  let c0_i32_35 : BitVec 32 := 0#32
  let c1_i32 : BitVec 32 := 1#32
  let arg24 : BitVec 32 := Scf.iv c0_i32_35 c1_i32 k0_t1
  let c512_i32_86 : BitVec 32 := 512#32
  let v168 : BitVec 32 := Scalar.muli arg24 c512_i32_86
  let v203 : Index := Scalar.indexCast v168
  let c0_105 : Index := 0#32
  ![v203.toNat, 0]
def k0_off10 (k0_t1 : Fin k0_t1_loop.trips) (k0_t2 : Fin (k0_t2_loop k0_t1).trips) : Fin 2 → Nat :=
  let c0_i32_35 : BitVec 32 := 0#32
  let c1_i32 : BitVec 32 := 1#32
  let arg24 : BitVec 32 := Scf.iv c0_i32_35 c1_i32 k0_t1
  let c1_i32_79 : BitVec 32 := 1#32
  let v159 : BitVec 32 := Scalar.addi arg24 c1_i32_79
  let c1_i32_83 : BitVec 32 := 1#32
  let arg25 : BitVec 32 := Scf.iv v159 c1_i32_83 k0_t2
  let c512_i32_85 : BitVec 32 := 512#32
  let v167 : BitVec 32 := Scalar.muli arg25 c512_i32_85
  let v206 : Index := Scalar.indexCast v167
  let c0_106 : Index := 0#32
  ![v206.toNat, 0]
@[reducible] def k0_t3_loop (k0_t1 : Fin k0_t1_loop.trips) : Scf.Loop 32 :=
  let c0_i32_35 : BitVec 32 := 0#32
  let c1_i32 : BitVec 32 := 1#32
  let arg24 : BitVec 32 := Scf.iv c0_i32_35 c1_i32 k0_t1
  let c1_i32_79 : BitVec 32 := 1#32
  let v159 : BitVec 32 := Scalar.addi arg24 c1_i32_79
  let c4_i32_80 : BitVec 32 := 4#32
  let v160 : BitVec 32 := Scalar.subi c4_i32_80 v159
  let c1_i32_82 : BitVec 32 := 1#32
  let v162 : BitVec 32 := Scalar.divsi v160 c1_i32_82
  let v163 : BitVec 32 := Scalar.muli v162 c1_i32_82
  let v164 : BitVec 32 := Scalar.addi v159 v163
  let v161 : BitVec 32 := Scalar.addi v159 v160
  let c1_i32_84 : BitVec 32 := 1#32
  ⟨v164, v161, c1_i32_84⟩
def k0_off11 (k0_t1 : Fin k0_t1_loop.trips) (k0_t3 : Fin (k0_t3_loop k0_t1).trips) : Fin 4 → Nat :=
  let c0_87 : Index := 0#32
  let c0_88 : Index := 0#32
  let c0_i32_35 : BitVec 32 := 0#32
  let c1_i32 : BitVec 32 := 1#32
  let arg24 : BitVec 32 := Scf.iv c0_i32_35 c1_i32 k0_t1
  let c1_i32_79 : BitVec 32 := 1#32
  let v159 : BitVec 32 := Scalar.addi arg24 c1_i32_79
  let c4_i32_80 : BitVec 32 := 4#32
  let v160 : BitVec 32 := Scalar.subi c4_i32_80 v159
  let c1_i32_82 : BitVec 32 := 1#32
  let v162 : BitVec 32 := Scalar.divsi v160 c1_i32_82
  let v163 : BitVec 32 := Scalar.muli v162 c1_i32_82
  let v164 : BitVec 32 := Scalar.addi v159 v163
  let c1_i32_84 : BitVec 32 := 1#32
  let arg25 : BitVec 32 := Scf.iv v164 c1_i32_84 k0_t3
  let c512_i32_85 : BitVec 32 := 512#32
  let v167 : BitVec 32 := Scalar.muli arg25 c512_i32_85
  let v169 : Index := Scalar.indexCast v167
  let c0_89 : Index := 0#32
  ![0, 0, v169.toNat, 0]
def k0_off12 (k0_t1 : Fin k0_t1_loop.trips) : Fin 4 → Nat :=
  let c0_90 : Index := 0#32
  let c0_91 : Index := 0#32
  let c0_i32_35 : BitVec 32 := 0#32
  let c1_i32 : BitVec 32 := 1#32
  let arg24 : BitVec 32 := Scf.iv c0_i32_35 c1_i32 k0_t1
  let c512_i32_86 : BitVec 32 := 512#32
  let v168 : BitVec 32 := Scalar.muli arg24 c512_i32_86
  let v172 : Index := Scalar.indexCast v168
  let c0_92 : Index := 0#32
  ![0, 0, v172.toNat, 0]
def k0_off13 (k0_t1 : Fin k0_t1_loop.trips) (k0_t3 : Fin (k0_t3_loop k0_t1).trips) : Fin 2 → Nat :=
  let c0_i32_35 : BitVec 32 := 0#32
  let c1_i32 : BitVec 32 := 1#32
  let arg24 : BitVec 32 := Scf.iv c0_i32_35 c1_i32 k0_t1
  let c1_i32_79 : BitVec 32 := 1#32
  let v159 : BitVec 32 := Scalar.addi arg24 c1_i32_79
  let c4_i32_80 : BitVec 32 := 4#32
  let v160 : BitVec 32 := Scalar.subi c4_i32_80 v159
  let c1_i32_82 : BitVec 32 := 1#32
  let v162 : BitVec 32 := Scalar.divsi v160 c1_i32_82
  let v163 : BitVec 32 := Scalar.muli v162 c1_i32_82
  let v164 : BitVec 32 := Scalar.addi v159 v163
  let c1_i32_84 : BitVec 32 := 1#32
  let arg25 : BitVec 32 := Scf.iv v164 c1_i32_84 k0_t3
  let c512_i32_85 : BitVec 32 := 512#32
  let v167 : BitVec 32 := Scalar.muli arg25 c512_i32_85
  let v179 : Index := Scalar.indexCast v167
  let c0_95 : Index := 0#32
  ![v179.toNat, 0]
def k0_off14 (k0_t1 : Fin k0_t1_loop.trips) : Fin 2 → Nat :=
  let c0_i32_35 : BitVec 32 := 0#32
  let c1_i32 : BitVec 32 := 1#32
  let arg24 : BitVec 32 := Scf.iv c0_i32_35 c1_i32 k0_t1
  let c512_i32_86 : BitVec 32 := 512#32
  let v168 : BitVec 32 := Scalar.muli arg24 c512_i32_86
  let v203 : Index := Scalar.indexCast v168
  let c0_105 : Index := 0#32
  ![v203.toNat, 0]
def k0_off15 (k0_t1 : Fin k0_t1_loop.trips) (k0_t3 : Fin (k0_t3_loop k0_t1).trips) : Fin 2 → Nat :=
  let c0_i32_35 : BitVec 32 := 0#32
  let c1_i32 : BitVec 32 := 1#32
  let arg24 : BitVec 32 := Scf.iv c0_i32_35 c1_i32 k0_t1
  let c1_i32_79 : BitVec 32 := 1#32
  let v159 : BitVec 32 := Scalar.addi arg24 c1_i32_79
  let c4_i32_80 : BitVec 32 := 4#32
  let v160 : BitVec 32 := Scalar.subi c4_i32_80 v159
  let c1_i32_82 : BitVec 32 := 1#32
  let v162 : BitVec 32 := Scalar.divsi v160 c1_i32_82
  let v163 : BitVec 32 := Scalar.muli v162 c1_i32_82
  let v164 : BitVec 32 := Scalar.addi v159 v163
  let c1_i32_84 : BitVec 32 := 1#32
  let arg25 : BitVec 32 := Scf.iv v164 c1_i32_84 k0_t3
  let c512_i32_85 : BitVec 32 := 512#32
  let v167 : BitVec 32 := Scalar.muli arg25 c512_i32_85
  let v206 : Index := Scalar.indexCast v167
  let c0_106 : Index := 0#32
  ![v206.toNat, 0]
def k0_cond2 (i : grid0.Coords) : BitVec 1 :=
  let arg2 : BitVec 32 := BitVec.ofNat 32 (i 2).val
  let c7_i32 : BitVec 32 := 7#32
  let v82 : BitVec 1 := Scalar.cmpi .eq arg2 c7_i32
  let v83 : BitVec 32 := Scalar.extui v82
  let c0_i32_44 : BitVec 32 := 0#32
  let v84 : BitVec 1 := Scalar.cmpi .ne v83 c0_i32_44
  v84

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  let c0_i32_0 : BitVec 32 := 0#32
  let c0_i32_1 : BitVec 32 := 0#32
  ![arg0.toNat, v1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  let c0_i32_0 : BitVec 32 := 0#32
  let c0_i32_1 : BitVec 32 := 0#32
  ![arg0.toNat, v1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  let c0_i32_0 : BitVec 32 := 0#32
  let c0_i32_1 : BitVec 32 := 0#32
  ![arg0.toNat, v1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  let c0_i32_0 : BitVec 32 := 0#32
  let c0_i32_1 : BitVec 32 := 0#32
  ![arg0.toNat, v1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  let c0_i32_0 : BitVec 32 := 0#32
  let c0_i32_1 : BitVec 32 := 0#32
  ![arg0.toNat, v1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  let c0_i32_0 : BitVec 32 := 0#32
  let c0_i32_1 : BitVec 32 := 0#32
  ![arg0.toNat, v1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .smem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1x2048x96 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x2048x96 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x2048x96 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x2048x96 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x2048x96 .fp8e5m2 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x2048x96 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1x2048x96 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S1x1x2048x96 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S6x2048x32x96 : Shape := ⟨4, ![6, 2048, 32, 96]⟩
abbrev S32 : Shape := ⟨1, ![32]⟩
abbrev S6x2048x4x96 : Shape := ⟨4, ![6, 2048, 4, 96]⟩
abbrev S4 : Shape := ⟨1, ![4]⟩
abbrev S6x32x2048 : Shape := ⟨3, ![6, 32, 2048]⟩
abbrev S6x2048x32 : Shape := ⟨3, ![6, 2048, 32]⟩
abbrev S6x2048x4x8x96 : Shape := ⟨5, ![6, 2048, 4, 8, 96]⟩
abbrev S4x8 : Shape := ⟨2, ![4, 8]⟩
abbrev S4x1 : Shape := ⟨2, ![4, 1]⟩
abbrev S_ : Shape := ⟨0, ![]⟩
abbrev S4x8x1x1 : Shape := ⟨4, ![4, 8, 1, 1]⟩
abbrev S6x4x8x2048 : Shape := ⟨4, ![6, 4, 8, 2048]⟩
abbrev S32x1 : Shape := ⟨2, ![32, 1]⟩
abbrev S1x1x32x1 : Shape := ⟨4, ![1, 1, 32, 1]⟩
abbrev S6x2048x4x8 : Shape := ⟨4, ![6, 2048, 4, 8]⟩
abbrev S6x2048x4x8x1 : Shape := ⟨5, ![6, 2048, 4, 8, 1]⟩
abbrev S4x1x1 : Shape := ⟨3, ![4, 1, 1]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S6x4x2048x2048x8 : Shape := ⟨5, ![6, 4, 2048, 2048, 8]⟩
abbrev S6x4x8x2048x2048 : Shape := ⟨5, ![6, 4, 8, 2048, 2048]⟩
abbrev S1x4x8x1x1 : Shape := ⟨5, ![1, 4, 8, 1, 1]⟩
abbrev S6x4x8x2048x1 : Shape := ⟨5, ![6, 4, 8, 2048, 1]⟩
abbrev S4x1x1x1 : Shape := ⟨4, ![4, 1, 1, 1]⟩
abbrev S1x4x1x1x1 : Shape := ⟨5, ![1, 4, 1, 1, 1]⟩
abbrev S6x4x96x8x2048 : Shape := ⟨5, ![6, 4, 96, 8, 2048]⟩
abbrev S1x1x4x1x1 : Shape := ⟨5, ![1, 1, 4, 1, 1]⟩
abbrev S6x4x96x2048 : Shape := ⟨4, ![6, 4, 96, 2048]⟩

abbrev nBuf : Space → Nat
  | .hbm => 102
  | .vmem => 8
  | .smem => 0
  | _ => 0

abbrev bufTy : (tb : Table) → Fin (tcTables nBuf tb) → BufTy
  | .hbm, ⟨0, _⟩ => ⟨S6x2048x32x96, .fp8e4m3⟩
  | .hbm, ⟨1, _⟩ => ⟨S32, .f32⟩
  | .hbm, ⟨2, _⟩ => ⟨S6x2048x4x96, .fp8e4m3⟩
  | .hbm, ⟨3, _⟩ => ⟨S4, .f32⟩
  | .hbm, ⟨4, _⟩ => ⟨S6x2048x4x96, .fp8e4m3⟩
  | .hbm, ⟨5, _⟩ => ⟨S4, .f32⟩
  | .hbm, ⟨6, _⟩ => ⟨S6x2048x32x96, .bf16⟩
  | .hbm, ⟨7, _⟩ => ⟨S6x32x2048, .f32⟩
  | .hbm, ⟨8, _⟩ => ⟨S6x2048x32x96, .fp8e5m2⟩
  | .hbm, ⟨9, _⟩ => ⟨S6x2048x32, .f32⟩
  | .hbm, ⟨10, _⟩ => ⟨S6x2048x32x96, .bf16⟩
  | .hbm, ⟨11, _⟩ => ⟨S6x2048x4x96, .bf16⟩
  | .hbm, ⟨12, _⟩ => ⟨S6x2048x4x96, .bf16⟩
  | .hbm, ⟨13, _⟩ => ⟨S6x2048x32x96, .bf16⟩
  | .hbm, ⟨14, _⟩ => ⟨S6x2048x4x8x96, .bf16⟩
  | .hbm, ⟨15, _⟩ => ⟨S6x2048x4x8x96, .bf16⟩
  | .hbm, ⟨16, _⟩ => ⟨S4x8, .f32⟩
  | .hbm, ⟨17, _⟩ => ⟨S4x1, .f32⟩
  | .hbm, ⟨18, _⟩ => ⟨S4x8, .f32⟩
  | .hbm, ⟨19, _⟩ => ⟨S4x8, .f32⟩
  | .hbm, ⟨20, _⟩ => ⟨S_, .f32⟩
  | .hbm, ⟨21, _⟩ => ⟨S4x8, .f32⟩
  | .hbm, ⟨22, _⟩ => ⟨S4x8, .f32⟩
  | .hbm, ⟨23, _⟩ => ⟨S4x8x1x1, .f32⟩
  | .hbm, ⟨24, _⟩ => ⟨S6x32x2048, .f32⟩
  | .hbm, ⟨25, _⟩ => ⟨S6x4x8x2048, .f32⟩
  | .hbm, ⟨26, _⟩ => ⟨S6x2048x32x96, .f32⟩
  | .hbm, ⟨27, _⟩ => ⟨S6x2048x32x96, .f32⟩
  | .hbm, ⟨28, _⟩ => ⟨S6x2048x32x96, .f32⟩
  | .hbm, ⟨29, _⟩ => ⟨S_, .f32⟩
  | .hbm, ⟨30, _⟩ => ⟨S6x2048x32, .f32⟩
  | .hbm, ⟨31, _⟩ => ⟨S6x2048x32, .f32⟩
  | .hbm, ⟨32, _⟩ => ⟨S6x32x2048, .f32⟩
  | .hbm, ⟨33, _⟩ => ⟨S6x4x8x2048, .f32⟩
  | .hbm, ⟨34, _⟩ => ⟨S6x4x8x2048, .f32⟩
  | .hbm, ⟨35, _⟩ => ⟨S32, .bf16⟩
  | .hbm, ⟨36, _⟩ => ⟨S32x1, .bf16⟩
  | .hbm, ⟨37, _⟩ => ⟨S1x1x32x1, .bf16⟩
  | .hbm, ⟨38, _⟩ => ⟨S6x2048x32x96, .bf16⟩
  | .hbm, ⟨39, _⟩ => ⟨S6x2048x32x96, .bf16⟩
  | .hbm, ⟨40, _⟩ => ⟨S6x2048x4x8x96, .bf16⟩
  | .hbm, ⟨41, _⟩ => ⟨S6x2048x32, .bf16⟩
  | .hbm, ⟨42, _⟩ => ⟨S6x2048x4x8, .bf16⟩
  | .hbm, ⟨43, _⟩ => ⟨S6x2048x4x8x1, .bf16⟩
  | .hbm, ⟨44, _⟩ => ⟨S6x2048x4x8x96, .bf16⟩
  | .hbm, ⟨45, _⟩ => ⟨S6x2048x4x8x96, .bf16⟩
  | .hbm, ⟨46, _⟩ => ⟨S_, .f32⟩
  | .hbm, ⟨47, _⟩ => ⟨S4, .f32⟩
  | .hbm, ⟨48, _⟩ => ⟨S4, .f32⟩
  | .hbm, ⟨49, _⟩ => ⟨S4x1x1, .f32⟩
  | .hbm, ⟨50, _⟩ => ⟨S2048, .i32⟩
  | .hbm, ⟨51, _⟩ => ⟨S1x2048, .i32⟩
  | .hbm, ⟨52, _⟩ => ⟨S2048x1, .i32⟩
  | .hbm, ⟨53, _⟩ => ⟨S2048x2048, .i32⟩
  | .hbm, ⟨54, _⟩ => ⟨S2048x2048, .i32⟩
  | .hbm, ⟨55, _⟩ => ⟨S2048x2048, .i1⟩
  | .hbm, ⟨56, _⟩ => ⟨S6x4x2048x2048x8, .f32⟩
  | .hbm, ⟨57, _⟩ => ⟨S6x4x8x2048x2048, .f32⟩
  | .hbm, ⟨58, _⟩ => ⟨S1x4x8x1x1, .f32⟩
  | .hbm, ⟨59, _⟩ => ⟨S6x4x8x2048x2048, .f32⟩
  | .hbm, ⟨60, _⟩ => ⟨S6x4x8x2048x2048, .f32⟩
  | .hbm, ⟨61, _⟩ => ⟨S_, .f32⟩
  | .hbm, ⟨62, _⟩ => ⟨S_, .f32⟩
  | .hbm, ⟨63, _⟩ => ⟨S6x4x8x2048x2048, .i1⟩
  | .hbm, ⟨64, _⟩ => ⟨S6x4x8x2048x2048, .f32⟩
  | .hbm, ⟨65, _⟩ => ⟨S6x4x8x2048x2048, .f32⟩
  | .hbm, ⟨66, _⟩ => ⟨S6x4x8x2048x1, .f32⟩
  | .hbm, ⟨67, _⟩ => ⟨S6x4x8x2048x2048, .f32⟩
  | .hbm, ⟨68, _⟩ => ⟨S6x4x8x2048x2048, .f32⟩
  | .hbm, ⟨69, _⟩ => ⟨S6x4x8x2048x2048, .f32⟩
  | .hbm, ⟨70, _⟩ => ⟨S6x4x2048x2048x8, .f32⟩
  | .hbm, ⟨71, _⟩ => ⟨S6x4x8x2048x2048, .f32⟩
  | .hbm, ⟨72, _⟩ => ⟨S6x4x8x2048x1, .f32⟩
  | .hbm, ⟨73, _⟩ => ⟨S6x4x8x2048x2048, .f32⟩
  | .hbm, ⟨74, _⟩ => ⟨S6x4x8x2048x2048, .f32⟩
  | .hbm, ⟨75, _⟩ => ⟨S4x1x1x1, .f32⟩
  | .hbm, ⟨76, _⟩ => ⟨S1x4x1x1x1, .f32⟩
  | .hbm, ⟨77, _⟩ => ⟨S6x4x8x2048x2048, .f32⟩
  | .hbm, ⟨78, _⟩ => ⟨S6x4x8x2048x2048, .f32⟩
  | .hbm, ⟨79, _⟩ => ⟨S6x4x8x2048x1, .f32⟩
  | .hbm, ⟨80, _⟩ => ⟨S6x4x8x2048x2048, .f32⟩
  | .hbm, ⟨81, _⟩ => ⟨S6x4x8x2048x2048, .f32⟩
  | .hbm, ⟨82, _⟩ => ⟨S6x4x8x2048x2048, .f32⟩
  | .hbm, ⟨83, _⟩ => ⟨S6x4x8x2048x2048, .bf16⟩
  | .hbm, ⟨84, _⟩ => ⟨S6x4x96x8x2048, .f32⟩
  | .hbm, ⟨85, _⟩ => ⟨S6x2048x4x8x96, .f32⟩
  | .hbm, ⟨86, _⟩ => ⟨S1x1x4x1x1, .f32⟩
  | .hbm, ⟨87, _⟩ => ⟨S6x2048x4x8x96, .f32⟩
  | .hbm, ⟨88, _⟩ => ⟨S6x2048x4x8x96, .f32⟩
  | .hbm, ⟨89, _⟩ => ⟨S6x4x8x2048x2048, .bf16⟩
  | .hbm, ⟨90, _⟩ => ⟨S6x4x96x2048, .f32⟩
  | .hbm, ⟨91, _⟩ => ⟨S6x2048x4x96, .f32⟩
  | .hbm, ⟨92, _⟩ => ⟨S_, .f32⟩
  | .hbm, ⟨93, _⟩ => ⟨S6x2048x4x96, .f32⟩
  | .hbm, ⟨94, _⟩ => ⟨S6x2048x4x96, .f32⟩
  | .hbm, ⟨95, _⟩ => ⟨S6x4x8x2048x2048, .bf16⟩
  | .hbm, ⟨96, _⟩ => ⟨S6x4x96x2048, .f32⟩
  | .hbm, ⟨97, _⟩ => ⟨S6x2048x4x96, .f32⟩
  | .hbm, ⟨98, _⟩ => ⟨S6x2048x32x96, .f32⟩
  | .hbm, ⟨99, _⟩ => ⟨S6x2048x32x96, .bf16⟩
  | .hbm, ⟨100, _⟩ => ⟨S6x2048x4x96, .bf16⟩
  | .hbm, ⟨101, _⟩ => ⟨S6x2048x4x96, .bf16⟩
  | .local _ .vmem, ⟨0, _⟩ => ⟨S6x2048x32x96, .fp8e4m3⟩
  | .local _ .vmem, ⟨1, _⟩ => ⟨S6x2048x4x96, .fp8e4m3⟩
  | .local _ .vmem, ⟨2, _⟩ => ⟨S6x2048x4x96, .fp8e4m3⟩
  | .local _ .vmem, ⟨3, _⟩ => ⟨S6x2048x32x96, .fp8e5m2⟩
  | .local _ .vmem, ⟨4, _⟩ => ⟨S6x2048x32x96, .bf16⟩
  | .local _ .vmem, ⟨5, _⟩ => ⟨S6x2048x4x96, .bf16⟩
  | .local _ .vmem, ⟨6, _⟩ => ⟨S6x2048x4x96, .bf16⟩
  | .local _ .vmem, ⟨7, _⟩ => ⟨S6x2048x32x96, .bf16⟩
  | _, _ => ⟨S6x2048x32x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_1 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_2 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_3 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S6x2048x32x96 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x2048x4x96 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x2048x4x96 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x2048x32x96 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x2048x32x96 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x2048x4x96 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x2048x4x96 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x2048x32x96 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.LoopK.lean ====
/- The outer loop of the kernel (one trip per block of keys) by an invariant that tracks what it writes. -/
module

public import proofs.«01_k».proof.Proof.Gen.Kernel.Loops

@[expose] public section

set_option maxRecDepth 8192
set_option maxHeartbeats 4000000

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra the invariant is stated at. -/
local notation "𝕄G" => MT nD τ sig Unit (Elt F) ℕ (UR sig nD τ) ℕ

/-- What one outer trip holds: the nine buffers it reads at the contents `X_·`, the three accumulators at `f_·`. -/
abbrev Trip_k0_t1 (c : Dev nD) (arg6 : Memref sig .tc .vmem S1x1x2048x96 .fp8e4m3) (arg7 : Memref sig .tc .vmem S1x1x2048x96 .fp8e4m3) (arg8 : Memref sig .tc .vmem S1x1x2048x96 .fp8e4m3) (arg10 : Memref sig .tc .vmem S1x1x2048x96 .fp8e5m2) (arg16 : Memref sig .tc .vmem S2048x96 .bf16) (arg17 : Memref sig .tc .vmem S2048x96 .bf16) (arg18 : Memref sig .tc .vmem S2048x128 .f32) (arg19 : Memref sig .tc .vmem S2048x128 .f32) (arg20 : Memref sig .tc .vmem S2048x128 .f32) (arg21 : Memref sig .tc .vmem S2048x96 .f32) (arg22 : Memref sig .tc .vmem S2048x96 .f32) (arg23 : Memref sig .tc .vmem S2048x96 .f32) (X_arg6 : BufTy.Contents (Elt F) arg6.view.ty) (X_arg7 : BufTy.Contents (Elt F) arg7.view.ty) (X_arg8 : BufTy.Contents (Elt F) arg8.view.ty) (X_arg10 : BufTy.Contents (Elt F) arg10.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (f_arg21 : BufTy.Contents (Elt F) arg21.view.ty) (f_arg22 : BufTy.Contents (Elt F) arg22.view.ty) (f_arg23 : BufTy.Contents (Elt F) arg23.view.ty) : sProp 𝕄G :=
  iprop((arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg10.view.loc (c : Thread nD τ) ↦[arg10.view.set]{fullShare} X_arg10) ∗ (arg16.view.loc (c : Thread nD τ) ↦[arg16.view.set]{fullShare} X_arg16) ∗ (arg17.view.loc (c : Thread nD τ) ↦[arg17.view.set]{fullShare} X_arg17) ∗ (arg18.view.loc (c : Thread nD τ) ↦[arg18.view.set]{fullShare} X_arg18) ∗ (arg19.view.loc (c : Thread nD τ) ↦[arg19.view.set]{fullShare} X_arg19) ∗ (arg20.view.loc (c : Thread nD τ) ↦[arg20.view.set]{fullShare} X_arg20) ∗ (arg21.view.loc (c : Thread nD τ) ↦[arg21.view.set]{fullShare} f_arg21) ∗ (arg22.view.loc (c : Thread nD τ) ↦[arg22.view.set]{fullShare} f_arg22) ∗ (arg23.view.loc (c : Thread nD τ) ↦[arg23.view.set]{fullShare} f_arg23))

/-- One trip of the outer loop (one block of keys): run once at a symbolic trip `k`, through the diagonal tile and the
   inner loops; the pieces it writes into the three accumulators are the witnesses. -/
@[irreducible] def trip_k0_t1 (𝒱 : Variants) (c : Dev nD) (bd : Option 𝒱.V) (i : grid0.Coords) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (v9 : F .f32) (X_arg6 : BufTy.Contents (Elt F) arg6.view.ty) (X_arg7 : BufTy.Contents (Elt F) arg7.view.ty) (X_arg8 : BufTy.Contents (Elt F) arg8.view.ty) (X_arg10 : BufTy.Contents (Elt F) arg10.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (k : Fin k0_t1_loop.trips) :
    Σ' (R_k0_t1 : (Unit → BufTy.Contents (Elt F) arg21.view.ty → BufTy.Contents (Elt F) arg22.view.ty → BufTy.Contents (Elt F) arg23.view.ty → Unit)) (L_arg21 : (Unit → BufTy.Contents (Elt F) arg21.view.ty → BufTy.Contents (Elt F) arg22.view.ty → BufTy.Contents (Elt F) arg23.view.ty → List (View.Piece (Elt F) S2048x96 .f32))) (L_arg22 : (Unit → BufTy.Contents (Elt F) arg21.view.ty → BufTy.Contents (Elt F) arg22.view.ty → BufTy.Contents (Elt F) arg23.view.ty → List (View.Piece (Elt F) S2048x96 .f32))) , { L_arg23 : (Unit → BufTy.Contents (Elt F) arg21.view.ty → BufTy.Contents (Elt F) arg22.view.ty → BufTy.Contents (Elt F) arg23.view.ty → List (View.Piece (Elt F) S2048x96 .f32)) // ∀ (E : Set ℕ) (acc : Unit) (f_arg21 : BufTy.Contents (Elt F) arg21.view.ty) (f_arg22 : BufTy.Contents (Elt F) arg22.view.ty) (f_arg23 : BufTy.Contents (Elt F) arg23.view.ty),
      Trip_k0_t1 (F := F) c arg6 arg7 arg8 arg10 arg16 arg17 arg18 arg19 arg20 arg21 arg22 arg23 X_arg6 X_arg7 X_arg8 X_arg10 X_arg16 X_arg17 X_arg18 X_arg19 X_arg20 f_arg21 f_arg22 f_arg23
      ⊢ wp frame (wpE (defs₀ (F := F)) 𝒱 (c : Thread nD τ) bd) E (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 k acc)
          (fun yld => iprop(⌜yld = R_k0_t1 acc f_arg21 f_arg22 f_arg23⌝ ∗ Trip_k0_t1 (F := F) c arg6 arg7 arg8 arg10 arg16 arg17 arg18 arg19 arg20 arg21 arg22 arg23 X_arg6 X_arg7 X_arg8 X_arg10 X_arg16 X_arg17 X_arg18 X_arg19 X_arg20 (arg21.view.writes (Elt F) f_arg21 (L_arg21 acc f_arg21 f_arg22 f_arg23)) (arg22.view.writes (Elt F) f_arg22 (L_arg22 acc f_arg21 f_arg22 f_arg23)) (arg23.view.writes (Elt F) f_arg23 (L_arg23 acc f_arg21 f_arg22 f_arg23)))) } := by
  refine ⟨?_, ?_, ?_, ?_, fun E acc f_arg21 f_arg22 f_arg23 => ?run⟩
  case run =>
    unfold k0_t1_body
    iintro ⟨HR_arg6, HR_arg7, HR_arg8, HR_arg10, HR_arg16, HR_arg17, HR_arg18, HR_arg19, HR_arg20, HW_arg21, HW_arg22, HW_arg23⟩
    sl_exec
    sl_step
    sl_close

/-- The (trivial) value one outer trip yields. -/
abbrev tripR_k0_t1 (𝒱 : Variants) (c : Dev nD) (bd : Option 𝒱.V) (i : grid0.Coords) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (v9 : F .f32) (X_arg6 : BufTy.Contents (Elt F) arg6.view.ty) (X_arg7 : BufTy.Contents (Elt F) arg7.view.ty) (X_arg8 : BufTy.Contents (Elt F) arg8.view.ty) (X_arg10 : BufTy.Contents (Elt F) arg10.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (k : Fin k0_t1_loop.trips) (acc : Unit) (f_arg21 : BufTy.Contents (Elt F) arg21.view.ty) (f_arg22 : BufTy.Contents (Elt F) arg22.view.ty) (f_arg23 : BufTy.Contents (Elt F) arg23.view.ty) : Unit :=
  (trip_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 k).1 acc f_arg21 f_arg22 f_arg23

/-- The pieces one outer trip writes into the three accumulators. -/
abbrev tripL_k0_t1 (𝒱 : Variants) (c : Dev nD) (bd : Option 𝒱.V) (i : grid0.Coords) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (v9 : F .f32) (X_arg6 : BufTy.Contents (Elt F) arg6.view.ty) (X_arg7 : BufTy.Contents (Elt F) arg7.view.ty) (X_arg8 : BufTy.Contents (Elt F) arg8.view.ty) (X_arg10 : BufTy.Contents (Elt F) arg10.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (k : Fin k0_t1_loop.trips) (acc : Unit) (f_arg21 : BufTy.Contents (Elt F) arg21.view.ty) (f_arg22 : BufTy.Contents (Elt F) arg22.view.ty) (f_arg23 : BufTy.Contents (Elt F) arg23.view.ty) : List (View.Piece (Elt F) S2048x96 .f32) × List (View.Piece (Elt F) S2048x96 .f32) × List (View.Piece (Elt F) S2048x96 .f32) :=
  ((trip_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 k).2.1 acc f_arg21 f_arg22 f_arg23, (trip_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 k).2.2.1 acc f_arg21 f_arg22 f_arg23, (trip_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 k).2.2.2.1 acc f_arg21 f_arg22 f_arg23)

/-- One trip's contribution to the recursion below. -/
@[irreducible] def st_k0_t1Step (𝒱 : Variants) (c : Dev nD) (bd : Option 𝒱.V) (i : grid0.Coords) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (v9 : F .f32) (X_arg6 : BufTy.Contents (Elt F) arg6.view.ty) (X_arg7 : BufTy.Contents (Elt F) arg7.view.ty) (X_arg8 : BufTy.Contents (Elt F) arg8.view.ty) (X_arg10 : BufTy.Contents (Elt F) arg10.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (G_arg21 : BufTy.Contents (Elt F) arg21.view.ty) (G_arg22 : BufTy.Contents (Elt F) arg22.view.ty) (G_arg23 : BufTy.Contents (Elt F) arg23.view.ty) (init : Unit) (k : ℕ) (prev : Unit × List (View.Piece (Elt F) S2048x96 .f32) × List (View.Piece (Elt F) S2048x96 .f32) × List (View.Piece (Elt F) S2048x96 .f32)) : Unit × List (View.Piece (Elt F) S2048x96 .f32) × List (View.Piece (Elt F) S2048x96 .f32) × List (View.Piece (Elt F) S2048x96 .f32) :=
  if h : k < k0_t1_loop.trips then
    (tripR_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 ⟨k, h⟩ prev.1 (arg21.view.writes (Elt F) G_arg21 prev.2.1) (arg22.view.writes (Elt F) G_arg22 prev.2.2.1) (arg23.view.writes (Elt F) G_arg23 prev.2.2.2), (tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 ⟨k, h⟩ prev.1 (arg21.view.writes (Elt F) G_arg21 prev.2.1) (arg22.view.writes (Elt F) G_arg22 prev.2.2.1) (arg23.view.writes (Elt F) G_arg23 prev.2.2.2)).1 ++ prev.2.1, (tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 ⟨k, h⟩ prev.1 (arg21.view.writes (Elt F) G_arg21 prev.2.1) (arg22.view.writes (Elt F) G_arg22 prev.2.2.1) (arg23.view.writes (Elt F) G_arg23 prev.2.2.2)).2.1 ++ prev.2.2.1, (tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 ⟨k, h⟩ prev.1 (arg21.view.writes (Elt F) G_arg21 prev.2.1) (arg22.view.writes (Elt F) G_arg22 prev.2.2.1) (arg23.view.writes (Elt F) G_arg23 prev.2.2.2)).2.2 ++ prev.2.2.2)
  else prev

/-- The pieces written by the outer trips before `k`, last first, over the contents `G_·` found at loop entry. -/
def st_k0_t1 (𝒱 : Variants) (c : Dev nD) (bd : Option 𝒱.V) (i : grid0.Coords) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (v9 : F .f32) (X_arg6 : BufTy.Contents (Elt F) arg6.view.ty) (X_arg7 : BufTy.Contents (Elt F) arg7.view.ty) (X_arg8 : BufTy.Contents (Elt F) arg8.view.ty) (X_arg10 : BufTy.Contents (Elt F) arg10.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (G_arg21 : BufTy.Contents (Elt F) arg21.view.ty) (G_arg22 : BufTy.Contents (Elt F) arg22.view.ty) (G_arg23 : BufTy.Contents (Elt F) arg23.view.ty) (init : Unit) : ℕ → Unit × List (View.Piece (Elt F) S2048x96 .f32) × List (View.Piece (Elt F) S2048x96 .f32) × List (View.Piece (Elt F) S2048x96 .f32)
  | 0 => (init, [], [], [])
  | k + 1 => st_k0_t1Step 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k (st_k0_t1 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k)

/-- The recursion one trip further. -/
theorem st_k0_t1_succ (𝒱 : Variants) (c : Dev nD) (bd : Option 𝒱.V) (i : grid0.Coords) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (v9 : F .f32) (X_arg6 : BufTy.Contents (Elt F) arg6.view.ty) (X_arg7 : BufTy.Contents (Elt F) arg7.view.ty) (X_arg8 : BufTy.Contents (Elt F) arg8.view.ty) (X_arg10 : BufTy.Contents (Elt F) arg10.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (G_arg21 : BufTy.Contents (Elt F) arg21.view.ty) (G_arg22 : BufTy.Contents (Elt F) arg22.view.ty) (G_arg23 : BufTy.Contents (Elt F) arg23.view.ty) (init : Unit) (k : Fin k0_t1_loop.trips) :
    st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init (k.val + 1)
      = ((tripR_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 k (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k.val).1 (arg21.view.writes (Elt F) G_arg21 (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k.val).2.1) (arg22.view.writes (Elt F) G_arg22 (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k.val).2.2.1) (arg23.view.writes (Elt F) G_arg23 (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k.val).2.2.2)), (tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 k (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k.val).1 (arg21.view.writes (Elt F) G_arg21 (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k.val).2.1) (arg22.view.writes (Elt F) G_arg22 (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k.val).2.2.1) (arg23.view.writes (Elt F) G_arg23 (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k.val).2.2.2)).1 ++ (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k.val).2.1, (tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 k (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k.val).1 (arg21.view.writes (Elt F) G_arg21 (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k.val).2.1) (arg22.view.writes (Elt F) G_arg22 (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k.val).2.2.1) (arg23.view.writes (Elt F) G_arg23 (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k.val).2.2.2)).2.1 ++ (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k.val).2.2.1, (tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 k (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k.val).1 (arg21.view.writes (Elt F) G_arg21 (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k.val).2.1) (arg22.view.writes (Elt F) G_arg22 (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k.val).2.2.1) (arg23.view.writes (Elt F) G_arg23 (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k.val).2.2.2)).2.2 ++ (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k.val).2.2.2) := by
  rw [st_k0_t1.eq_2]; unfold st_k0_t1Step; exact dif_pos k.isLt

/-- The carried value before the first trip. -/
theorem st_k0_t1_zero (𝒱 : Variants) (c : Dev nD) (bd : Option 𝒱.V) (i : grid0.Coords) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (v9 : F .f32) (X_arg6 : BufTy.Contents (Elt F) arg6.view.ty) (X_arg7 : BufTy.Contents (Elt F) arg7.view.ty) (X_arg8 : BufTy.Contents (Elt F) arg8.view.ty) (X_arg10 : BufTy.Contents (Elt F) arg10.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (G_arg21 : BufTy.Contents (Elt F) arg21.view.ty) (G_arg22 : BufTy.Contents (Elt F) arg22.view.ty) (G_arg23 : BufTy.Contents (Elt F) arg23.view.ty) (init : Unit) :
    (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init 0).1 = init := rfl

/-- The invariant of the outer loop: the buffers read at `X_·`, the accumulators at the pieces of the trips before `k`. -/
abbrev inv_k0_t1 (𝒱 : Variants) (c : Dev nD) (bd : Option 𝒱.V) (i : grid0.Coords) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (v9 : F .f32) (X_arg6 : BufTy.Contents (Elt F) arg6.view.ty) (X_arg7 : BufTy.Contents (Elt F) arg7.view.ty) (X_arg8 : BufTy.Contents (Elt F) arg8.view.ty) (X_arg10 : BufTy.Contents (Elt F) arg10.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (G_arg21 : BufTy.Contents (Elt F) arg21.view.ty) (G_arg22 : BufTy.Contents (Elt F) arg22.view.ty) (G_arg23 : BufTy.Contents (Elt F) arg23.view.ty) (init : Unit) (k : ℕ) (acc : Unit) : sProp 𝕄G :=
  iprop((arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg10.view.loc (c : Thread nD τ) ↦[arg10.view.set]{fullShare} X_arg10) ∗ (arg16.view.loc (c : Thread nD τ) ↦[arg16.view.set]{fullShare} X_arg16) ∗ (arg17.view.loc (c : Thread nD τ) ↦[arg17.view.set]{fullShare} X_arg17) ∗ (arg18.view.loc (c : Thread nD τ) ↦[arg18.view.set]{fullShare} X_arg18) ∗ (arg19.view.loc (c : Thread nD τ) ↦[arg19.view.set]{fullShare} X_arg19) ∗ (arg20.view.loc (c : Thread nD τ) ↦[arg20.view.set]{fullShare} X_arg20) ∗ (∃ f, (arg21.view.loc (c : Thread nD τ) ↦[arg21.view.set]{fullShare} f) ∗ ⌜f = arg21.view.writes (Elt F) G_arg21 (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k).2.1⌝) ∗ (∃ f, (arg22.view.loc (c : Thread nD τ) ↦[arg22.view.set]{fullShare} f) ∗ ⌜f = arg22.view.writes (Elt F) G_arg22 (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k).2.2.1⌝) ∗ (∃ f, (arg23.view.loc (c : Thread nD τ) ↦[arg23.view.set]{fullShare} f) ∗ ⌜f = arg23.view.writes (Elt F) G_arg23 (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k).2.2.2⌝) ∗ ⌜acc = (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k).1⌝)

set_option warn.classDefReducibility false in
/-- The outer loop by its invariant. -/
@[sl_loop] def loopInv_k0_t1 (𝒱 : Variants) (c : Dev nD) (bd : Option 𝒱.V) (E : Set ℕ) (i : grid0.Coords) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (v9 : F .f32) (X_arg6 : BufTy.Contents (Elt F) arg6.view.ty) (X_arg7 : BufTy.Contents (Elt F) arg7.view.ty) (X_arg8 : BufTy.Contents (Elt F) arg8.view.ty) (X_arg10 : BufTy.Contents (Elt F) arg10.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (G_arg21 : BufTy.Contents (Elt F) arg21.view.ty) (G_arg22 : BufTy.Contents (Elt F) arg22.view.ty) (G_arg23 : BufTy.Contents (Elt F) arg23.view.ty) (init : Unit) :
    LoopInvTy_k0_t1 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 where
  inv := inv_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init
  step k acc := by
    iintro ⟨HR_arg6, HR_arg7, HR_arg8, HR_arg10, HR_arg16, HR_arg17, HR_arg18, HR_arg19, HR_arg20, ⟨%f_arg21, HW_arg21, %h_arg21⟩, ⟨%f_arg22, HW_arg22, %h_arg22⟩, ⟨%f_arg23, HW_arg23, %h_arg23⟩, %h_acc⟩
    subst h_acc
    iapply (wp_wand_r Idealize.ShloMosaic.frame (wpE (defs₀ (F := F)) 𝒱 (c : Thread nD τ) bd) E)
    isplitl [HR_arg6 HR_arg7 HR_arg8 HR_arg10 HR_arg16 HR_arg17 HR_arg18 HR_arg19 HR_arg20 HW_arg21 HW_arg22 HW_arg23]
    · iapply ((trip_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 k).2.2.2.2 E (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k).1 f_arg21 f_arg22 f_arg23)
      isplitl [HR_arg6]; · iexact HR_arg6
      isplitl [HR_arg7]; · iexact HR_arg7
      isplitl [HR_arg8]; · iexact HR_arg8
      isplitl [HR_arg10]; · iexact HR_arg10
      isplitl [HR_arg16]; · iexact HR_arg16
      isplitl [HR_arg17]; · iexact HR_arg17
      isplitl [HR_arg18]; · iexact HR_arg18
      isplitl [HR_arg19]; · iexact HR_arg19
      isplitl [HR_arg20]; · iexact HR_arg20
      isplitl [HW_arg21]; · iexact HW_arg21
      isplitl [HW_arg22]; · iexact HW_arg22
      iexact HW_arg23
    · iintro %yld ⟨%h_res, HR_arg6, HR_arg7, HR_arg8, HR_arg10, HR_arg16, HR_arg17, HR_arg18, HR_arg19, HR_arg20, HW_arg21, HW_arg22, HW_arg23⟩
      isplitl [HR_arg6]; · iexact HR_arg6
      isplitl [HR_arg7]; · iexact HR_arg7
      isplitl [HR_arg8]; · iexact HR_arg8
      isplitl [HR_arg10]; · iexact HR_arg10
      isplitl [HR_arg16]; · iexact HR_arg16
      isplitl [HR_arg17]; · iexact HR_arg17
      isplitl [HR_arg18]; · iexact HR_arg18
      isplitl [HR_arg19]; · iexact HR_arg19
      isplitl [HR_arg20]; · iexact HR_arg20
      simp only [st_k0_t1_succ]
      isplitl [HW_arg21]
      · iexists _; isplitl [HW_arg21]; · iexact HW_arg21
        ipureintro; rw [h_arg21, h_arg22, h_arg23, ← View.writes_append]
      isplitl [HW_arg22]
      · iexists _; isplitl [HW_arg22]; · iexact HW_arg22
        ipureintro; rw [h_arg21, h_arg22, h_arg23, ← View.writes_append]
      isplitl [HW_arg23]
      · iexists _; isplitl [HW_arg23]; · iexact HW_arg23
        ipureintro; rw [h_arg21, h_arg22, h_arg23, ← View.writes_append]
      ipureintro; trivial

end Cert.Kernel.Gen

end
-- ==== Proof.BodyK.lean ====
/- One grid point of the kernel, run once per case of its two conditionals on the head index `g`: the first head of the
   group (the two carried accumulators are zeroed), the last (they are written out), or one between. -/
module

public import proofs.«01_k».proof.Proof.LoopK
public import proofs.«01_k».proof.Proof.Gen.Kernel.Frame
public import Idealize.ShloMosaic.Lib.WordCmp

@[expose] public section

set_option maxRecDepth 16384
set_option maxHeartbeats 4000000

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra the triples are stated at. -/
local notation "𝕄G" => MT nD τ sig Unit (Elt F) ℕ (UR sig nD τ) ℕ

/-- The condition of the kernel's first conditional (`g = 0`), as the kernel computes it. -/
def condZ (i : grid0.Coords) : BitVec 1 :=
  Scalar.cmpi .ne (Scalar.extui (Scalar.cmpi .eq (BitVec.ofNat 32 (i 2).val) 0#32)) 0#32

/-- What one grid point holds: the ten operand blocks at the contents `X_·`, the three result blocks and the two carried
   accumulators at `f_·`, and the six buffers it overwrites before reading at anything. -/
abbrev PointPre (c : Dev nD) (arg3 : Memref sig .tc .smem S32 .f32) (arg4 : Memref sig .tc .smem S4 .f32) (arg5 : Memref sig .tc .smem S4 .f32) (arg6 : Memref sig .tc .vmem S1x1x2048x96 .fp8e4m3) (arg7 : Memref sig .tc .vmem S1x1x2048x96 .fp8e4m3) (arg8 : Memref sig .tc .vmem S1x1x2048x96 .fp8e4m3) (arg9 : Memref sig .tc .vmem S1x1x2048x96 .bf16) (arg10 : Memref sig .tc .vmem S1x1x2048x96 .fp8e5m2) (arg11 : Memref sig .tc .vmem S1x1x1x2048 .f32) (arg12 : Memref sig .tc .vmem S1x1x1x2048 .f32) (arg13 : Memref sig .tc .vmem S1x1x2048x96 .bf16) (arg14 : Memref sig .tc .vmem S1x1x2048x96 .bf16) (arg15 : Memref sig .tc .vmem S1x1x2048x96 .bf16) (arg16 : Memref sig .tc .vmem S2048x96 .bf16) (arg17 : Memref sig .tc .vmem S2048x96 .bf16) (arg18 : Memref sig .tc .vmem S2048x128 .f32) (arg19 : Memref sig .tc .vmem S2048x128 .f32) (arg20 : Memref sig .tc .vmem S2048x128 .f32) (arg21 : Memref sig .tc .vmem S2048x96 .f32) (arg22 : Memref sig .tc .vmem S2048x96 .f32) (arg23 : Memref sig .tc .vmem S2048x96 .f32) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg22 : BufTy.Contents (Elt F) arg22.view.ty) (f_arg23 : BufTy.Contents (Elt F) arg23.view.ty) : sProp 𝕄G :=
  iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} f_arg13) ∗ (arg14.view.loc (c : Thread nD τ) ↦[arg14.view.set]{fullShare} f_arg14) ∗ (arg15.view.loc (c : Thread nD τ) ↦[arg15.view.set]{fullShare} f_arg15) ∗ (arg22.view.loc (c : Thread nD τ) ↦[arg22.view.set]{fullShare} f_arg22) ∗ (arg23.view.loc (c : Thread nD τ) ↦[arg23.view.set]{fullShare} f_arg23) ∗ (∃ f : BufTy.Contents (Elt F) arg16.view.ty, (arg16.view.loc (c : Thread nD τ) ↦[arg16.view.set]{fullShare} f)) ∗ (∃ f : BufTy.Contents (Elt F) arg17.view.ty, (arg17.view.loc (c : Thread nD τ) ↦[arg17.view.set]{fullShare} f)) ∗ (∃ f : BufTy.Contents (Elt F) arg18.view.ty, (arg18.view.loc (c : Thread nD τ) ↦[arg18.view.set]{fullShare} f)) ∗ (∃ f : BufTy.Contents (Elt F) arg19.view.ty, (arg19.view.loc (c : Thread nD τ) ↦[arg19.view.set]{fullShare} f)) ∗ (∃ f : BufTy.Contents (Elt F) arg20.view.ty, (arg20.view.loc (c : Thread nD τ) ↦[arg20.view.set]{fullShare} f)) ∗ (∃ f : BufTy.Contents (Elt F) arg21.view.ty, (arg21.view.loc (c : Thread nD τ) ↦[arg21.view.set]{fullShare} f)))

/-- One grid point at the first head of a group: what it leaves in the result blocks and the carried accumulators is found by the run. -/
@[irreducible] def pointA (𝒱 : Variants) (c : Dev nD) (bd : Option 𝒱.V) (i : grid0.Coords) (h1 : condZ i = 1#1) (h2 : ¬ k0_cond2 i = 1#1) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) :
    Σ' (R_arg13 : BufTy.Contents (Elt F) arg13.view.ty → BufTy.Contents (Elt F) arg14.view.ty → BufTy.Contents (Elt F) arg15.view.ty → BufTy.Contents (Elt F) arg22.view.ty → BufTy.Contents (Elt F) arg23.view.ty → BufTy.Contents (Elt F) arg13.view.ty) (R_arg14 : BufTy.Contents (Elt F) arg13.view.ty → BufTy.Contents (Elt F) arg14.view.ty → BufTy.Contents (Elt F) arg15.view.ty → BufTy.Contents (Elt F) arg22.view.ty → BufTy.Contents (Elt F) arg23.view.ty → BufTy.Contents (Elt F) arg14.view.ty) (R_arg15 : BufTy.Contents (Elt F) arg13.view.ty → BufTy.Contents (Elt F) arg14.view.ty → BufTy.Contents (Elt F) arg15.view.ty → BufTy.Contents (Elt F) arg22.view.ty → BufTy.Contents (Elt F) arg23.view.ty → BufTy.Contents (Elt F) arg15.view.ty) (R_arg22 : BufTy.Contents (Elt F) arg13.view.ty → BufTy.Contents (Elt F) arg14.view.ty → BufTy.Contents (Elt F) arg15.view.ty → BufTy.Contents (Elt F) arg22.view.ty → BufTy.Contents (Elt F) arg23.view.ty → BufTy.Contents (Elt F) arg22.view.ty), { R_arg23 : BufTy.Contents (Elt F) arg13.view.ty → BufTy.Contents (Elt F) arg14.view.ty → BufTy.Contents (Elt F) arg15.view.ty → BufTy.Contents (Elt F) arg22.view.ty → BufTy.Contents (Elt F) arg23.view.ty → BufTy.Contents (Elt F) arg23.view.ty // ∀ (E : Set ℕ) (f_arg13 : BufTy.Contents (Elt F) arg13.view.ty) (f_arg14 : BufTy.Contents (Elt F) arg14.view.ty) (f_arg15 : BufTy.Contents (Elt F) arg15.view.ty) (f_arg22 : BufTy.Contents (Elt F) arg22.view.ty) (f_arg23 : BufTy.Contents (Elt F) arg23.view.ty),
      PointPre (F := F) c arg3 arg4 arg5 arg6 arg7 arg8 arg9 arg10 arg11 arg12 arg13 arg14 arg15 arg16 arg17 arg18 arg19 arg20 arg21 arg22 arg23 X_arg3 X_arg4 X_arg5 X_arg6 X_arg7 X_arg8 X_arg9 X_arg10 X_arg11 X_arg12 f_arg13 f_arg14 f_arg15 f_arg22 f_arg23
      ⊢ wp frame (wpE (defs₀ (F := F)) 𝒱 (c : Thread nD τ) bd) E (cc0_attn_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23)
          (fun _ => PointPre (F := F) c arg3 arg4 arg5 arg6 arg7 arg8 arg9 arg10 arg11 arg12 arg13 arg14 arg15 arg16 arg17 arg18 arg19 arg20 arg21 arg22 arg23 X_arg3 X_arg4 X_arg5 X_arg6 X_arg7 X_arg8 X_arg9 X_arg10 X_arg11 X_arg12 (R_arg13 f_arg13 f_arg14 f_arg15 f_arg22 f_arg23) (R_arg14 f_arg13 f_arg14 f_arg15 f_arg22 f_arg23) (R_arg15 f_arg13 f_arg14 f_arg15 f_arg22 f_arg23) (R_arg22 f_arg13 f_arg14 f_arg15 f_arg22 f_arg23) (R_arg23 f_arg13 f_arg14 f_arg15 f_arg22 f_arg23)) } := by
  refine ⟨?_, ?_, ?_, ?_, ?_, fun E f_arg13 f_arg14 f_arg15 f_arg22 f_arg23 => ?run⟩
  case run =>
    simp only [cc0_attn_bwd_eq_skeleton]; unfold cc0_attn_bwd_skel
    unfold PointPre
    iintro ⟨HR_arg3, HR_arg4, HR_arg5, HR_arg6, HR_arg7, HR_arg8, HR_arg9, HR_arg10, HR_arg11, HR_arg12, HW_arg13, HW_arg14, HW_arg15, HW_arg22, HW_arg23, ⟨%g_arg16, HS_arg16⟩, ⟨%g_arg17, HS_arg17⟩, ⟨%g_arg18, HS_arg18⟩, ⟨%g_arg19, HS_arg19⟩, ⟨%g_arg20, HS_arg20⟩, ⟨%g_arg21, HS_arg21⟩⟩
    sl_exec (disch := first | sl_exact h1 | sl_exact h2)
    sl_step
    sl_close

/-- One grid point at a head between the first and the last: what it leaves in the result blocks and the carried accumulators is found by the run. -/
@[irreducible] def pointB (𝒱 : Variants) (c : Dev nD) (bd : Option 𝒱.V) (i : grid0.Coords) (h1 : ¬ condZ i = 1#1) (h2 : ¬ k0_cond2 i = 1#1) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) :
    Σ' (R_arg13 : BufTy.Contents (Elt F) arg13.view.ty → BufTy.Contents (Elt F) arg14.view.ty → BufTy.Contents (Elt F) arg15.view.ty → BufTy.Contents (Elt F) arg22.view.ty → BufTy.Contents (Elt F) arg23.view.ty → BufTy.Contents (Elt F) arg13.view.ty) (R_arg14 : BufTy.Contents (Elt F) arg13.view.ty → BufTy.Contents (Elt F) arg14.view.ty → BufTy.Contents (Elt F) arg15.view.ty → BufTy.Contents (Elt F) arg22.view.ty → BufTy.Contents (Elt F) arg23.view.ty → BufTy.Contents (Elt F) arg14.view.ty) (R_arg15 : BufTy.Contents (Elt F) arg13.view.ty → BufTy.Contents (Elt F) arg14.view.ty → BufTy.Contents (Elt F) arg15.view.ty → BufTy.Contents (Elt F) arg22.view.ty → BufTy.Contents (Elt F) arg23.view.ty → BufTy.Contents (Elt F) arg15.view.ty) (R_arg22 : BufTy.Contents (Elt F) arg13.view.ty → BufTy.Contents (Elt F) arg14.view.ty → BufTy.Contents (Elt F) arg15.view.ty → BufTy.Contents (Elt F) arg22.view.ty → BufTy.Contents (Elt F) arg23.view.ty → BufTy.Contents (Elt F) arg22.view.ty), { R_arg23 : BufTy.Contents (Elt F) arg13.view.ty → BufTy.Contents (Elt F) arg14.view.ty → BufTy.Contents (Elt F) arg15.view.ty → BufTy.Contents (Elt F) arg22.view.ty → BufTy.Contents (Elt F) arg23.view.ty → BufTy.Contents (Elt F) arg23.view.ty // ∀ (E : Set ℕ) (f_arg13 : BufTy.Contents (Elt F) arg13.view.ty) (f_arg14 : BufTy.Contents (Elt F) arg14.view.ty) (f_arg15 : BufTy.Contents (Elt F) arg15.view.ty) (f_arg22 : BufTy.Contents (Elt F) arg22.view.ty) (f_arg23 : BufTy.Contents (Elt F) arg23.view.ty),
      PointPre (F := F) c arg3 arg4 arg5 arg6 arg7 arg8 arg9 arg10 arg11 arg12 arg13 arg14 arg15 arg16 arg17 arg18 arg19 arg20 arg21 arg22 arg23 X_arg3 X_arg4 X_arg5 X_arg6 X_arg7 X_arg8 X_arg9 X_arg10 X_arg11 X_arg12 f_arg13 f_arg14 f_arg15 f_arg22 f_arg23
      ⊢ wp frame (wpE (defs₀ (F := F)) 𝒱 (c : Thread nD τ) bd) E (cc0_attn_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23)
          (fun _ => PointPre (F := F) c arg3 arg4 arg5 arg6 arg7 arg8 arg9 arg10 arg11 arg12 arg13 arg14 arg15 arg16 arg17 arg18 arg19 arg20 arg21 arg22 arg23 X_arg3 X_arg4 X_arg5 X_arg6 X_arg7 X_arg8 X_arg9 X_arg10 X_arg11 X_arg12 (R_arg13 f_arg13 f_arg14 f_arg15 f_arg22 f_arg23) (R_arg14 f_arg13 f_arg14 f_arg15 f_arg22 f_arg23) (R_arg15 f_arg13 f_arg14 f_arg15 f_arg22 f_arg23) (R_arg22 f_arg13 f_arg14 f_arg15 f_arg22 f_arg23) (R_arg23 f_arg13 f_arg14 f_arg15 f_arg22 f_arg23)) } := by
  refine ⟨?_, ?_, ?_, ?_, ?_, fun E f_arg13 f_arg14 f_arg15 f_arg22 f_arg23 => ?run⟩
  case run =>
    simp only [cc0_attn_bwd_eq_skeleton]; unfold cc0_attn_bwd_skel
    unfold PointPre
    iintro ⟨HR_arg3, HR_arg4, HR_arg5, HR_arg6, HR_arg7, HR_arg8, HR_arg9, HR_arg10, HR_arg11, HR_arg12, HW_arg13, HW_arg14, HW_arg15, HW_arg22, HW_arg23, ⟨%g_arg16, HS_arg16⟩, ⟨%g_arg17, HS_arg17⟩, ⟨%g_arg18, HS_arg18⟩, ⟨%g_arg19, HS_arg19⟩, ⟨%g_arg20, HS_arg20⟩, ⟨%g_arg21, HS_arg21⟩⟩
    sl_exec (disch := first | sl_exact h1 | sl_exact h2)
    sl_step
    sl_close

/-- One grid point at the last head of a group: what it leaves in the result blocks and the carried accumulators is found by the run. -/
@[irreducible] def pointC (𝒱 : Variants) (c : Dev nD) (bd : Option 𝒱.V) (i : grid0.Coords) (h1 : ¬ condZ i = 1#1) (h2 : k0_cond2 i = 1#1) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) :
    Σ' (R_arg13 : BufTy.Contents (Elt F) arg13.view.ty → BufTy.Contents (Elt F) arg14.view.ty → BufTy.Contents (Elt F) arg15.view.ty → BufTy.Contents (Elt F) arg22.view.ty → BufTy.Contents (Elt F) arg23.view.ty → BufTy.Contents (Elt F) arg13.view.ty) (R_arg14 : BufTy.Contents (Elt F) arg13.view.ty → BufTy.Contents (Elt F) arg14.view.ty → BufTy.Contents (Elt F) arg15.view.ty → BufTy.Contents (Elt F) arg22.view.ty → BufTy.Contents (Elt F) arg23.view.ty → BufTy.Contents (Elt F) arg14.view.ty) (R_arg15 : BufTy.Contents (Elt F) arg13.view.ty → BufTy.Contents (Elt F) arg14.view.ty → BufTy.Contents (Elt F) arg15.view.ty → BufTy.Contents (Elt F) arg22.view.ty → BufTy.Contents (Elt F) arg23.view.ty → BufTy.Contents (Elt F) arg15.view.ty) (R_arg22 : BufTy.Contents (Elt F) arg13.view.ty → BufTy.Contents (Elt F) arg14.view.ty → BufTy.Contents (Elt F) arg15.view.ty → BufTy.Contents (Elt F) arg22.view.ty → BufTy.Contents (Elt F) arg23.view.ty → BufTy.Contents (Elt F) arg22.view.ty), { R_arg23 : BufTy.Contents (Elt F) arg13.view.ty → BufTy.Contents (Elt F) arg14.view.ty → BufTy.Contents (Elt F) arg15.view.ty → BufTy.Contents (Elt F) arg22.view.ty → BufTy.Contents (Elt F) arg23.view.ty → BufTy.Contents (Elt F) arg23.view.ty // ∀ (E : Set ℕ) (f_arg13 : BufTy.Contents (Elt F) arg13.view.ty) (f_arg14 : BufTy.Contents (Elt F) arg14.view.ty) (f_arg15 : BufTy.Contents (Elt F) arg15.view.ty) (f_arg22 : BufTy.Contents (Elt F) arg22.view.ty) (f_arg23 : BufTy.Contents (Elt F) arg23.view.ty),
      PointPre (F := F) c arg3 arg4 arg5 arg6 arg7 arg8 arg9 arg10 arg11 arg12 arg13 arg14 arg15 arg16 arg17 arg18 arg19 arg20 arg21 arg22 arg23 X_arg3 X_arg4 X_arg5 X_arg6 X_arg7 X_arg8 X_arg9 X_arg10 X_arg11 X_arg12 f_arg13 f_arg14 f_arg15 f_arg22 f_arg23
      ⊢ wp frame (wpE (defs₀ (F := F)) 𝒱 (c : Thread nD τ) bd) E (cc0_attn_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23)
          (fun _ => PointPre (F := F) c arg3 arg4 arg5 arg6 arg7 arg8 arg9 arg10 arg11 arg12 arg13 arg14 arg15 arg16 arg17 arg18 arg19 arg20 arg21 arg22 arg23 X_arg3 X_arg4 X_arg5 X_arg6 X_arg7 X_arg8 X_arg9 X_arg10 X_arg11 X_arg12 (R_arg13 f_arg13 f_arg14 f_arg15 f_arg22 f_arg23) (R_arg14 f_arg13 f_arg14 f_arg15 f_arg22 f_arg23) (R_arg15 f_arg13 f_arg14 f_arg15 f_arg22 f_arg23) (R_arg22 f_arg13 f_arg14 f_arg15 f_arg22 f_arg23) (R_arg23 f_arg13 f_arg14 f_arg15 f_arg22 f_arg23)) } := by
  refine ⟨?_, ?_, ?_, ?_, ?_, fun E f_arg13 f_arg14 f_arg15 f_arg22 f_arg23 => ?run⟩
  case run =>
    simp only [cc0_attn_bwd_eq_skeleton]; unfold cc0_attn_bwd_skel
    unfold PointPre
    iintro ⟨HR_arg3, HR_arg4, HR_arg5, HR_arg6, HR_arg7, HR_arg8, HR_arg9, HR_arg10, HR_arg11, HR_arg12, HW_arg13, HW_arg14, HW_arg15, HW_arg22, HW_arg23, ⟨%g_arg16, HS_arg16⟩, ⟨%g_arg17, HS_arg17⟩, ⟨%g_arg18, HS_arg18⟩, ⟨%g_arg19, HS_arg19⟩, ⟨%g_arg20, HS_arg20⟩, ⟨%g_arg21, HS_arg21⟩⟩
    sl_exec (disch := first | sl_exact h1 | sl_exact h2)
    sl_step
    sl_close

end Cert.Kernel.Gen

end
-- ==== Proof.StepK.lean ====
/- What the kernel's two loops do to the three accumulators, as pure functions of the blocks they read: one tile of the
   diagonal, one tile below it, the loops of such tiles, and the proof that the pieces the runs write read back as these. -/
module

public import proofs.«01_k».proof.Proof.LoopK
public import Idealize.ShloMosaic.Lib.VecWindow

@[expose] public section

set_option maxRecDepth 16384
set_option maxHeartbeats 4000000

noncomputable section

namespace Cert.Kernel.Gen

open Idealize.ShloMosaic Idealize.ShloMosaic.TcCoe Idealize.ShloMosaic.Tactic
open Idealize.SL Idealize.SL.RA Idealize.SL.BI
open VecWindow (window put)

variable {F : FTy → Type} [FloatOps F]

/-- What the loops read: the score scale, the query, key, value blocks and the gradient block, the two scaled operands, and
   the spread log-sum-exp, row term and gradient scale. -/
structure Ops (F : FTy → Type) where
  /-- the score scale -/
  sc : F .f32
  /-- queries -/
  q : Vec F S1x1x2048x96 .fp8e4m3
  /-- keys -/
  k : Vec F S1x1x2048x96 .fp8e4m3
  /-- values -/
  v : Vec F S1x1x2048x96 .fp8e4m3
  /-- the incoming gradient -/
  g : Vec F S1x1x2048x96 .fp8e5m2
  /-- scaled queries -/
  qw : Vec F S2048x96 .bf16
  /-- scaled gradient -/
  dw : Vec F S2048x96 .bf16
  /-- log-sum-exp -/
  ls : Vec F S2048x128 .f32
  /-- row term -/
  de : Vec F S2048x128 .f32
  /-- gradient scale -/
  ds : Vec F S2048x128 .f32

/-- The three accumulators. -/
@[ext] structure Acc (F : FTy → Type) where
  /-- query gradient -/
  a : Vec F S2048x96 .f32
  /-- key gradient -/
  b : Vec F S2048x96 .f32
  /-- value gradient -/
  c : Vec F S2048x96 .f32

/-- One tile below the diagonal: key block `j`, query block `j + 1 + k`. -/
def step2 (o : Ops F) (j : Fin k0_t1_loop.trips) (k : Fin (k0_t2_loop j).trips) (s : Acc F) : Acc F :=
  let q := window o.q (k0_off6 j k) S1x1x512x96.size (k0_off6_inb j k)
  let kk := window o.k (k0_off7 j) S1x1x512x96.size (k0_off7_inb j)
  let ls := window o.ls (k0_off8 j k) S512x128.size (k0_off8_inb j k)
  let ds := k0_pay13 o.sc q kk ls (window o.g (k0_off6 j k) S1x1x512x96.size (k0_off6_inb j k))
    (window o.v (k0_off7 j) S1x1x512x96.size (k0_off7_inb j)) (window o.ds (k0_off8 j k) S512x128.size (k0_off8_inb j k))
    (window o.de (k0_off8 j k) S512x128.size (k0_off8_inb j k))
  ⟨put s.a (k0_off10 j k) S512x96.size (k0_pay5 ds (window s.a (k0_off10 j k) S512x96.size (k0_off10_inb j k)) kk),
   put s.b (k0_off9 j) S512x96.size (k0_pay4 ds (window s.b (k0_off9 j) S512x96.size (k0_off9_inb j))
      (window o.qw (k0_off10 j k) S512x96.size (k0_off10_inb j k))),
   put s.c (k0_off9 j) S512x96.size (k0_pay3 (k0_pay12 o.sc q kk ls) (window s.c (k0_off9 j) S512x96.size (k0_off9_inb j))
      (window o.dw (k0_off10 j k) S512x96.size (k0_off10_inb j k)))⟩

/-- The tile on the diagonal: key block `j`, query block `j`. -/
def step1 (o : Ops F) (j : Fin k0_t1_loop.trips) (s : Acc F) : Acc F :=
  let kk := window o.k (k0_off3 j) S1x1x512x96.size (k0_off3_inb j)
  let p := k0_pay16 o.sc (window o.q (k0_off3 j) S1x1x512x96.size (k0_off3_inb j)) kk (window o.ls (k0_off4 j) S512x128.size (k0_off4_inb j))
  let dp := k0_pay17 (window o.g (k0_off3 j) S1x1x512x96.size (k0_off3_inb j)) (window o.v (k0_off3 j) S1x1x512x96.size (k0_off3_inb j))
    (window o.ds (k0_off4 j) S512x128.size (k0_off4_inb j))
  let de := k0_pay18 (window o.de (k0_off4 j) S512x128.size (k0_off4_inb j))
  ⟨put s.a (k0_off5 j) S512x96.size (k0_pay22 p dp de (window s.a (k0_off5 j) S512x96.size (k0_off5_inb j)) kk),
   put s.b (k0_off5 j) S512x96.size (k0_pay21 p dp de (window s.b (k0_off5 j) S512x96.size (k0_off5_inb j))
      (window o.qw (k0_off5 j) S512x96.size (k0_off5_inb j))),
   put s.c (k0_off5 j) S512x96.size (k0_pay20 p (window s.c (k0_off5 j) S512x96.size (k0_off5_inb j))
      (window o.dw (k0_off5 j) S512x96.size (k0_off5_inb j)))⟩

/-- The first `n` tiles below the diagonal of key block `j`. -/
def loop2 (o : Ops F) (j : Fin k0_t1_loop.trips) (s : Acc F) : ℕ → Acc F
  | 0 => s
  | n + 1 => if h : n < (k0_t2_loop j).trips then step2 o j ⟨n, h⟩ (loop2 o j s n) else loop2 o j s n

theorem loop2_succ (o : Ops F) (j : Fin k0_t1_loop.trips) (s : Acc F) (n : Fin (k0_t2_loop j).trips) :
    loop2 o j s (n.val + 1) = step2 o j n (loop2 o j s n.val) := dif_pos n.isLt

/-- The first `n` key blocks, each its diagonal tile and then every tile below. -/
def loop1 (o : Ops F) (s : Acc F) : ℕ → Acc F
  | 0 => s
  | n + 1 => if h : n < k0_t1_loop.trips then
      loop2 o ⟨n, h⟩ (step1 o ⟨n, h⟩ (loop1 o s n)) (k0_t2_loop ⟨n, h⟩).trips else loop1 o s n

theorem loop1_succ (o : Ops F) (s : Acc F) (n : Fin k0_t1_loop.trips) :
    loop1 o s (n.val + 1) = loop2 o n (step1 o n (loop1 o s n.val)) (k0_t2_loop n).trips := dif_pos n.isLt

/-- The remainder loop never runs. -/
theorem trips3 : ∀ j : Fin k0_t1_loop.trips, (k0_t3_loop j).trips = 0 := by decide +kernel

/-- The same at the words the run spells the trip count with. -/
theorem trips3' (k : Fin k0_t1_loop.trips) :
    Scf.trips (Scalar.addi (Scalar.addi (Scf.iv 0#32 1#32 k.val) 1#32)
        (Scalar.muli (Scalar.divsi (Scalar.subi 4#32 (Scalar.addi (Scf.iv 0#32 1#32 k.val) 1#32)) 1#32) 1#32))
      (Scalar.addi (Scalar.addi (Scf.iv 0#32 1#32 k.val) 1#32) (Scalar.subi 4#32 (Scalar.addi (Scf.iv 0#32 1#32 k.val) 1#32)))
      1#32 = 0 := trips3 k

/-- One trip of the inner loop, read back: the three accumulators after it are `step2` of those before. -/
theorem trip2_read (𝒱 : Variants) (c : Dev nD) (bd : Option 𝒱.V) (i : grid0.Coords) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (v9 : F .f32) (k0_t1 : Fin k0_t1_loop.trips) (arg24 : BitVec 32) (v159 : BitVec 32) (X_arg6 : BufTy.Contents (Elt F) arg6.view.ty) (X_arg7 : BufTy.Contents (Elt F) arg7.view.ty) (X_arg8 : BufTy.Contents (Elt F) arg8.view.ty) (X_arg10 : BufTy.Contents (Elt F) arg10.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (k : Fin (k0_t2_loop k0_t1).trips) (acc : BitVec 32) (f_arg21 : BufTy.Contents (Elt F) arg21.view.ty) (f_arg22 : BufTy.Contents (Elt F) arg22.view.ty) (f_arg23 : BufTy.Contents (Elt F) arg23.view.ty) :
    (⟨arg21.view.read (Elt F) (arg21.view.writes (Elt F) f_arg21 (tripL_k0_t2 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 k0_t1 arg24 v159 X_arg6 X_arg7 X_arg8 X_arg10 X_arg16 X_arg17 X_arg18 X_arg19 X_arg20 k acc f_arg21 f_arg22 f_arg23).1),
      arg22.view.read (Elt F) (arg22.view.writes (Elt F) f_arg22 (tripL_k0_t2 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 k0_t1 arg24 v159 X_arg6 X_arg7 X_arg8 X_arg10 X_arg16 X_arg17 X_arg18 X_arg19 X_arg20 k acc f_arg21 f_arg22 f_arg23).2.1),
      arg23.view.read (Elt F) (arg23.view.writes (Elt F) f_arg23 (tripL_k0_t2 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 k0_t1 arg24 v159 X_arg6 X_arg7 X_arg8 X_arg10 X_arg16 X_arg17 X_arg18 X_arg19 X_arg20 k acc f_arg21 f_arg22 f_arg23).2.2)⟩ : Acc F)
    = step2 (⟨v9, (arg6.view.read (Elt F) X_arg6), (arg7.view.read (Elt F) X_arg7), (arg8.view.read (Elt F) X_arg8), (arg10.view.read (Elt F) X_arg10), (arg16.view.read (Elt F) X_arg16), (arg17.view.read (Elt F) X_arg17), (arg18.view.read (Elt F) X_arg18), (arg19.view.read (Elt F) X_arg19), (arg20.view.read (Elt F) X_arg20)⟩ : Ops F) k0_t1 k ⟨(arg21.view.read (Elt F) f_arg21), (arg22.view.read (Elt F) f_arg22), (arg23.view.read (Elt F) f_arg23)⟩ := by
  unfold tripL_k0_t2 trip_k0_t2
  apply Acc.ext
  · exact View.read_writes_cons_put arg21.view f_arg21 _ _ [] rfl
  · exact View.read_writes_cons_put arg22.view f_arg22 _ _ [] rfl
  · exact View.read_writes_cons_put arg23.view f_arg23 _ _ [] rfl

/-- The inner loop, read back: after `n` trips the accumulators are `loop2` of those at its entry. -/
theorem st2_read (𝒱 : Variants) (c : Dev nD) (bd : Option 𝒱.V) (i : grid0.Coords) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (v9 : F .f32) (k0_t1 : Fin k0_t1_loop.trips) (arg24 : BitVec 32) (v159 : BitVec 32) (X_arg6 : BufTy.Contents (Elt F) arg6.view.ty) (X_arg7 : BufTy.Contents (Elt F) arg7.view.ty) (X_arg8 : BufTy.Contents (Elt F) arg8.view.ty) (X_arg10 : BufTy.Contents (Elt F) arg10.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (G_arg21 : BufTy.Contents (Elt F) arg21.view.ty) (G_arg22 : BufTy.Contents (Elt F) arg22.view.ty) (G_arg23 : BufTy.Contents (Elt F) arg23.view.ty) (init : BitVec 32) (n : ℕ) (hn : n ≤ (k0_t2_loop k0_t1).trips) :
    (⟨arg21.view.read (Elt F) (arg21.view.writes (Elt F) G_arg21 (st_k0_t2 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 k0_t1 arg24 v159 X_arg6 X_arg7 X_arg8 X_arg10 X_arg16 X_arg17 X_arg18 X_arg19 X_arg20 G_arg21 G_arg22 G_arg23 init n).2.1),
      arg22.view.read (Elt F) (arg22.view.writes (Elt F) G_arg22 (st_k0_t2 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 k0_t1 arg24 v159 X_arg6 X_arg7 X_arg8 X_arg10 X_arg16 X_arg17 X_arg18 X_arg19 X_arg20 G_arg21 G_arg22 G_arg23 init n).2.2.1),
      arg23.view.read (Elt F) (arg23.view.writes (Elt F) G_arg23 (st_k0_t2 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 k0_t1 arg24 v159 X_arg6 X_arg7 X_arg8 X_arg10 X_arg16 X_arg17 X_arg18 X_arg19 X_arg20 G_arg21 G_arg22 G_arg23 init n).2.2.2)⟩ : Acc F)
    = loop2 (⟨v9, (arg6.view.read (Elt F) X_arg6), (arg7.view.read (Elt F) X_arg7), (arg8.view.read (Elt F) X_arg8), (arg10.view.read (Elt F) X_arg10), (arg16.view.read (Elt F) X_arg16), (arg17.view.read (Elt F) X_arg17), (arg18.view.read (Elt F) X_arg18), (arg19.view.read (Elt F) X_arg19), (arg20.view.read (Elt F) X_arg20)⟩ : Ops F) k0_t1 ⟨(arg21.view.read (Elt F) G_arg21), (arg22.view.read (Elt F) G_arg22), (arg23.view.read (Elt F) G_arg23)⟩ n := by
  induction n with
  | zero => rfl
  | succ n ih =>
    have h : n < (k0_t2_loop k0_t1).trips := hn
    have e := st_k0_t2_succ (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 k0_t1 arg24 v159 X_arg6 X_arg7 X_arg8 X_arg10 X_arg16 X_arg17 X_arg18 X_arg19 X_arg20 G_arg21 G_arg22 G_arg23 init ⟨n, h⟩
    have e' := loop2_succ (⟨v9, (arg6.view.read (Elt F) X_arg6), (arg7.view.read (Elt F) X_arg7), (arg8.view.read (Elt F) X_arg8), (arg10.view.read (Elt F) X_arg10), (arg16.view.read (Elt F) X_arg16), (arg17.view.read (Elt F) X_arg17), (arg18.view.read (Elt F) X_arg18), (arg19.view.read (Elt F) X_arg19), (arg20.view.read (Elt F) X_arg20)⟩ : Ops F) k0_t1 ⟨(arg21.view.read (Elt F) G_arg21), (arg22.view.read (Elt F) G_arg22), (arg23.view.read (Elt F) G_arg23)⟩ ⟨n, h⟩
    dsimp only at e e'
    rw [e, e', ← ih h.le]
    simp only [View.writes_append]
    exact trip2_read (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 k0_t1 arg24 v159 X_arg6 X_arg7 X_arg8 X_arg10 X_arg16 X_arg17 X_arg18 X_arg19 X_arg20 ⟨n, h⟩ _ _ _ _

/-- One trip of the outer loop, read back: the diagonal tile and then the tiles below it. -/
theorem trip1_read (𝒱 : Variants) (c : Dev nD) (bd : Option 𝒱.V) (i : grid0.Coords) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (v9 : F .f32) (X_arg6 : BufTy.Contents (Elt F) arg6.view.ty) (X_arg7 : BufTy.Contents (Elt F) arg7.view.ty) (X_arg8 : BufTy.Contents (Elt F) arg8.view.ty) (X_arg10 : BufTy.Contents (Elt F) arg10.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (k : Fin k0_t1_loop.trips) (acc : Unit) (f_arg21 : BufTy.Contents (Elt F) arg21.view.ty) (f_arg22 : BufTy.Contents (Elt F) arg22.view.ty) (f_arg23 : BufTy.Contents (Elt F) arg23.view.ty) :
    (⟨arg21.view.read (Elt F) (arg21.view.writes (Elt F) f_arg21 (tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 k acc f_arg21 f_arg22 f_arg23).1),
      arg22.view.read (Elt F) (arg22.view.writes (Elt F) f_arg22 (tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 k acc f_arg21 f_arg22 f_arg23).2.1),
      arg23.view.read (Elt F) (arg23.view.writes (Elt F) f_arg23 (tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 k acc f_arg21 f_arg22 f_arg23).2.2)⟩ : Acc F)
    = loop2 (⟨v9, (arg6.view.read (Elt F) X_arg6), (arg7.view.read (Elt F) X_arg7), (arg8.view.read (Elt F) X_arg8), (arg10.view.read (Elt F) X_arg10), (arg16.view.read (Elt F) X_arg16), (arg17.view.read (Elt F) X_arg17), (arg18.view.read (Elt F) X_arg18), (arg19.view.read (Elt F) X_arg19), (arg20.view.read (Elt F) X_arg20)⟩ : Ops F) k (step1 (⟨v9, (arg6.view.read (Elt F) X_arg6), (arg7.view.read (Elt F) X_arg7), (arg8.view.read (Elt F) X_arg8), (arg10.view.read (Elt F) X_arg10), (arg16.view.read (Elt F) X_arg16), (arg17.view.read (Elt F) X_arg17), (arg18.view.read (Elt F) X_arg18), (arg19.view.read (Elt F) X_arg19), (arg20.view.read (Elt F) X_arg20)⟩ : Ops F) k ⟨(arg21.view.read (Elt F) f_arg21), (arg22.view.read (Elt F) f_arg22), (arg23.view.read (Elt F) f_arg23)⟩) (k0_t2_loop k).trips := by
  unfold tripL_k0_t1 trip_k0_t1
  dsimp only
  simp only [trips3' k, st_k0_t3.eq_1, List.nil_append, View.writes_append]
  refine (st2_read (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 k _ _ X_arg6 X_arg7 X_arg8 X_arg10 X_arg16 X_arg17 X_arg18 X_arg19 X_arg20 _ _ _ _ _ le_rfl).trans (congrArg (loop2 (⟨v9, (arg6.view.read (Elt F) X_arg6), (arg7.view.read (Elt F) X_arg7), (arg8.view.read (Elt F) X_arg8), (arg10.view.read (Elt F) X_arg10), (arg16.view.read (Elt F) X_arg16), (arg17.view.read (Elt F) X_arg17), (arg18.view.read (Elt F) X_arg18), (arg19.view.read (Elt F) X_arg19), (arg20.view.read (Elt F) X_arg20)⟩ : Ops F) k · (k0_t2_loop k).trips) ?_)
  apply Acc.ext
  · exact View.read_writes_cons_put arg21.view f_arg21 _ _ [] rfl
  · exact View.read_writes_cons_put arg22.view f_arg22 _ _ [] rfl
  · exact View.read_writes_cons_put arg23.view f_arg23 _ _ [] rfl

/-- The outer loop, read back: after `n` trips the accumulators are `loop1` of those at its entry. -/
theorem st1_read (𝒱 : Variants) (c : Dev nD) (bd : Option 𝒱.V) (i : grid0.Coords) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (v9 : F .f32) (X_arg6 : BufTy.Contents (Elt F) arg6.view.ty) (X_arg7 : BufTy.Contents (Elt F) arg7.view.ty) (X_arg8 : BufTy.Contents (Elt F) arg8.view.ty) (X_arg10 : BufTy.Contents (Elt F) arg10.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (G_arg21 : BufTy.Contents (Elt F) arg21.view.ty) (G_arg22 : BufTy.Contents (Elt F) arg22.view.ty) (G_arg23 : BufTy.Contents (Elt F) arg23.view.ty) (n : ℕ) (hn : n ≤ k0_t1_loop.trips) :
    (⟨arg21.view.read (Elt F) (arg21.view.writes (Elt F) G_arg21 (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 () n).2.1),
      arg22.view.read (Elt F) (arg22.view.writes (Elt F) G_arg22 (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 () n).2.2.1),
      arg23.view.read (Elt F) (arg23.view.writes (Elt F) G_arg23 (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 () n).2.2.2)⟩ : Acc F)
    = loop1 (⟨v9, (arg6.view.read (Elt F) X_arg6), (arg7.view.read (Elt F) X_arg7), (arg8.view.read (Elt F) X_arg8), (arg10.view.read (Elt F) X_arg10), (arg16.view.read (Elt F) X_arg16), (arg17.view.read (Elt F) X_arg17), (arg18.view.read (Elt F) X_arg18), (arg19.view.read (Elt F) X_arg19), (arg20.view.read (Elt F) X_arg20)⟩ : Ops F) ⟨(arg21.view.read (Elt F) G_arg21), (arg22.view.read (Elt F) G_arg22), (arg23.view.read (Elt F) G_arg23)⟩ n := by
  induction n with
  | zero => rfl
  | succ n ih =>
    have h : n < k0_t1_loop.trips := hn
    have e := st_k0_t1_succ (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 () ⟨n, h⟩
    have e' := loop1_succ (⟨v9, (arg6.view.read (Elt F) X_arg6), (arg7.view.read (Elt F) X_arg7), (arg8.view.read (Elt F) X_arg8), (arg10.view.read (Elt F) X_arg10), (arg16.view.read (Elt F) X_arg16), (arg17.view.read (Elt F) X_arg17), (arg18.view.read (Elt F) X_arg18), (arg19.view.read (Elt F) X_arg19), (arg20.view.read (Elt F) X_arg20)⟩ : Ops F) ⟨(arg21.view.read (Elt F) G_arg21), (arg22.view.read (Elt F) G_arg22), (arg23.view.read (Elt F) G_arg23)⟩ ⟨n, h⟩
    dsimp only at e e'
    rw [e, e', ← ih h.le]
    simp only [View.writes_append]
    exact trip1_read (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 ⟨n, h⟩ _ _ _ _

end Cert.Kernel.Gen

end
-- ==== Proof.PointK.lean ====
/- What one grid point leaves in the result blocks and the carried accumulators, as pure functions of the operand blocks
   and of the accumulators as the point finds them. -/
module

public import proofs.«01_k».proof.Proof.BodyK
public import proofs.«01_k».proof.Proof.StepK
public import Idealize.ShloMosaic.Lib.Pipeline.TableIdle

@[expose] public section

set_option maxRecDepth 16384
set_option maxHeartbeats 4000000

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)

variable {F : FTy → Type} [FloatOps F]

/-- The resource algebra the triples are stated at. -/
local notation "𝕄G" => MT nD τ sig Unit (Elt F) ℕ (UR sig nD τ) ℕ

/-- The query head's scale at a grid point. -/
def wordQ (i : grid0.Coords) (x : Vec F S32 .f32) : Elt F .f32 :=
  window x (k0_off1 i) S1.size (k0_off1_inb i) (Shape.Idx.first (numel1_S1.symm ▸ Nat.one_pos))

/-- The key head's scale at a grid point (of the key scales or of the value scales). -/
def wordK (i : grid0.Coords) (x : Vec F S4 .f32) : Elt F .f32 :=
  window x (k0_off2 i) S1.size (k0_off2_inb i) (Shape.Idx.first (numel1_S1.symm ▸ Nat.one_pos))

/-- What the loops read at a grid point, of the ten operand blocks. -/
def ptOps (i : grid0.Coords) (x3 : Vec F S32 .f32) (x4 : Vec F S4 .f32) (x5 : Vec F S4 .f32) (x6 : Vec F S1x1x2048x96 .fp8e4m3) (x7 : Vec F S1x1x2048x96 .fp8e4m3) (x8 : Vec F S1x1x2048x96 .fp8e4m3) (x9 : Vec F S1x1x2048x96 .bf16) (x10 : Vec F S1x1x2048x96 .fp8e5m2) (x11 : Vec F S1x1x1x2048 .f32) (x12 : Vec F S1x1x1x2048 .f32) : Ops F :=
  ⟨k0_pay23 (wordQ i x3) (wordK i x4), x6, x7, x8, x10, k0_pay29 (wordQ i x3) x6, k0_pay30 (k0_pay25 x12) x10, k0_pay24 x11,
    k0_pay28 (k0_pay25 x12) x10 x9, k0_pay26 (wordK i x5) x12⟩

theorem Ops.ext' {a a' : F .f32} {b b' c c' d d' : Vec F S1x1x2048x96 .fp8e4m3} {e e' : Vec F S1x1x2048x96 .fp8e5m2}
    {f f' g g' : Vec F S2048x96 .bf16} {h h' k k' l l' : Vec F S2048x128 .f32} (ha : a = a') (hb : b = b') (hc : c = c')
    (hd : d = d') (he : e = e') (hf : f = f') (hg : g = g') (hh : h = h') (hk : k = k') (hl : l = l') :
    (⟨a, b, c, d, e, f, g, h, k, l⟩ : Ops F) = ⟨a', b', c', d', e', f', g', h', k', l'⟩ := by
  subst ha hb hc hd he hf hg hh hk hl; rfl

/-- The accumulators after the loops at a grid point, the carried ones found at `b` and `d`. -/
def ptAcc (i : grid0.Coords) (x3 : Vec F S32 .f32) (x4 : Vec F S4 .f32) (x5 : Vec F S4 .f32) (x6 : Vec F S1x1x2048x96 .fp8e4m3) (x7 : Vec F S1x1x2048x96 .fp8e4m3) (x8 : Vec F S1x1x2048x96 .fp8e4m3) (x9 : Vec F S1x1x2048x96 .bf16) (x10 : Vec F S1x1x2048x96 .fp8e5m2) (x11 : Vec F S1x1x1x2048 .f32) (x12 : Vec F S1x1x1x2048 .f32) (b d : Vec F S2048x96 .f32) : Acc F :=
  loop1 (ptOps i x3 x4 x5 x6 x7 x8 x9 x10 x11 x12) ⟨k0_pay31, b, d⟩ k0_t1_loop.trips

theorem st1_read_a (𝒱 : Variants) (c : Dev nD) (bd : Option 𝒱.V) (i : grid0.Coords) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (v9 : F .f32) (X_arg6 : BufTy.Contents (Elt F) arg6.view.ty) (X_arg7 : BufTy.Contents (Elt F) arg7.view.ty) (X_arg8 : BufTy.Contents (Elt F) arg8.view.ty) (X_arg10 : BufTy.Contents (Elt F) arg10.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (G_arg21 : BufTy.Contents (Elt F) arg21.view.ty) (G_arg22 : BufTy.Contents (Elt F) arg22.view.ty) (G_arg23 : BufTy.Contents (Elt F) arg23.view.ty) :
    arg21.view.read (Elt F) (arg21.view.writes (Elt F) G_arg21 (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 PUnit.unit (Scf.trips k0_t1_loop.lb k0_t1_loop.ub k0_t1_loop.st)).2.1)
      = (loop1 (⟨v9, (arg6.view.read (Elt F) X_arg6), (arg7.view.read (Elt F) X_arg7), (arg8.view.read (Elt F) X_arg8), (arg10.view.read (Elt F) X_arg10), (arg16.view.read (Elt F) X_arg16), (arg17.view.read (Elt F) X_arg17), (arg18.view.read (Elt F) X_arg18), (arg19.view.read (Elt F) X_arg19), (arg20.view.read (Elt F) X_arg20)⟩ : Ops F) ⟨(arg21.view.read (Elt F) G_arg21), (arg22.view.read (Elt F) G_arg22), (arg23.view.read (Elt F) G_arg23)⟩ k0_t1_loop.trips).a :=
  congrArg Acc.a (st1_read (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 k0_t1_loop.trips le_rfl)

theorem st1_read_b (𝒱 : Variants) (c : Dev nD) (bd : Option 𝒱.V) (i : grid0.Coords) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (v9 : F .f32) (X_arg6 : BufTy.Contents (Elt F) arg6.view.ty) (X_arg7 : BufTy.Contents (Elt F) arg7.view.ty) (X_arg8 : BufTy.Contents (Elt F) arg8.view.ty) (X_arg10 : BufTy.Contents (Elt F) arg10.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (G_arg21 : BufTy.Contents (Elt F) arg21.view.ty) (G_arg22 : BufTy.Contents (Elt F) arg22.view.ty) (G_arg23 : BufTy.Contents (Elt F) arg23.view.ty) :
    arg22.view.read (Elt F) (arg22.view.writes (Elt F) G_arg22 (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 PUnit.unit (Scf.trips k0_t1_loop.lb k0_t1_loop.ub k0_t1_loop.st)).2.2.1)
      = (loop1 (⟨v9, (arg6.view.read (Elt F) X_arg6), (arg7.view.read (Elt F) X_arg7), (arg8.view.read (Elt F) X_arg8), (arg10.view.read (Elt F) X_arg10), (arg16.view.read (Elt F) X_arg16), (arg17.view.read (Elt F) X_arg17), (arg18.view.read (Elt F) X_arg18), (arg19.view.read (Elt F) X_arg19), (arg20.view.read (Elt F) X_arg20)⟩ : Ops F) ⟨(arg21.view.read (Elt F) G_arg21), (arg22.view.read (Elt F) G_arg22), (arg23.view.read (Elt F) G_arg23)⟩ k0_t1_loop.trips).b :=
  congrArg Acc.b (st1_read (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 k0_t1_loop.trips le_rfl)

theorem st1_read_c (𝒱 : Variants) (c : Dev nD) (bd : Option 𝒱.V) (i : grid0.Coords) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (v9 : F .f32) (X_arg6 : BufTy.Contents (Elt F) arg6.view.ty) (X_arg7 : BufTy.Contents (Elt F) arg7.view.ty) (X_arg8 : BufTy.Contents (Elt F) arg8.view.ty) (X_arg10 : BufTy.Contents (Elt F) arg10.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (G_arg21 : BufTy.Contents (Elt F) arg21.view.ty) (G_arg22 : BufTy.Contents (Elt F) arg22.view.ty) (G_arg23 : BufTy.Contents (Elt F) arg23.view.ty) :
    arg23.view.read (Elt F) (arg23.view.writes (Elt F) G_arg23 (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 PUnit.unit (Scf.trips k0_t1_loop.lb k0_t1_loop.ub k0_t1_loop.st)).2.2.2)
      = (loop1 (⟨v9, (arg6.view.read (Elt F) X_arg6), (arg7.view.read (Elt F) X_arg7), (arg8.view.read (Elt F) X_arg8), (arg10.view.read (Elt F) X_arg10), (arg16.view.read (Elt F) X_arg16), (arg17.view.read (Elt F) X_arg17), (arg18.view.read (Elt F) X_arg18), (arg19.view.read (Elt F) X_arg19), (arg20.view.read (Elt F) X_arg20)⟩ : Ops F) ⟨(arg21.view.read (Elt F) G_arg21), (arg22.view.read (Elt F) G_arg22), (arg23.view.read (Elt F) G_arg23)⟩ k0_t1_loop.trips).c :=
  congrArg Acc.c (st1_read (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 k0_t1_loop.trips le_rfl)

theorem wordQ_read (i : grid0.Coords) {κ : Kind} {sp : Space} (v : View sig κ sp S32 .f32) (X : v.ty.Contents (Elt F)) :
    View.readAt (Elt F) v (Rect.unit (s := S32) (k0_off1 i) S1.size (k0_off1_inb i)).toLoadRect X (Shape.Idx.first (numel1_S1.symm ▸ Nat.one_pos))
      = wordQ i (v.read (Elt F) X) :=
  congrFun (View.readAt_unit v X _ rfl _) _
theorem wordK_read (i : grid0.Coords) {κ : Kind} {sp : Space} (v : View sig κ sp S4 .f32) (X : v.ty.Contents (Elt F)) :
    View.readAt (Elt F) v (Rect.unit (s := S4) (k0_off2 i) S1.size (k0_off2_inb i)).toLoadRect X (Shape.Idx.first (numel1_S1.symm ▸ Nat.one_pos))
      = wordK i (v.read (Elt F) X) :=
  congrFun (View.readAt_unit v X _ rfl _) _
theorem pay9_congr {w w' : F .f32} {a a' : Vec F S2048x96 .f32} (hw : w = w') (ha : a = a') : k0_pay9 w a = k0_pay9 w' a' := by
  subst hw ha; rfl
theorem loop1_congr {o o' : Ops F} {s s' : Acc F} (n : ℕ) (ho : o = o') (hs : s = s') : loop1 o s n = loop1 o' s' n := by
  subst ho hs; rfl
theorem loop1_congr_a {o o' : Ops F} {s s' : Acc F} (n : ℕ) (ho : o = o') (hs : s = s') : (loop1 o s n).a = (loop1 o' s' n).a := by
  subst ho hs; rfl
theorem Acc.ext' {a a' b b' c c' : Vec F S2048x96 .f32} (ha : a = a') (hb : b = b') (hc : c = c') :
    (⟨a, b, c⟩ : Acc F) = ⟨a', b', c'⟩ := by
  subst ha hb hc; rfl
theorem loop1_congr_b {o o' : Ops F} {s s' : Acc F} (n : ℕ) (ho : o = o') (hs : s = s') : (loop1 o s n).b = (loop1 o' s' n).b := by
  subst ho hs; rfl
theorem loop1_congr_c {o o' : Ops F} {s s' : Acc F} (n : ℕ) (ho : o = o') (hs : s = s') : (loop1 o s n).c = (loop1 o' s' n).c := by
  subst ho hs; rfl

theorem pointA_dq (𝒱 : Variants) (c : Dev nD) (bd : Option 𝒱.V) (i : grid0.Coords) (h1 : condZ i = 1#1) (h2 : ¬ k0_cond2 i = 1#1) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg22 : BufTy.Contents (Elt F) arg22.view.ty) (f_arg23 : BufTy.Contents (Elt F) arg23.view.ty) :
    arg13.view.read (Elt F) ((pointA (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X_arg3 X_arg4 X_arg5 X_arg6 X_arg7 X_arg8 X_arg9 X_arg10 X_arg11 X_arg12).1 f_arg13 f_arg14 f_arg15 f_arg22 f_arg23) = k0_pay9 (wordK i (arg4.view.read (Elt F) X_arg4)) (ptAcc i (arg3.view.read (Elt F) X_arg3) (arg4.view.read (Elt F) X_arg4) (arg5.view.read (Elt F) X_arg5) (arg6.view.read (Elt F) X_arg6) (arg7.view.read (Elt F) X_arg7) (arg8.view.read (Elt F) X_arg8) (arg9.view.read (Elt F) X_arg9) (arg10.view.read (Elt F) X_arg10) (arg11.view.read (Elt F) X_arg11) (arg12.view.read (Elt F) X_arg12) k0_pay1 k0_pay2).a := by
  unfold pointA
  rw [View.read_writes_full]
  sl_unfold_words
  rw [View.readCov, View.readAt_full, View.writes_append, st1_read_a]
  unfold ptAcc ptOps
  refine pay9_congr ?_ (loop1_congr_a _ (Ops.ext' ?_ ?_ ?_ ?_ ?_ ?_ ?_ ?_ ?_ ?_) (Acc.ext' ?_ ?_ ?_))
  · exact wordK_read i arg4.view X_arg4
  · exact congrArg₂ k0_pay23 (wordQ_read i arg3.view X_arg3) (wordK_read i arg4.view X_arg4)
  · rfl
  · rfl
  · rfl
  · rfl
  · rw [View.read_writes_full, View.readAt_full]; exact congrArg (fun w => k0_pay29 w (arg6.view.read (Elt F) X_arg6)) (wordQ_read i arg3.view X_arg3)
  · rw [View.read_writes_full, View.readAt_full, View.readAt_full] <;> rfl
  · rw [View.read_writes_full, View.readAt_full]
  · rw [View.read_writes_full, View.readAt_full, View.readAt_full, View.readAt_full] <;> rfl
  · rw [View.read_writes_full, View.readAt_full]; exact congrArg (fun w => k0_pay26 w (arg12.view.read (Elt F) X_arg12)) (wordK_read i arg5.view X_arg5)
  · rw [View.read_writes_full] <;> rfl
  · rw [View.read_writes_full]
  · rw [View.read_writes_full]

theorem pointA_b (𝒱 : Variants) (c : Dev nD) (bd : Option 𝒱.V) (i : grid0.Coords) (h1 : condZ i = 1#1) (h2 : ¬ k0_cond2 i = 1#1) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg22 : BufTy.Contents (Elt F) arg22.view.ty) (f_arg23 : BufTy.Contents (Elt F) arg23.view.ty) :
    arg22.view.read (Elt F) ((pointA (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X_arg3 X_arg4 X_arg5 X_arg6 X_arg7 X_arg8 X_arg9 X_arg10 X_arg11 X_arg12).2.2.2.1 f_arg13 f_arg14 f_arg15 f_arg22 f_arg23) = (ptAcc i (arg3.view.read (Elt F) X_arg3) (arg4.view.read (Elt F) X_arg4) (arg5.view.read (Elt F) X_arg5) (arg6.view.read (Elt F) X_arg6) (arg7.view.read (Elt F) X_arg7) (arg8.view.read (Elt F) X_arg8) (arg9.view.read (Elt F) X_arg9) (arg10.view.read (Elt F) X_arg10) (arg11.view.read (Elt F) X_arg11) (arg12.view.read (Elt F) X_arg12) k0_pay1 k0_pay2).b := by
  unfold pointA
  dsimp only
  sl_unfold_words
  rw [View.writes_append, st1_read_b]
  unfold ptAcc ptOps
  refine (loop1_congr_b _ (Ops.ext' ?_ ?_ ?_ ?_ ?_ ?_ ?_ ?_ ?_ ?_) (Acc.ext' ?_ ?_ ?_))
  · exact congrArg₂ k0_pay23 (wordQ_read i arg3.view X_arg3) (wordK_read i arg4.view X_arg4)
  · rfl
  · rfl
  · rfl
  · rfl
  · rw [View.read_writes_full, View.readAt_full]; exact congrArg (fun w => k0_pay29 w (arg6.view.read (Elt F) X_arg6)) (wordQ_read i arg3.view X_arg3)
  · rw [View.read_writes_full, View.readAt_full, View.readAt_full] <;> rfl
  · rw [View.read_writes_full, View.readAt_full]
  · rw [View.read_writes_full, View.readAt_full, View.readAt_full, View.readAt_full] <;> rfl
  · rw [View.read_writes_full, View.readAt_full]; exact congrArg (fun w => k0_pay26 w (arg12.view.read (Elt F) X_arg12)) (wordK_read i arg5.view X_arg5)
  · rw [View.read_writes_full] <;> rfl
  · rw [View.read_writes_full]
  · rw [View.read_writes_full]

theorem pointA_c (𝒱 : Variants) (c : Dev nD) (bd : Option 𝒱.V) (i : grid0.Coords) (h1 : condZ i = 1#1) (h2 : ¬ k0_cond2 i = 1#1) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg22 : BufTy.Contents (Elt F) arg22.view.ty) (f_arg23 : BufTy.Contents (Elt F) arg23.view.ty) :
    arg23.view.read (Elt F) ((pointA (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X_arg3 X_arg4 X_arg5 X_arg6 X_arg7 X_arg8 X_arg9 X_arg10 X_arg11 X_arg12).2.2.2.2.val f_arg13 f_arg14 f_arg15 f_arg22 f_arg23) = (ptAcc i (arg3.view.read (Elt F) X_arg3) (arg4.view.read (Elt F) X_arg4) (arg5.view.read (Elt F) X_arg5) (arg6.view.read (Elt F) X_arg6) (arg7.view.read (Elt F) X_arg7) (arg8.view.read (Elt F) X_arg8) (arg9.view.read (Elt F) X_arg9) (arg10.view.read (Elt F) X_arg10) (arg11.view.read (Elt F) X_arg11) (arg12.view.read (Elt F) X_arg12) k0_pay1 k0_pay2).c := by
  unfold pointA
  dsimp only
  sl_unfold_words
  rw [View.writes_append, st1_read_c]
  unfold ptAcc ptOps
  refine (loop1_congr_c _ (Ops.ext' ?_ ?_ ?_ ?_ ?_ ?_ ?_ ?_ ?_ ?_) (Acc.ext' ?_ ?_ ?_))
  · exact congrArg₂ k0_pay23 (wordQ_read i arg3.view X_arg3) (wordK_read i arg4.view X_arg4)
  · rfl
  · rfl
  · rfl
  · rfl
  · rw [View.read_writes_full, View.readAt_full]; exact congrArg (fun w => k0_pay29 w (arg6.view.read (Elt F) X_arg6)) (wordQ_read i arg3.view X_arg3)
  · rw [View.read_writes_full, View.readAt_full, View.readAt_full] <;> rfl
  · rw [View.read_writes_full, View.readAt_full]
  · rw [View.read_writes_full, View.readAt_full, View.readAt_full, View.readAt_full] <;> rfl
  · rw [View.read_writes_full, View.readAt_full]; exact congrArg (fun w => k0_pay26 w (arg12.view.read (Elt F) X_arg12)) (wordK_read i arg5.view X_arg5)
  · rw [View.read_writes_full] <;> rfl
  · rw [View.read_writes_full]
  · rw [View.read_writes_full]

theorem pointA_arg14 (𝒱 : Variants) (c : Dev nD) (bd : Option 𝒱.V) (i : grid0.Coords) (h1 : condZ i = 1#1) (h2 : ¬ k0_cond2 i = 1#1) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg22 : BufTy.Contents (Elt F) arg22.view.ty) (f_arg23 : BufTy.Contents (Elt F) arg23.view.ty) : ((pointA (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X_arg3 X_arg4 X_arg5 X_arg6 X_arg7 X_arg8 X_arg9 X_arg10 X_arg11 X_arg12).2.1 f_arg13 f_arg14 f_arg15 f_arg22 f_arg23) = f_arg14 := by
  unfold pointA
  sl_unfold_words
  rfl

theorem pointA_arg15 (𝒱 : Variants) (c : Dev nD) (bd : Option 𝒱.V) (i : grid0.Coords) (h1 : condZ i = 1#1) (h2 : ¬ k0_cond2 i = 1#1) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg22 : BufTy.Contents (Elt F) arg22.view.ty) (f_arg23 : BufTy.Contents (Elt F) arg23.view.ty) : ((pointA (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X_arg3 X_arg4 X_arg5 X_arg6 X_arg7 X_arg8 X_arg9 X_arg10 X_arg11 X_arg12).2.2.1 f_arg13 f_arg14 f_arg15 f_arg22 f_arg23) = f_arg15 := by
  unfold pointA
  sl_unfold_words
  rfl

theorem pointB_dq (𝒱 : Variants) (c : Dev nD) (bd : Option 𝒱.V) (i : grid0.Coords) (h1 : ¬ condZ i = 1#1) (h2 : ¬ k0_cond2 i = 1#1) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg22 : BufTy.Contents (Elt F) arg22.view.ty) (f_arg23 : BufTy.Contents (Elt F) arg23.view.ty) :
    arg13.view.read (Elt F) ((pointB (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X_arg3 X_arg4 X_arg5 X_arg6 X_arg7 X_arg8 X_arg9 X_arg10 X_arg11 X_arg12).1 f_arg13 f_arg14 f_arg15 f_arg22 f_arg23) = k0_pay9 (wordK i (arg4.view.read (Elt F) X_arg4)) (ptAcc i (arg3.view.read (Elt F) X_arg3) (arg4.view.read (Elt F) X_arg4) (arg5.view.read (Elt F) X_arg5) (arg6.view.read (Elt F) X_arg6) (arg7.view.read (Elt F) X_arg7) (arg8.view.read (Elt F) X_arg8) (arg9.view.read (Elt F) X_arg9) (arg10.view.read (Elt F) X_arg10) (arg11.view.read (Elt F) X_arg11) (arg12.view.read (Elt F) X_arg12) (arg22.view.read (Elt F) f_arg22) (arg23.view.read (Elt F) f_arg23)).a := by
  unfold pointB
  rw [View.read_writes_full]
  sl_unfold_words
  rw [View.readCov, View.readAt_full, View.writes_append, st1_read_a]
  unfold ptAcc ptOps
  refine pay9_congr ?_ (loop1_congr_a _ (Ops.ext' ?_ ?_ ?_ ?_ ?_ ?_ ?_ ?_ ?_ ?_) (Acc.ext' ?_ ?_ ?_))
  · exact wordK_read i arg4.view X_arg4
  · exact congrArg₂ k0_pay23 (wordQ_read i arg3.view X_arg3) (wordK_read i arg4.view X_arg4)
  · rfl
  · rfl
  · rfl
  · rfl
  · rw [View.read_writes_full, View.readAt_full]; exact congrArg (fun w => k0_pay29 w (arg6.view.read (Elt F) X_arg6)) (wordQ_read i arg3.view X_arg3)
  · rw [View.read_writes_full, View.readAt_full, View.readAt_full] <;> rfl
  · rw [View.read_writes_full, View.readAt_full]
  · rw [View.read_writes_full, View.readAt_full, View.readAt_full, View.readAt_full] <;> rfl
  · rw [View.read_writes_full, View.readAt_full]; exact congrArg (fun w => k0_pay26 w (arg12.view.read (Elt F) X_arg12)) (wordK_read i arg5.view X_arg5)
  · rw [View.read_writes_full] <;> rfl
  · rfl
  · rfl

theorem pointB_b (𝒱 : Variants) (c : Dev nD) (bd : Option 𝒱.V) (i : grid0.Coords) (h1 : ¬ condZ i = 1#1) (h2 : ¬ k0_cond2 i = 1#1) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg22 : BufTy.Contents (Elt F) arg22.view.ty) (f_arg23 : BufTy.Contents (Elt F) arg23.view.ty) :
    arg22.view.read (Elt F) ((pointB (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X_arg3 X_arg4 X_arg5 X_arg6 X_arg7 X_arg8 X_arg9 X_arg10 X_arg11 X_arg12).2.2.2.1 f_arg13 f_arg14 f_arg15 f_arg22 f_arg23) = (ptAcc i (arg3.view.read (Elt F) X_arg3) (arg4.view.read (Elt F) X_arg4) (arg5.view.read (Elt F) X_arg5) (arg6.view.read (Elt F) X_arg6) (arg7.view.read (Elt F) X_arg7) (arg8.view.read (Elt F) X_arg8) (arg9.view.read (Elt F) X_arg9) (arg10.view.read (Elt F) X_arg10) (arg11.view.read (Elt F) X_arg11) (arg12.view.read (Elt F) X_arg12) (arg22.view.read (Elt F) f_arg22) (arg23.view.read (Elt F) f_arg23)).b := by
  unfold pointB
  sl_unfold_words
  rw [st1_read_b]
  unfold ptAcc ptOps
  refine (loop1_congr_b _ (Ops.ext' ?_ ?_ ?_ ?_ ?_ ?_ ?_ ?_ ?_ ?_) (Acc.ext' ?_ ?_ ?_))
  · exact congrArg₂ k0_pay23 (wordQ_read i arg3.view X_arg3) (wordK_read i arg4.view X_arg4)
  · rfl
  · rfl
  · rfl
  · rfl
  · rw [View.read_writes_full, View.readAt_full]; exact congrArg (fun w => k0_pay29 w (arg6.view.read (Elt F) X_arg6)) (wordQ_read i arg3.view X_arg3)
  · rw [View.read_writes_full, View.readAt_full, View.readAt_full] <;> rfl
  · rw [View.read_writes_full, View.readAt_full]
  · rw [View.read_writes_full, View.readAt_full, View.readAt_full, View.readAt_full] <;> rfl
  · rw [View.read_writes_full, View.readAt_full]; exact congrArg (fun w => k0_pay26 w (arg12.view.read (Elt F) X_arg12)) (wordK_read i arg5.view X_arg5)
  · rw [View.read_writes_full] <;> rfl
  · rfl
  · rfl

theorem pointB_c (𝒱 : Variants) (c : Dev nD) (bd : Option 𝒱.V) (i : grid0.Coords) (h1 : ¬ condZ i = 1#1) (h2 : ¬ k0_cond2 i = 1#1) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg22 : BufTy.Contents (Elt F) arg22.view.ty) (f_arg23 : BufTy.Contents (Elt F) arg23.view.ty) :
    arg23.view.read (Elt F) ((pointB (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X_arg3 X_arg4 X_arg5 X_arg6 X_arg7 X_arg8 X_arg9 X_arg10 X_arg11 X_arg12).2.2.2.2.val f_arg13 f_arg14 f_arg15 f_arg22 f_arg23) = (ptAcc i (arg3.view.read (Elt F) X_arg3) (arg4.view.read (Elt F) X_arg4) (arg5.view.read (Elt F) X_arg5) (arg6.view.read (Elt F) X_arg6) (arg7.view.read (Elt F) X_arg7) (arg8.view.read (Elt F) X_arg8) (arg9.view.read (Elt F) X_arg9) (arg10.view.read (Elt F) X_arg10) (arg11.view.read (Elt F) X_arg11) (arg12.view.read (Elt F) X_arg12) (arg22.view.read (Elt F) f_arg22) (arg23.view.read (Elt F) f_arg23)).c := by
  unfold pointB
  sl_unfold_words
  rw [st1_read_c]
  unfold ptAcc ptOps
  refine (loop1_congr_c _ (Ops.ext' ?_ ?_ ?_ ?_ ?_ ?_ ?_ ?_ ?_ ?_) (Acc.ext' ?_ ?_ ?_))
  · exact congrArg₂ k0_pay23 (wordQ_read i arg3.view X_arg3) (wordK_read i arg4.view X_arg4)
  · rfl
  · rfl
  · rfl
  · rfl
  · rw [View.read_writes_full, View.readAt_full]; exact congrArg (fun w => k0_pay29 w (arg6.view.read (Elt F) X_arg6)) (wordQ_read i arg3.view X_arg3)
  · rw [View.read_writes_full, View.readAt_full, View.readAt_full] <;> rfl
  · rw [View.read_writes_full, View.readAt_full]
  · rw [View.read_writes_full, View.readAt_full, View.readAt_full, View.readAt_full] <;> rfl
  · rw [View.read_writes_full, View.readAt_full]; exact congrArg (fun w => k0_pay26 w (arg12.view.read (Elt F) X_arg12)) (wordK_read i arg5.view X_arg5)
  · rw [View.read_writes_full] <;> rfl
  · rfl
  · rfl

theorem pointB_arg14 (𝒱 : Variants) (c : Dev nD) (bd : Option 𝒱.V) (i : grid0.Coords) (h1 : ¬ condZ i = 1#1) (h2 : ¬ k0_cond2 i = 1#1) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg22 : BufTy.Contents (Elt F) arg22.view.ty) (f_arg23 : BufTy.Contents (Elt F) arg23.view.ty) : ((pointB (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X_arg3 X_arg4 X_arg5 X_arg6 X_arg7 X_arg8 X_arg9 X_arg10 X_arg11 X_arg12).2.1 f_arg13 f_arg14 f_arg15 f_arg22 f_arg23) = f_arg14 := by
  unfold pointB
  sl_unfold_words
  rfl

theorem pointB_arg15 (𝒱 : Variants) (c : Dev nD) (bd : Option 𝒱.V) (i : grid0.Coords) (h1 : ¬ condZ i = 1#1) (h2 : ¬ k0_cond2 i = 1#1) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg22 : BufTy.Contents (Elt F) arg22.view.ty) (f_arg23 : BufTy.Contents (Elt F) arg23.view.ty) : ((pointB (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X_arg3 X_arg4 X_arg5 X_arg6 X_arg7 X_arg8 X_arg9 X_arg10 X_arg11 X_arg12).2.2.1 f_arg13 f_arg14 f_arg15 f_arg22 f_arg23) = f_arg15 := by
  unfold pointB
  sl_unfold_words
  rfl

theorem pointC_dq (𝒱 : Variants) (c : Dev nD) (bd : Option 𝒱.V) (i : grid0.Coords) (h1 : ¬ condZ i = 1#1) (h2 : k0_cond2 i = 1#1) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg22 : BufTy.Contents (Elt F) arg22.view.ty) (f_arg23 : BufTy.Contents (Elt F) arg23.view.ty) :
    arg13.view.read (Elt F) ((pointC (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X_arg3 X_arg4 X_arg5 X_arg6 X_arg7 X_arg8 X_arg9 X_arg10 X_arg11 X_arg12).1 f_arg13 f_arg14 f_arg15 f_arg22 f_arg23) = k0_pay9 (wordK i (arg4.view.read (Elt F) X_arg4)) (ptAcc i (arg3.view.read (Elt F) X_arg3) (arg4.view.read (Elt F) X_arg4) (arg5.view.read (Elt F) X_arg5) (arg6.view.read (Elt F) X_arg6) (arg7.view.read (Elt F) X_arg7) (arg8.view.read (Elt F) X_arg8) (arg9.view.read (Elt F) X_arg9) (arg10.view.read (Elt F) X_arg10) (arg11.view.read (Elt F) X_arg11) (arg12.view.read (Elt F) X_arg12) (arg22.view.read (Elt F) f_arg22) (arg23.view.read (Elt F) f_arg23)).a := by
  unfold pointC
  rw [View.read_writes_full]
  sl_unfold_words
  rw [View.readCov, View.readAt_full, View.writes_append, st1_read_a]
  unfold ptAcc ptOps
  refine pay9_congr ?_ (loop1_congr_a _ (Ops.ext' ?_ ?_ ?_ ?_ ?_ ?_ ?_ ?_ ?_ ?_) (Acc.ext' ?_ ?_ ?_))
  · exact wordK_read i arg4.view X_arg4
  · exact congrArg₂ k0_pay23 (wordQ_read i arg3.view X_arg3) (wordK_read i arg4.view X_arg4)
  · rfl
  · rfl
  · rfl
  · rfl
  · rw [View.read_writes_full, View.readAt_full]; exact congrArg (fun w => k0_pay29 w (arg6.view.read (Elt F) X_arg6)) (wordQ_read i arg3.view X_arg3)
  · rw [View.read_writes_full, View.readAt_full, View.readAt_full] <;> rfl
  · rw [View.read_writes_full, View.readAt_full]
  · rw [View.read_writes_full, View.readAt_full, View.readAt_full, View.readAt_full] <;> rfl
  · rw [View.read_writes_full, View.readAt_full]; exact congrArg (fun w => k0_pay26 w (arg12.view.read (Elt F) X_arg12)) (wordK_read i arg5.view X_arg5)
  · rw [View.read_writes_full] <;> rfl
  · rfl
  · rfl

theorem pointC_b (𝒱 : Variants) (c : Dev nD) (bd : Option 𝒱.V) (i : grid0.Coords) (h1 : ¬ condZ i = 1#1) (h2 : k0_cond2 i = 1#1) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg22 : BufTy.Contents (Elt F) arg22.view.ty) (f_arg23 : BufTy.Contents (Elt F) arg23.view.ty) :
    arg22.view.read (Elt F) ((pointC (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X_arg3 X_arg4 X_arg5 X_arg6 X_arg7 X_arg8 X_arg9 X_arg10 X_arg11 X_arg12).2.2.2.1 f_arg13 f_arg14 f_arg15 f_arg22 f_arg23) = (ptAcc i (arg3.view.read (Elt F) X_arg3) (arg4.view.read (Elt F) X_arg4) (arg5.view.read (Elt F) X_arg5) (arg6.view.read (Elt F) X_arg6) (arg7.view.read (Elt F) X_arg7) (arg8.view.read (Elt F) X_arg8) (arg9.view.read (Elt F) X_arg9) (arg10.view.read (Elt F) X_arg10) (arg11.view.read (Elt F) X_arg11) (arg12.view.read (Elt F) X_arg12) (arg22.view.read (Elt F) f_arg22) (arg23.view.read (Elt F) f_arg23)).b := by
  unfold pointC
  sl_unfold_words
  rw [st1_read_b]
  unfold ptAcc ptOps
  refine (loop1_congr_b _ (Ops.ext' ?_ ?_ ?_ ?_ ?_ ?_ ?_ ?_ ?_ ?_) (Acc.ext' ?_ ?_ ?_))
  · exact congrArg₂ k0_pay23 (wordQ_read i arg3.view X_arg3) (wordK_read i arg4.view X_arg4)
  · rfl
  · rfl
  · rfl
  · rfl
  · rw [View.read_writes_full, View.readAt_full]; exact congrArg (fun w => k0_pay29 w (arg6.view.read (Elt F) X_arg6)) (wordQ_read i arg3.view X_arg3)
  · rw [View.read_writes_full, View.readAt_full, View.readAt_full] <;> rfl
  · rw [View.read_writes_full, View.readAt_full]
  · rw [View.read_writes_full, View.readAt_full, View.readAt_full, View.readAt_full] <;> rfl
  · rw [View.read_writes_full, View.readAt_full]; exact congrArg (fun w => k0_pay26 w (arg12.view.read (Elt F) X_arg12)) (wordK_read i arg5.view X_arg5)
  · rw [View.read_writes_full] <;> rfl
  · rfl
  · rfl

theorem pointC_c (𝒱 : Variants) (c : Dev nD) (bd : Option 𝒱.V) (i : grid0.Coords) (h1 : ¬ condZ i = 1#1) (h2 : k0_cond2 i = 1#1) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg22 : BufTy.Contents (Elt F) arg22.view.ty) (f_arg23 : BufTy.Contents (Elt F) arg23.view.ty) :
    arg23.view.read (Elt F) ((pointC (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X_arg3 X_arg4 X_arg5 X_arg6 X_arg7 X_arg8 X_arg9 X_arg10 X_arg11 X_arg12).2.2.2.2.val f_arg13 f_arg14 f_arg15 f_arg22 f_arg23) = (ptAcc i (arg3.view.read (Elt F) X_arg3) (arg4.view.read (Elt F) X_arg4) (arg5.view.read (Elt F) X_arg5) (arg6.view.read (Elt F) X_arg6) (arg7.view.read (Elt F) X_arg7) (arg8.view.read (Elt F) X_arg8) (arg9.view.read (Elt F) X_arg9) (arg10.view.read (Elt F) X_arg10) (arg11.view.read (Elt F) X_arg11) (arg12.view.read (Elt F) X_arg12) (arg22.view.read (Elt F) f_arg22) (arg23.view.read (Elt F) f_arg23)).c := by
  unfold pointC
  sl_unfold_words
  rw [st1_read_c]
  unfold ptAcc ptOps
  refine (loop1_congr_c _ (Ops.ext' ?_ ?_ ?_ ?_ ?_ ?_ ?_ ?_ ?_ ?_) (Acc.ext' ?_ ?_ ?_))
  · exact congrArg₂ k0_pay23 (wordQ_read i arg3.view X_arg3) (wordK_read i arg4.view X_arg4)
  · rfl
  · rfl
  · rfl
  · rfl
  · rw [View.read_writes_full, View.readAt_full]; exact congrArg (fun w => k0_pay29 w (arg6.view.read (Elt F) X_arg6)) (wordQ_read i arg3.view X_arg3)
  · rw [View.read_writes_full, View.readAt_full, View.readAt_full] <;> rfl
  · rw [View.read_writes_full, View.readAt_full]
  · rw [View.read_writes_full, View.readAt_full, View.readAt_full, View.readAt_full] <;> rfl
  · rw [View.read_writes_full, View.readAt_full]; exact congrArg (fun w => k0_pay26 w (arg12.view.read (Elt F) X_arg12)) (wordK_read i arg5.view X_arg5)
  · rw [View.read_writes_full] <;> rfl
  · rfl
  · rfl

theorem pointC_arg14 (𝒱 : Variants) (c : Dev nD) (bd : Option 𝒱.V) (i : grid0.Coords) (h1 : ¬ condZ i = 1#1) (h2 : k0_cond2 i = 1#1) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg22 : BufTy.Contents (Elt F) arg22.view.ty) (f_arg23 : BufTy.Contents (Elt F) arg23.view.ty) :
    arg14.view.read (Elt F) ((pointC (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X_arg3 X_arg4 X_arg5 X_arg6 X_arg7 X_arg8 X_arg9 X_arg10 X_arg11 X_arg12).2.1 f_arg13 f_arg14 f_arg15 f_arg22 f_arg23) = k0_pay10 (ptAcc i (arg3.view.read (Elt F) X_arg3) (arg4.view.read (Elt F) X_arg4) (arg5.view.read (Elt F) X_arg5) (arg6.view.read (Elt F) X_arg6) (arg7.view.read (Elt F) X_arg7) (arg8.view.read (Elt F) X_arg8) (arg9.view.read (Elt F) X_arg9) (arg10.view.read (Elt F) X_arg10) (arg11.view.read (Elt F) X_arg11) (arg12.view.read (Elt F) X_arg12) (arg22.view.read (Elt F) f_arg22) (arg23.view.read (Elt F) f_arg23)).b := by
  unfold pointC
  rw [View.read_writes_full]
  sl_unfold_words
  rw [View.readAt_full, st1_read_b]
  unfold ptAcc ptOps
  refine congrArg k0_pay10 (loop1_congr_b _ (Ops.ext' ?_ ?_ ?_ ?_ ?_ ?_ ?_ ?_ ?_ ?_) (Acc.ext' ?_ ?_ ?_))
  · exact congrArg₂ k0_pay23 (wordQ_read i arg3.view X_arg3) (wordK_read i arg4.view X_arg4)
  · rfl
  · rfl
  · rfl
  · rfl
  · rw [View.read_writes_full, View.readAt_full]; exact congrArg (fun w => k0_pay29 w (arg6.view.read (Elt F) X_arg6)) (wordQ_read i arg3.view X_arg3)
  · rw [View.read_writes_full, View.readAt_full, View.readAt_full] <;> rfl
  · rw [View.read_writes_full, View.readAt_full]
  · rw [View.read_writes_full, View.readAt_full, View.readAt_full, View.readAt_full] <;> rfl
  · rw [View.read_writes_full, View.readAt_full]; exact congrArg (fun w => k0_pay26 w (arg12.view.read (Elt F) X_arg12)) (wordK_read i arg5.view X_arg5)
  · rw [View.read_writes_full] <;> rfl
  · rfl
  · rfl

theorem pointC_arg15 (𝒱 : Variants) (c : Dev nD) (bd : Option 𝒱.V) (i : grid0.Coords) (h1 : ¬ condZ i = 1#1) (h2 : k0_cond2 i = 1#1) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg22 : BufTy.Contents (Elt F) arg22.view.ty) (f_arg23 : BufTy.Contents (Elt F) arg23.view.ty) :
    arg15.view.read (Elt F) ((pointC (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X_arg3 X_arg4 X_arg5 X_arg6 X_arg7 X_arg8 X_arg9 X_arg10 X_arg11 X_arg12).2.2.1 f_arg13 f_arg14 f_arg15 f_arg22 f_arg23) = k0_pay11 (ptAcc i (arg3.view.read (Elt F) X_arg3) (arg4.view.read (Elt F) X_arg4) (arg5.view.read (Elt F) X_arg5) (arg6.view.read (Elt F) X_arg6) (arg7.view.read (Elt F) X_arg7) (arg8.view.read (Elt F) X_arg8) (arg9.view.read (Elt F) X_arg9) (arg10.view.read (Elt F) X_arg10) (arg11.view.read (Elt F) X_arg11) (arg12.view.read (Elt F) X_arg12) (arg22.view.read (Elt F) f_arg22) (arg23.view.read (Elt F) f_arg23)).c := by
  unfold pointC
  rw [View.read_writes_full]
  sl_unfold_words
  rw [View.readAt_full, st1_read_c]
  unfold ptAcc ptOps
  refine congrArg k0_pay11 (loop1_congr_c _ (Ops.ext' ?_ ?_ ?_ ?_ ?_ ?_ ?_ ?_ ?_ ?_) (Acc.ext' ?_ ?_ ?_))
  · exact congrArg₂ k0_pay23 (wordQ_read i arg3.view X_arg3) (wordK_read i arg4.view X_arg4)
  · rfl
  · rfl
  · rfl
  · rfl
  · rw [View.read_writes_full, View.readAt_full]; exact congrArg (fun w => k0_pay29 w (arg6.view.read (Elt F) X_arg6)) (wordQ_read i arg3.view X_arg3)
  · rw [View.read_writes_full, View.readAt_full, View.readAt_full] <;> rfl
  · rw [View.read_writes_full, View.readAt_full]
  · rw [View.read_writes_full, View.readAt_full, View.readAt_full, View.readAt_full] <;> rfl
  · rw [View.read_writes_full, View.readAt_full]; exact congrArg (fun w => k0_pay26 w (arg12.view.read (Elt F) X_arg12)) (wordK_read i arg5.view X_arg5)
  · rw [View.read_writes_full] <;> rfl
  · rfl
  · rfl

end Cert.Kernel.Gen

end
-- ==== Proof.SoundK.lean ====
/- One grid point's triple over what each buffer reads: the operand blocks stay, the result blocks and the carried
   accumulators end at the pure functions of `PointK`. -/
module

public import proofs.«01_k».proof.Proof.PointK
public import Idealize.ShloMosaic.Lib.Pipeline.TableIdle

@[expose] public section

set_option maxRecDepth 16384
set_option maxHeartbeats 400000

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)

variable {F : FTy → Type} [FloatOps F]

/-- The resource algebra the triples are stated at. -/
local notation "𝕄G" => MT nD τ sig Unit (Elt F) ℕ (UR sig nD τ) ℕ

/-- The kernel's buffers, by what each reads: the ten operand blocks, the three result blocks, the two carried
    accumulators; the six other scratch buffers at anything. -/
def PointOwn (c : Dev nD) (arg3 : Memref sig .tc .smem S32 .f32) (arg4 : Memref sig .tc .smem S4 .f32) (arg5 : Memref sig .tc .smem S4 .f32) (arg6 : Memref sig .tc .vmem S1x1x2048x96 .fp8e4m3) (arg7 : Memref sig .tc .vmem S1x1x2048x96 .fp8e4m3) (arg8 : Memref sig .tc .vmem S1x1x2048x96 .fp8e4m3) (arg9 : Memref sig .tc .vmem S1x1x2048x96 .bf16) (arg10 : Memref sig .tc .vmem S1x1x2048x96 .fp8e5m2) (arg11 : Memref sig .tc .vmem S1x1x1x2048 .f32) (arg12 : Memref sig .tc .vmem S1x1x1x2048 .f32) (arg13 : Memref sig .tc .vmem S1x1x2048x96 .bf16) (arg14 : Memref sig .tc .vmem S1x1x2048x96 .bf16) (arg15 : Memref sig .tc .vmem S1x1x2048x96 .bf16) (arg16 : Memref sig .tc .vmem S2048x96 .bf16) (arg17 : Memref sig .tc .vmem S2048x96 .bf16) (arg18 : Memref sig .tc .vmem S2048x128 .f32) (arg19 : Memref sig .tc .vmem S2048x128 .f32) (arg20 : Memref sig .tc .vmem S2048x128 .f32) (arg21 : Memref sig .tc .vmem S2048x96 .f32) (arg22 : Memref sig .tc .vmem S2048x96 .f32) (arg23 : Memref sig .tc .vmem S2048x96 .f32) (x_arg3 : Vec F S32 .f32) (x_arg4 : Vec F S4 .f32) (x_arg5 : Vec F S4 .f32) (x_arg6 : Vec F S1x1x2048x96 .fp8e4m3) (x_arg7 : Vec F S1x1x2048x96 .fp8e4m3) (x_arg8 : Vec F S1x1x2048x96 .fp8e4m3) (x_arg9 : Vec F S1x1x2048x96 .bf16) (x_arg10 : Vec F S1x1x2048x96 .fp8e5m2) (x_arg11 : Vec F S1x1x1x2048 .f32) (x_arg12 : Vec F S1x1x1x2048 .f32) (y_arg13 : Vec F S1x1x2048x96 .bf16) (y_arg14 : Vec F S1x1x2048x96 .bf16) (y_arg15 : Vec F S1x1x2048x96 .bf16) (y_arg22 : Vec F S2048x96 .f32) (y_arg23 : Vec F S2048x96 .f32) : sProp 𝕄G :=
  iprop(owns (c : Thread nD τ) arg3 fullShare x_arg3 ∗ owns (c : Thread nD τ) arg4 fullShare x_arg4 ∗ owns (c : Thread nD τ) arg5 fullShare x_arg5 ∗ owns (c : Thread nD τ) arg6 fullShare x_arg6 ∗ owns (c : Thread nD τ) arg7 fullShare x_arg7 ∗ owns (c : Thread nD τ) arg8 fullShare x_arg8 ∗ owns (c : Thread nD τ) arg9 fullShare x_arg9 ∗ owns (c : Thread nD τ) arg10 fullShare x_arg10 ∗ owns (c : Thread nD τ) arg11 fullShare x_arg11 ∗ owns (c : Thread nD τ) arg12 fullShare x_arg12 ∗ owns (c : Thread nD τ) arg13 fullShare y_arg13 ∗ owns (c : Thread nD τ) arg14 fullShare y_arg14 ∗ owns (c : Thread nD τ) arg15 fullShare y_arg15 ∗ owns (c : Thread nD τ) arg22 fullShare y_arg22 ∗ owns (c : Thread nD τ) arg23 fullShare y_arg23 ∗ (∃ x : Vec F S2048x96 .bf16, owns (c : Thread nD τ) arg16 fullShare x) ∗ (∃ x : Vec F S2048x96 .bf16, owns (c : Thread nD τ) arg17 fullShare x) ∗ (∃ x : Vec F S2048x128 .f32, owns (c : Thread nD τ) arg18 fullShare x) ∗ (∃ x : Vec F S2048x128 .f32, owns (c : Thread nD τ) arg19 fullShare x) ∗ (∃ x : Vec F S2048x128 .f32, owns (c : Thread nD τ) arg20 fullShare x) ∗ (∃ x : Vec F S2048x96 .f32, owns (c : Thread nD τ) arg21 fullShare x))

theorem owns_of_pts (c : Dev nD) {sp : Space} {sh : Shape} {e : EltTy} (a : Memref sig .tc sp sh e) (f : a.view.ty.Contents (Elt F))
    (x : sh.Idx → Elt F e) (h : a.view.read (Elt F) f = x) :
    ((a.view.loc (c : Thread nD τ) ↦[a.view.set]{fullShare} f) : sProp 𝕄G) ⊢ owns (c : Thread nD τ) a fullShare x := by
  unfold owns
  iintro H
  iexists f
  isplitr; · ipureintro; exact h
  iexact H

theorem owns_of_ex_pts (c : Dev nD) {sp : Space} {sh : Shape} {e : EltTy} (a : Memref sig .tc sp sh e) :
    (iprop(∃ f : BufTy.Contents (Elt F) a.view.ty, a.view.loc (c : Thread nD τ) ↦[a.view.set]{fullShare} f) : sProp 𝕄G)
      ⊢ iprop(∃ x : sh.Idx → Elt F e, owns (c : Thread nD τ) a fullShare x) := by
  iintro ⟨%f, H⟩
  iexists (a.view.read (Elt F) f)
  iapply (owns_of_pts c a f _ rfl)
  iexact H

theorem pts_of_ex_owns (c : Dev nD) {sp : Space} {sh : Shape} {e : EltTy} (a : Memref sig .tc sp sh e) :
    (iprop(∃ x : sh.Idx → Elt F e, owns (c : Thread nD τ) a fullShare x) : sProp 𝕄G)
      ⊢ iprop(∃ f : BufTy.Contents (Elt F) a.view.ty, a.view.loc (c : Thread nD τ) ↦[a.view.set]{fullShare} f) := by
  iintro ⟨%x, H⟩
  iexists (a.view.rep x)
  iapply (rep_of_owns (c : Thread nD τ) a fullShare x)
  iexact H

theorem pre_of_own (c : Dev nD) (arg3 : Memref sig .tc .smem S32 .f32) (arg4 : Memref sig .tc .smem S4 .f32) (arg5 : Memref sig .tc .smem S4 .f32) (arg6 : Memref sig .tc .vmem S1x1x2048x96 .fp8e4m3) (arg7 : Memref sig .tc .vmem S1x1x2048x96 .fp8e4m3) (arg8 : Memref sig .tc .vmem S1x1x2048x96 .fp8e4m3) (arg9 : Memref sig .tc .vmem S1x1x2048x96 .bf16) (arg10 : Memref sig .tc .vmem S1x1x2048x96 .fp8e5m2) (arg11 : Memref sig .tc .vmem S1x1x1x2048 .f32) (arg12 : Memref sig .tc .vmem S1x1x1x2048 .f32) (arg13 : Memref sig .tc .vmem S1x1x2048x96 .bf16) (arg14 : Memref sig .tc .vmem S1x1x2048x96 .bf16) (arg15 : Memref sig .tc .vmem S1x1x2048x96 .bf16) (arg16 : Memref sig .tc .vmem S2048x96 .bf16) (arg17 : Memref sig .tc .vmem S2048x96 .bf16) (arg18 : Memref sig .tc .vmem S2048x128 .f32) (arg19 : Memref sig .tc .vmem S2048x128 .f32) (arg20 : Memref sig .tc .vmem S2048x128 .f32) (arg21 : Memref sig .tc .vmem S2048x96 .f32) (arg22 : Memref sig .tc .vmem S2048x96 .f32) (arg23 : Memref sig .tc .vmem S2048x96 .f32) (x_arg3 : Vec F S32 .f32) (x_arg4 : Vec F S4 .f32) (x_arg5 : Vec F S4 .f32) (x_arg6 : Vec F S1x1x2048x96 .fp8e4m3) (x_arg7 : Vec F S1x1x2048x96 .fp8e4m3) (x_arg8 : Vec F S1x1x2048x96 .fp8e4m3) (x_arg9 : Vec F S1x1x2048x96 .bf16) (x_arg10 : Vec F S1x1x2048x96 .fp8e5m2) (x_arg11 : Vec F S1x1x1x2048 .f32) (x_arg12 : Vec F S1x1x1x2048 .f32) (y_arg13 : Vec F S1x1x2048x96 .bf16) (y_arg14 : Vec F S1x1x2048x96 .bf16) (y_arg15 : Vec F S1x1x2048x96 .bf16) (y_arg22 : Vec F S2048x96 .f32) (y_arg23 : Vec F S2048x96 .f32) :
    PointOwn c arg3 arg4 arg5 arg6 arg7 arg8 arg9 arg10 arg11 arg12 arg13 arg14 arg15 arg16 arg17 arg18 arg19 arg20 arg21 arg22 arg23 x_arg3 x_arg4 x_arg5 x_arg6 x_arg7 x_arg8 x_arg9 x_arg10 x_arg11 x_arg12 y_arg13 y_arg14 y_arg15 y_arg22 y_arg23 ⊢ PointPre (F := F) c arg3 arg4 arg5 arg6 arg7 arg8 arg9 arg10 arg11 arg12 arg13 arg14 arg15 arg16 arg17 arg18 arg19 arg20 arg21 arg22 arg23 (arg3.view.rep x_arg3) (arg4.view.rep x_arg4) (arg5.view.rep x_arg5) (arg6.view.rep x_arg6) (arg7.view.rep x_arg7) (arg8.view.rep x_arg8) (arg9.view.rep x_arg9) (arg10.view.rep x_arg10) (arg11.view.rep x_arg11) (arg12.view.rep x_arg12) (arg13.view.rep y_arg13) (arg14.view.rep y_arg14) (arg15.view.rep y_arg15) (arg22.view.rep y_arg22) (arg23.view.rep y_arg23) :=
  by
  unfold PointOwn PointPre
  refine Idealize.SL.BI.sep_mono (rep_of_owns (c : Thread nD τ) arg3 fullShare x_arg3) ?_
  refine Idealize.SL.BI.sep_mono (rep_of_owns (c : Thread nD τ) arg4 fullShare x_arg4) ?_
  refine Idealize.SL.BI.sep_mono (rep_of_owns (c : Thread nD τ) arg5 fullShare x_arg5) ?_
  refine Idealize.SL.BI.sep_mono (rep_of_owns (c : Thread nD τ) arg6 fullShare x_arg6) ?_
  refine Idealize.SL.BI.sep_mono (rep_of_owns (c : Thread nD τ) arg7 fullShare x_arg7) ?_
  refine Idealize.SL.BI.sep_mono (rep_of_owns (c : Thread nD τ) arg8 fullShare x_arg8) ?_
  refine Idealize.SL.BI.sep_mono (rep_of_owns (c : Thread nD τ) arg9 fullShare x_arg9) ?_
  refine Idealize.SL.BI.sep_mono (rep_of_owns (c : Thread nD τ) arg10 fullShare x_arg10) ?_
  refine Idealize.SL.BI.sep_mono (rep_of_owns (c : Thread nD τ) arg11 fullShare x_arg11) ?_
  refine Idealize.SL.BI.sep_mono (rep_of_owns (c : Thread nD τ) arg12 fullShare x_arg12) ?_
  refine Idealize.SL.BI.sep_mono (rep_of_owns (c : Thread nD τ) arg13 fullShare y_arg13) ?_
  refine Idealize.SL.BI.sep_mono (rep_of_owns (c : Thread nD τ) arg14 fullShare y_arg14) ?_
  refine Idealize.SL.BI.sep_mono (rep_of_owns (c : Thread nD τ) arg15 fullShare y_arg15) ?_
  refine Idealize.SL.BI.sep_mono (rep_of_owns (c : Thread nD τ) arg22 fullShare y_arg22) ?_
  refine Idealize.SL.BI.sep_mono (rep_of_owns (c : Thread nD τ) arg23 fullShare y_arg23) ?_
  refine Idealize.SL.BI.sep_mono (pts_of_ex_owns c arg16) ?_
  refine Idealize.SL.BI.sep_mono (pts_of_ex_owns c arg17) ?_
  refine Idealize.SL.BI.sep_mono (pts_of_ex_owns c arg18) ?_
  refine Idealize.SL.BI.sep_mono (pts_of_ex_owns c arg19) ?_
  refine Idealize.SL.BI.sep_mono (pts_of_ex_owns c arg20) ?_
  exact (pts_of_ex_owns c arg21)

theorem own_of_pre (c : Dev nD) (arg3 : Memref sig .tc .smem S32 .f32) (arg4 : Memref sig .tc .smem S4 .f32) (arg5 : Memref sig .tc .smem S4 .f32) (arg6 : Memref sig .tc .vmem S1x1x2048x96 .fp8e4m3) (arg7 : Memref sig .tc .vmem S1x1x2048x96 .fp8e4m3) (arg8 : Memref sig .tc .vmem S1x1x2048x96 .fp8e4m3) (arg9 : Memref sig .tc .vmem S1x1x2048x96 .bf16) (arg10 : Memref sig .tc .vmem S1x1x2048x96 .fp8e5m2) (arg11 : Memref sig .tc .vmem S1x1x1x2048 .f32) (arg12 : Memref sig .tc .vmem S1x1x1x2048 .f32) (arg13 : Memref sig .tc .vmem S1x1x2048x96 .bf16) (arg14 : Memref sig .tc .vmem S1x1x2048x96 .bf16) (arg15 : Memref sig .tc .vmem S1x1x2048x96 .bf16) (arg16 : Memref sig .tc .vmem S2048x96 .bf16) (arg17 : Memref sig .tc .vmem S2048x96 .bf16) (arg18 : Memref sig .tc .vmem S2048x128 .f32) (arg19 : Memref sig .tc .vmem S2048x128 .f32) (arg20 : Memref sig .tc .vmem S2048x128 .f32) (arg21 : Memref sig .tc .vmem S2048x96 .f32) (arg22 : Memref sig .tc .vmem S2048x96 .f32) (arg23 : Memref sig .tc .vmem S2048x96 .f32) (x_arg3 : Vec F S32 .f32) (x_arg4 : Vec F S4 .f32) (x_arg5 : Vec F S4 .f32) (x_arg6 : Vec F S1x1x2048x96 .fp8e4m3) (x_arg7 : Vec F S1x1x2048x96 .fp8e4m3) (x_arg8 : Vec F S1x1x2048x96 .fp8e4m3) (x_arg9 : Vec F S1x1x2048x96 .bf16) (x_arg10 : Vec F S1x1x2048x96 .fp8e5m2) (x_arg11 : Vec F S1x1x1x2048 .f32) (x_arg12 : Vec F S1x1x1x2048 .f32) (f_arg13 : BufTy.Contents (Elt F) arg13.view.ty) (f_arg14 : BufTy.Contents (Elt F) arg14.view.ty) (f_arg15 : BufTy.Contents (Elt F) arg15.view.ty) (f_arg22 : BufTy.Contents (Elt F) arg22.view.ty) (f_arg23 : BufTy.Contents (Elt F) arg23.view.ty) (y_arg13 : Vec F S1x1x2048x96 .bf16) (y_arg14 : Vec F S1x1x2048x96 .bf16) (y_arg15 : Vec F S1x1x2048x96 .bf16) (y_arg22 : Vec F S2048x96 .f32) (y_arg23 : Vec F S2048x96 .f32)
    (h_arg13 : arg13.view.read (Elt F) f_arg13 = y_arg13) (h_arg14 : arg14.view.read (Elt F) f_arg14 = y_arg14) (h_arg15 : arg15.view.read (Elt F) f_arg15 = y_arg15) (h_arg22 : arg22.view.read (Elt F) f_arg22 = y_arg22) (h_arg23 : arg23.view.read (Elt F) f_arg23 = y_arg23) :
    PointPre (F := F) c arg3 arg4 arg5 arg6 arg7 arg8 arg9 arg10 arg11 arg12 arg13 arg14 arg15 arg16 arg17 arg18 arg19 arg20 arg21 arg22 arg23 (arg3.view.rep x_arg3) (arg4.view.rep x_arg4) (arg5.view.rep x_arg5) (arg6.view.rep x_arg6) (arg7.view.rep x_arg7) (arg8.view.rep x_arg8) (arg9.view.rep x_arg9) (arg10.view.rep x_arg10) (arg11.view.rep x_arg11) (arg12.view.rep x_arg12) f_arg13 f_arg14 f_arg15 f_arg22 f_arg23 ⊢ PointOwn c arg3 arg4 arg5 arg6 arg7 arg8 arg9 arg10 arg11 arg12 arg13 arg14 arg15 arg16 arg17 arg18 arg19 arg20 arg21 arg22 arg23 x_arg3 x_arg4 x_arg5 x_arg6 x_arg7 x_arg8 x_arg9 x_arg10 x_arg11 x_arg12 y_arg13 y_arg14 y_arg15 y_arg22 y_arg23 :=
  by
  unfold PointOwn PointPre
  refine Idealize.SL.BI.sep_mono (owns_of_pts c arg3 (arg3.view.rep x_arg3) x_arg3 (View.read_rep _ _)) ?_
  refine Idealize.SL.BI.sep_mono (owns_of_pts c arg4 (arg4.view.rep x_arg4) x_arg4 (View.read_rep _ _)) ?_
  refine Idealize.SL.BI.sep_mono (owns_of_pts c arg5 (arg5.view.rep x_arg5) x_arg5 (View.read_rep _ _)) ?_
  refine Idealize.SL.BI.sep_mono (owns_of_pts c arg6 (arg6.view.rep x_arg6) x_arg6 (View.read_rep _ _)) ?_
  refine Idealize.SL.BI.sep_mono (owns_of_pts c arg7 (arg7.view.rep x_arg7) x_arg7 (View.read_rep _ _)) ?_
  refine Idealize.SL.BI.sep_mono (owns_of_pts c arg8 (arg8.view.rep x_arg8) x_arg8 (View.read_rep _ _)) ?_
  refine Idealize.SL.BI.sep_mono (owns_of_pts c arg9 (arg9.view.rep x_arg9) x_arg9 (View.read_rep _ _)) ?_
  refine Idealize.SL.BI.sep_mono (owns_of_pts c arg10 (arg10.view.rep x_arg10) x_arg10 (View.read_rep _ _)) ?_
  refine Idealize.SL.BI.sep_mono (owns_of_pts c arg11 (arg11.view.rep x_arg11) x_arg11 (View.read_rep _ _)) ?_
  refine Idealize.SL.BI.sep_mono (owns_of_pts c arg12 (arg12.view.rep x_arg12) x_arg12 (View.read_rep _ _)) ?_
  refine Idealize.SL.BI.sep_mono (owns_of_pts c arg13 f_arg13 y_arg13 h_arg13) ?_
  refine Idealize.SL.BI.sep_mono (owns_of_pts c arg14 f_arg14 y_arg14 h_arg14) ?_
  refine Idealize.SL.BI.sep_mono (owns_of_pts c arg15 f_arg15 y_arg15 h_arg15) ?_
  refine Idealize.SL.BI.sep_mono (owns_of_pts c arg22 f_arg22 y_arg22 h_arg22) ?_
  refine Idealize.SL.BI.sep_mono (owns_of_pts c arg23 f_arg23 y_arg23 h_arg23) ?_
  refine Idealize.SL.BI.sep_mono (owns_of_ex_pts c arg16) ?_
  refine Idealize.SL.BI.sep_mono (owns_of_ex_pts c arg17) ?_
  refine Idealize.SL.BI.sep_mono (owns_of_ex_pts c arg18) ?_
  refine Idealize.SL.BI.sep_mono (owns_of_ex_pts c arg19) ?_
  refine Idealize.SL.BI.sep_mono (owns_of_ex_pts c arg20) ?_
  exact (owns_of_ex_pts c arg21)

/-- One grid point at the first head of a group: the carried accumulators start from zero, whatever they held. -/
theorem soundA (𝒱 : Variants) (c : Dev nD) (bd : Option 𝒱.V) (i : grid0.Coords) (h1 : condZ i = 1#1) (h2 : ¬ k0_cond2 i = 1#1) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (E : Set ℕ) (x_arg3 : Vec F S32 .f32) (x_arg4 : Vec F S4 .f32) (x_arg5 : Vec F S4 .f32) (x_arg6 : Vec F S1x1x2048x96 .fp8e4m3) (x_arg7 : Vec F S1x1x2048x96 .fp8e4m3) (x_arg8 : Vec F S1x1x2048x96 .fp8e4m3) (x_arg9 : Vec F S1x1x2048x96 .bf16) (x_arg10 : Vec F S1x1x2048x96 .fp8e5m2) (x_arg11 : Vec F S1x1x1x2048 .f32) (x_arg12 : Vec F S1x1x1x2048 .f32) (y_arg13 : Vec F S1x1x2048x96 .bf16) (y_arg14 : Vec F S1x1x2048x96 .bf16) (y_arg15 : Vec F S1x1x2048x96 .bf16) (y_arg22 : Vec F S2048x96 .f32) (y_arg23 : Vec F S2048x96 .f32) :
    PointOwn c arg3 arg4 arg5 arg6 arg7 arg8 arg9 arg10 arg11 arg12 arg13 arg14 arg15 arg16 arg17 arg18 arg19 arg20 arg21 arg22 arg23 x_arg3 x_arg4 x_arg5 x_arg6 x_arg7 x_arg8 x_arg9 x_arg10 x_arg11 x_arg12 y_arg13 y_arg14 y_arg15 y_arg22 y_arg23
      ⊢ wp frame (wpE (defs₀ (F := F)) 𝒱 (c : Thread nD τ) bd) E (cc0_attn_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23)
          (fun _ => PointOwn c arg3 arg4 arg5 arg6 arg7 arg8 arg9 arg10 arg11 arg12 arg13 arg14 arg15 arg16 arg17 arg18 arg19 arg20 arg21 arg22 arg23 x_arg3 x_arg4 x_arg5 x_arg6 x_arg7 x_arg8 x_arg9 x_arg10 x_arg11 x_arg12 (k0_pay9 (wordK i x_arg4) (ptAcc i x_arg3 x_arg4 x_arg5 x_arg6 x_arg7 x_arg8 x_arg9 x_arg10 x_arg11 x_arg12 k0_pay1 k0_pay2).a) y_arg14 y_arg15 (ptAcc i x_arg3 x_arg4 x_arg5 x_arg6 x_arg7 x_arg8 x_arg9 x_arg10 x_arg11 x_arg12 k0_pay1 k0_pay2).b (ptAcc i x_arg3 x_arg4 x_arg5 x_arg6 x_arg7 x_arg8 x_arg9 x_arg10 x_arg11 x_arg12 k0_pay1 k0_pay2).c) :=
  (pre_of_own c arg3 arg4 arg5 arg6 arg7 arg8 arg9 arg10 arg11 arg12 arg13 arg14 arg15 arg16 arg17 arg18 arg19 arg20 arg21 arg22 arg23 x_arg3 x_arg4 x_arg5 x_arg6 x_arg7 x_arg8 x_arg9 x_arg10 x_arg11 x_arg12 y_arg13 y_arg14 y_arg15 y_arg22 y_arg23).trans
    (((pointA (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (arg3.view.rep x_arg3) (arg4.view.rep x_arg4) (arg5.view.rep x_arg5) (arg6.view.rep x_arg6) (arg7.view.rep x_arg7) (arg8.view.rep x_arg8) (arg9.view.rep x_arg9) (arg10.view.rep x_arg10) (arg11.view.rep x_arg11) (arg12.view.rep x_arg12)).2.2.2.2.property E (arg13.view.rep y_arg13) (arg14.view.rep y_arg14) (arg15.view.rep y_arg15) (arg22.view.rep y_arg22) (arg23.view.rep y_arg23)).trans
      (wp_mono _ _ _ fun _ => own_of_pre c arg3 arg4 arg5 arg6 arg7 arg8 arg9 arg10 arg11 arg12 arg13 arg14 arg15 arg16 arg17 arg18 arg19 arg20 arg21 arg22 arg23 x_arg3 x_arg4 x_arg5 x_arg6 x_arg7 x_arg8 x_arg9 x_arg10 x_arg11 x_arg12 _ _ _ _ _ _ _ _ _ _
        ((pointA_dq (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (arg3.view.rep x_arg3) (arg4.view.rep x_arg4) (arg5.view.rep x_arg5) (arg6.view.rep x_arg6) (arg7.view.rep x_arg7) (arg8.view.rep x_arg8) (arg9.view.rep x_arg9) (arg10.view.rep x_arg10) (arg11.view.rep x_arg11) (arg12.view.rep x_arg12) (arg13.view.rep y_arg13) (arg14.view.rep y_arg14) (arg15.view.rep y_arg15) (arg22.view.rep y_arg22) (arg23.view.rep y_arg23)).trans (by simp only [View.read_rep]))
        ((congrArg (arg14.view.read (Elt F)) (pointA_arg14 (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (arg3.view.rep x_arg3) (arg4.view.rep x_arg4) (arg5.view.rep x_arg5) (arg6.view.rep x_arg6) (arg7.view.rep x_arg7) (arg8.view.rep x_arg8) (arg9.view.rep x_arg9) (arg10.view.rep x_arg10) (arg11.view.rep x_arg11) (arg12.view.rep x_arg12) (arg13.view.rep y_arg13) (arg14.view.rep y_arg14) (arg15.view.rep y_arg15) (arg22.view.rep y_arg22) (arg23.view.rep y_arg23))).trans (View.read_rep _ _))
        ((congrArg (arg15.view.read (Elt F)) (pointA_arg15 (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (arg3.view.rep x_arg3) (arg4.view.rep x_arg4) (arg5.view.rep x_arg5) (arg6.view.rep x_arg6) (arg7.view.rep x_arg7) (arg8.view.rep x_arg8) (arg9.view.rep x_arg9) (arg10.view.rep x_arg10) (arg11.view.rep x_arg11) (arg12.view.rep x_arg12) (arg13.view.rep y_arg13) (arg14.view.rep y_arg14) (arg15.view.rep y_arg15) (arg22.view.rep y_arg22) (arg23.view.rep y_arg23))).trans (View.read_rep _ _))
        ((pointA_b (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (arg3.view.rep x_arg3) (arg4.view.rep x_arg4) (arg5.view.rep x_arg5) (arg6.view.rep x_arg6) (arg7.view.rep x_arg7) (arg8.view.rep x_arg8) (arg9.view.rep x_arg9) (arg10.view.rep x_arg10) (arg11.view.rep x_arg11) (arg12.view.rep x_arg12) (arg13.view.rep y_arg13) (arg14.view.rep y_arg14) (arg15.view.rep y_arg15) (arg22.view.rep y_arg22) (arg23.view.rep y_arg23)).trans (by simp only [View.read_rep]))
        ((pointA_c (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (arg3.view.rep x_arg3) (arg4.view.rep x_arg4) (arg5.view.rep x_arg5) (arg6.view.rep x_arg6) (arg7.view.rep x_arg7) (arg8.view.rep x_arg8) (arg9.view.rep x_arg9) (arg10.view.rep x_arg10) (arg11.view.rep x_arg11) (arg12.view.rep x_arg12) (arg13.view.rep y_arg13) (arg14.view.rep y_arg14) (arg15.view.rep y_arg15) (arg22.view.rep y_arg22) (arg23.view.rep y_arg23)).trans (by simp only [View.read_rep]))))

/-- One grid point at a head between the first and the last: the carried accumulators go on. -/
theorem soundB (𝒱 : Variants) (c : Dev nD) (bd : Option 𝒱.V) (i : grid0.Coords) (h1 : ¬ condZ i = 1#1) (h2 : ¬ k0_cond2 i = 1#1) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (E : Set ℕ) (x_arg3 : Vec F S32 .f32) (x_arg4 : Vec F S4 .f32) (x_arg5 : Vec F S4 .f32) (x_arg6 : Vec F S1x1x2048x96 .fp8e4m3) (x_arg7 : Vec F S1x1x2048x96 .fp8e4m3) (x_arg8 : Vec F S1x1x2048x96 .fp8e4m3) (x_arg9 : Vec F S1x1x2048x96 .bf16) (x_arg10 : Vec F S1x1x2048x96 .fp8e5m2) (x_arg11 : Vec F S1x1x1x2048 .f32) (x_arg12 : Vec F S1x1x1x2048 .f32) (y_arg13 : Vec F S1x1x2048x96 .bf16) (y_arg14 : Vec F S1x1x2048x96 .bf16) (y_arg15 : Vec F S1x1x2048x96 .bf16) (y_arg22 : Vec F S2048x96 .f32) (y_arg23 : Vec F S2048x96 .f32) :
    PointOwn c arg3 arg4 arg5 arg6 arg7 arg8 arg9 arg10 arg11 arg12 arg13 arg14 arg15 arg16 arg17 arg18 arg19 arg20 arg21 arg22 arg23 x_arg3 x_arg4 x_arg5 x_arg6 x_arg7 x_arg8 x_arg9 x_arg10 x_arg11 x_arg12 y_arg13 y_arg14 y_arg15 y_arg22 y_arg23
      ⊢ wp frame (wpE (defs₀ (F := F)) 𝒱 (c : Thread nD τ) bd) E (cc0_attn_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23)
          (fun _ => PointOwn c arg3 arg4 arg5 arg6 arg7 arg8 arg9 arg10 arg11 arg12 arg13 arg14 arg15 arg16 arg17 arg18 arg19 arg20 arg21 arg22 arg23 x_arg3 x_arg4 x_arg5 x_arg6 x_arg7 x_arg8 x_arg9 x_arg10 x_arg11 x_arg12 (k0_pay9 (wordK i x_arg4) (ptAcc i x_arg3 x_arg4 x_arg5 x_arg6 x_arg7 x_arg8 x_arg9 x_arg10 x_arg11 x_arg12 y_arg22 y_arg23).a) y_arg14 y_arg15 (ptAcc i x_arg3 x_arg4 x_arg5 x_arg6 x_arg7 x_arg8 x_arg9 x_arg10 x_arg11 x_arg12 y_arg22 y_arg23).b (ptAcc i x_arg3 x_arg4 x_arg5 x_arg6 x_arg7 x_arg8 x_arg9 x_arg10 x_arg11 x_arg12 y_arg22 y_arg23).c) :=
  (pre_of_own c arg3 arg4 arg5 arg6 arg7 arg8 arg9 arg10 arg11 arg12 arg13 arg14 arg15 arg16 arg17 arg18 arg19 arg20 arg21 arg22 arg23 x_arg3 x_arg4 x_arg5 x_arg6 x_arg7 x_arg8 x_arg9 x_arg10 x_arg11 x_arg12 y_arg13 y_arg14 y_arg15 y_arg22 y_arg23).trans
    (((pointB (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (arg3.view.rep x_arg3) (arg4.view.rep x_arg4) (arg5.view.rep x_arg5) (arg6.view.rep x_arg6) (arg7.view.rep x_arg7) (arg8.view.rep x_arg8) (arg9.view.rep x_arg9) (arg10.view.rep x_arg10) (arg11.view.rep x_arg11) (arg12.view.rep x_arg12)).2.2.2.2.property E (arg13.view.rep y_arg13) (arg14.view.rep y_arg14) (arg15.view.rep y_arg15) (arg22.view.rep y_arg22) (arg23.view.rep y_arg23)).trans
      (wp_mono _ _ _ fun _ => own_of_pre c arg3 arg4 arg5 arg6 arg7 arg8 arg9 arg10 arg11 arg12 arg13 arg14 arg15 arg16 arg17 arg18 arg19 arg20 arg21 arg22 arg23 x_arg3 x_arg4 x_arg5 x_arg6 x_arg7 x_arg8 x_arg9 x_arg10 x_arg11 x_arg12 _ _ _ _ _ _ _ _ _ _
        ((pointB_dq (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (arg3.view.rep x_arg3) (arg4.view.rep x_arg4) (arg5.view.rep x_arg5) (arg6.view.rep x_arg6) (arg7.view.rep x_arg7) (arg8.view.rep x_arg8) (arg9.view.rep x_arg9) (arg10.view.rep x_arg10) (arg11.view.rep x_arg11) (arg12.view.rep x_arg12) (arg13.view.rep y_arg13) (arg14.view.rep y_arg14) (arg15.view.rep y_arg15) (arg22.view.rep y_arg22) (arg23.view.rep y_arg23)).trans (by simp only [View.read_rep]))
        ((congrArg (arg14.view.read (Elt F)) (pointB_arg14 (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (arg3.view.rep x_arg3) (arg4.view.rep x_arg4) (arg5.view.rep x_arg5) (arg6.view.rep x_arg6) (arg7.view.rep x_arg7) (arg8.view.rep x_arg8) (arg9.view.rep x_arg9) (arg10.view.rep x_arg10) (arg11.view.rep x_arg11) (arg12.view.rep x_arg12) (arg13.view.rep y_arg13) (arg14.view.rep y_arg14) (arg15.view.rep y_arg15) (arg22.view.rep y_arg22) (arg23.view.rep y_arg23))).trans (View.read_rep _ _))
        ((congrArg (arg15.view.read (Elt F)) (pointB_arg15 (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (arg3.view.rep x_arg3) (arg4.view.rep x_arg4) (arg5.view.rep x_arg5) (arg6.view.rep x_arg6) (arg7.view.rep x_arg7) (arg8.view.rep x_arg8) (arg9.view.rep x_arg9) (arg10.view.rep x_arg10) (arg11.view.rep x_arg11) (arg12.view.rep x_arg12) (arg13.view.rep y_arg13) (arg14.view.rep y_arg14) (arg15.view.rep y_arg15) (arg22.view.rep y_arg22) (arg23.view.rep y_arg23))).trans (View.read_rep _ _))
        ((pointB_b (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (arg3.view.rep x_arg3) (arg4.view.rep x_arg4) (arg5.view.rep x_arg5) (arg6.view.rep x_arg6) (arg7.view.rep x_arg7) (arg8.view.rep x_arg8) (arg9.view.rep x_arg9) (arg10.view.rep x_arg10) (arg11.view.rep x_arg11) (arg12.view.rep x_arg12) (arg13.view.rep y_arg13) (arg14.view.rep y_arg14) (arg15.view.rep y_arg15) (arg22.view.rep y_arg22) (arg23.view.rep y_arg23)).trans (by simp only [View.read_rep]))
        ((pointB_c (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (arg3.view.rep x_arg3) (arg4.view.rep x_arg4) (arg5.view.rep x_arg5) (arg6.view.rep x_arg6) (arg7.view.rep x_arg7) (arg8.view.rep x_arg8) (arg9.view.rep x_arg9) (arg10.view.rep x_arg10) (arg11.view.rep x_arg11) (arg12.view.rep x_arg12) (arg13.view.rep y_arg13) (arg14.view.rep y_arg14) (arg15.view.rep y_arg15) (arg22.view.rep y_arg22) (arg23.view.rep y_arg23)).trans (by simp only [View.read_rep]))))

/-- One grid point at the last head of a group: the carried accumulators go on, and are written to the result blocks. -/
theorem soundC (𝒱 : Variants) (c : Dev nD) (bd : Option 𝒱.V) (i : grid0.Coords) (h1 : ¬ condZ i = 1#1) (h2 : k0_cond2 i = 1#1) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (E : Set ℕ) (x_arg3 : Vec F S32 .f32) (x_arg4 : Vec F S4 .f32) (x_arg5 : Vec F S4 .f32) (x_arg6 : Vec F S1x1x2048x96 .fp8e4m3) (x_arg7 : Vec F S1x1x2048x96 .fp8e4m3) (x_arg8 : Vec F S1x1x2048x96 .fp8e4m3) (x_arg9 : Vec F S1x1x2048x96 .bf16) (x_arg10 : Vec F S1x1x2048x96 .fp8e5m2) (x_arg11 : Vec F S1x1x1x2048 .f32) (x_arg12 : Vec F S1x1x1x2048 .f32) (y_arg13 : Vec F S1x1x2048x96 .bf16) (y_arg14 : Vec F S1x1x2048x96 .bf16) (y_arg15 : Vec F S1x1x2048x96 .bf16) (y_arg22 : Vec F S2048x96 .f32) (y_arg23 : Vec F S2048x96 .f32) :
    PointOwn c arg3 arg4 arg5 arg6 arg7 arg8 arg9 arg10 arg11 arg12 arg13 arg14 arg15 arg16 arg17 arg18 arg19 arg20 arg21 arg22 arg23 x_arg3 x_arg4 x_arg5 x_arg6 x_arg7 x_arg8 x_arg9 x_arg10 x_arg11 x_arg12 y_arg13 y_arg14 y_arg15 y_arg22 y_arg23
      ⊢ wp frame (wpE (defs₀ (F := F)) 𝒱 (c : Thread nD τ) bd) E (cc0_attn_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23)
          (fun _ => PointOwn c arg3 arg4 arg5 arg6 arg7 arg8 arg9 arg10 arg11 arg12 arg13 arg14 arg15 arg16 arg17 arg18 arg19 arg20 arg21 arg22 arg23 x_arg3 x_arg4 x_arg5 x_arg6 x_arg7 x_arg8 x_arg9 x_arg10 x_arg11 x_arg12 (k0_pay9 (wordK i x_arg4) (ptAcc i x_arg3 x_arg4 x_arg5 x_arg6 x_arg7 x_arg8 x_arg9 x_arg10 x_arg11 x_arg12 y_arg22 y_arg23).a) (k0_pay10 (ptAcc i x_arg3 x_arg4 x_arg5 x_arg6 x_arg7 x_arg8 x_arg9 x_arg10 x_arg11 x_arg12 y_arg22 y_arg23).b) (k0_pay11 (ptAcc i x_arg3 x_arg4 x_arg5 x_arg6 x_arg7 x_arg8 x_arg9 x_arg10 x_arg11 x_arg12 y_arg22 y_arg23).c) (ptAcc i x_arg3 x_arg4 x_arg5 x_arg6 x_arg7 x_arg8 x_arg9 x_arg10 x_arg11 x_arg12 y_arg22 y_arg23).b (ptAcc i x_arg3 x_arg4 x_arg5 x_arg6 x_arg7 x_arg8 x_arg9 x_arg10 x_arg11 x_arg12 y_arg22 y_arg23).c) :=
  (pre_of_own c arg3 arg4 arg5 arg6 arg7 arg8 arg9 arg10 arg11 arg12 arg13 arg14 arg15 arg16 arg17 arg18 arg19 arg20 arg21 arg22 arg23 x_arg3 x_arg4 x_arg5 x_arg6 x_arg7 x_arg8 x_arg9 x_arg10 x_arg11 x_arg12 y_arg13 y_arg14 y_arg15 y_arg22 y_arg23).trans
    (((pointC (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (arg3.view.rep x_arg3) (arg4.view.rep x_arg4) (arg5.view.rep x_arg5) (arg6.view.rep x_arg6) (arg7.view.rep x_arg7) (arg8.view.rep x_arg8) (arg9.view.rep x_arg9) (arg10.view.rep x_arg10) (arg11.view.rep x_arg11) (arg12.view.rep x_arg12)).2.2.2.2.property E (arg13.view.rep y_arg13) (arg14.view.rep y_arg14) (arg15.view.rep y_arg15) (arg22.view.rep y_arg22) (arg23.view.rep y_arg23)).trans
      (wp_mono _ _ _ fun _ => own_of_pre c arg3 arg4 arg5 arg6 arg7 arg8 arg9 arg10 arg11 arg12 arg13 arg14 arg15 arg16 arg17 arg18 arg19 arg20 arg21 arg22 arg23 x_arg3 x_arg4 x_arg5 x_arg6 x_arg7 x_arg8 x_arg9 x_arg10 x_arg11 x_arg12 _ _ _ _ _ _ _ _ _ _
        ((pointC_dq (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (arg3.view.rep x_arg3) (arg4.view.rep x_arg4) (arg5.view.rep x_arg5) (arg6.view.rep x_arg6) (arg7.view.rep x_arg7) (arg8.view.rep x_arg8) (arg9.view.rep x_arg9) (arg10.view.rep x_arg10) (arg11.view.rep x_arg11) (arg12.view.rep x_arg12) (arg13.view.rep y_arg13) (arg14.view.rep y_arg14) (arg15.view.rep y_arg15) (arg22.view.rep y_arg22) (arg23.view.rep y_arg23)).trans (by simp only [View.read_rep]))
        ((pointC_arg14 (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (arg3.view.rep x_arg3) (arg4.view.rep x_arg4) (arg5.view.rep x_arg5) (arg6.view.rep x_arg6) (arg7.view.rep x_arg7) (arg8.view.rep x_arg8) (arg9.view.rep x_arg9) (arg10.view.rep x_arg10) (arg11.view.rep x_arg11) (arg12.view.rep x_arg12) (arg13.view.rep y_arg13) (arg14.view.rep y_arg14) (arg15.view.rep y_arg15) (arg22.view.rep y_arg22) (arg23.view.rep y_arg23)).trans (by simp only [View.read_rep]))
        ((pointC_arg15 (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (arg3.view.rep x_arg3) (arg4.view.rep x_arg4) (arg5.view.rep x_arg5) (arg6.view.rep x_arg6) (arg7.view.rep x_arg7) (arg8.view.rep x_arg8) (arg9.view.rep x_arg9) (arg10.view.rep x_arg10) (arg11.view.rep x_arg11) (arg12.view.rep x_arg12) (arg13.view.rep y_arg13) (arg14.view.rep y_arg14) (arg15.view.rep y_arg15) (arg22.view.rep y_arg22) (arg23.view.rep y_arg23)).trans (by simp only [View.read_rep]))
        ((pointC_b (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (arg3.view.rep x_arg3) (arg4.view.rep x_arg4) (arg5.view.rep x_arg5) (arg6.view.rep x_arg6) (arg7.view.rep x_arg7) (arg8.view.rep x_arg8) (arg9.view.rep x_arg9) (arg10.view.rep x_arg10) (arg11.view.rep x_arg11) (arg12.view.rep x_arg12) (arg13.view.rep y_arg13) (arg14.view.rep y_arg14) (arg15.view.rep y_arg15) (arg22.view.rep y_arg22) (arg23.view.rep y_arg23)).trans (by simp only [View.read_rep]))
        ((pointC_c (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (arg3.view.rep x_arg3) (arg4.view.rep x_arg4) (arg5.view.rep x_arg5) (arg6.view.rep x_arg6) (arg7.view.rep x_arg7) (arg8.view.rep x_arg8) (arg9.view.rep x_arg9) (arg10.view.rep x_arg10) (arg11.view.rep x_arg11) (arg12.view.rep x_arg12) (arg13.view.rep y_arg13) (arg14.view.rep y_arg14) (arg15.view.rep y_arg15) (arg22.view.rep y_arg22) (arg23.view.rep y_arg23)).trans (by simp only [View.read_rep]))))

end Cert.Kernel.Gen

end
-- ==== Proof.FrameK.lean ====
/- The frame of the kernel: the proof data (what each grid point leaves in each result block, and the accumulators carried
   from a grid point to the next), the body's obligation at every point, the run of the whole program, and the claim that it
   ends with its arguments unchanged. -/
module

public import proofs.«01_k».proof.Proof.SoundK
public import proofs.«01_k».proof.Proof.Gen.Kernel.Frame
public import Idealize.ShloMosaic.Lib.Pipeline.FrameBody
public import Idealize.ShloMosaic.Lib.Pipeline.FrameSuffix
public import Idealize.ShloMosaic.Lib.Claim
public import Idealize.ShloMosaic.Lib.Pipeline.TableIdle

@[expose] public section

set_option maxRecDepth 16384
set_option maxHeartbeats 400000

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open VecWindow (window put)

variable {F : FTy → Type} [FloatOps F]

/-- The resource algebra the triples are stated at. -/
local notation "𝕄G" => MT nD τ sig Unit (Elt F) ℕ (UR sig nD τ) ℕ

variable (m : (ℓ : Loc nD τ sig) → Buf (Elt F) ℓ) (ρ : Dev nD → PrngReg)

/-! ## The grid's points -/

theorem condZ_iff : ∀ t : Fin grid0.N, condZ (grid0.coords t) = 1#1 ↔ t.val % 8 = 0 := by decide +kernel
theorem cond2_iff : ∀ t : Fin grid0.N, k0_cond2 (grid0.coords t) = 1#1 ↔ t.val % 8 = 7 := by decide +kernel

/-! ## What the points compute -/

/-- The accumulators after grid point `n`, the carried ones found at `b` and `d`. -/
def blkAcc (c : Dev nD) (n : ℕ) (b d : Vec F S2048x96 .f32) : Acc F :=
  if h : n < cfg0.N then (fun t : Fin cfg0.N => ptAcc (grid0.coords t) (iblk m c 0 t) (iblk m c 1 t) (iblk m c 2 t) (iblk m c 3 t) (iblk m c 4 t) (iblk m c 5 t) (iblk m c 6 t) (iblk m c 7 t) (iblk m c 8 t) (iblk m c 9 t) b d) ⟨n, h⟩
  else ⟨b, b, d⟩

/-- The accumulators after grid point `n`: the carried ones start from zero at the first head of each group of eight. -/
def accAt (c : Dev nD) : ℕ → Acc F
  | 0 => blkAcc m c 0 k0_pay1 k0_pay2
  | n + 1 => if (n + 1) % 8 = 0 then blkAcc m c (n + 1) k0_pay1 k0_pay2 else blkAcc m c (n + 1) (accAt c n).b (accAt c n).c

theorem blkAcc_eq (c : Dev nD) (t : Fin cfg0.N) (b d : Vec F S2048x96 .f32) :
    blkAcc m c t.val b d = ptAcc (grid0.coords t) (iblk m c 0 t) (iblk m c 1 t) (iblk m c 2 t) (iblk m c 3 t) (iblk m c 4 t) (iblk m c 5 t) (iblk m c 6 t) (iblk m c 7 t) (iblk m c 8 t) (iblk m c 9 t) b d := by
  unfold blkAcc; rw [dif_pos t.isLt]

theorem accAt_first (c : Dev nD) (t : Fin cfg0.N) (h : t.val % 8 = 0) :
    accAt m c t.val = ptAcc (grid0.coords t) (iblk m c 0 t) (iblk m c 1 t) (iblk m c 2 t) (iblk m c 3 t) (iblk m c 4 t) (iblk m c 5 t) (iblk m c 6 t) (iblk m c 7 t) (iblk m c 8 t) (iblk m c 9 t) k0_pay1 k0_pay2 := by
  rw [← blkAcc_eq]
  generalize t.val = n at h
  cases n with
  | zero => rfl
  | succ n => unfold accAt; rw [if_pos h]

theorem accAt_next (c : Dev nD) (t : Fin cfg0.N) (h : ¬ t.val % 8 = 0) :
    accAt m c t.val = ptAcc (grid0.coords t) (iblk m c 0 t) (iblk m c 1 t) (iblk m c 2 t) (iblk m c 3 t) (iblk m c 4 t) (iblk m c 5 t) (iblk m c 6 t) (iblk m c 7 t) (iblk m c 8 t) (iblk m c 9 t) (accAt m c (t.val - 1)).b (accAt m c (t.val - 1)).c := by
  rw [← blkAcc_eq]
  generalize t.val = n at h
  cases n with
  | zero => exact absurd rfl h
  | succ n => rw [Nat.add_sub_cancel]; conv_lhs => unfold accAt
              rw [if_neg h]

/-! ## The proof data -/

/-- What the kernel's own buffers hold before point `n`: the carried accumulators are the last point's, unless the point is
    the first of its group; the others hold anything. -/
def PhiAt (c : Dev nD) (n : ℕ) : sProp 𝕄G :=
  iprop(∃ b : Vec F S2048x96 .f32, ∃ d : Vec F S2048x96 .f32, ⌜¬ n % 8 = 0 → b = (accAt m c (n - 1)).b ∧ d = (accAt m c (n - 1)).c⌝
    ∗ owns (c : Thread nD τ) (Memref.whole cc0_scratch6 : Memref sig .tc .vmem S2048x96 .f32) fullShare b ∗ owns (c : Thread nD τ) (Memref.whole cc0_scratch7 : Memref sig .tc .vmem S2048x96 .f32) fullShare d
    ∗ (∃ x : Vec F S2048x96 .bf16, owns (c : Thread nD τ) (Memref.whole cc0_scratch0 : Memref sig .tc .vmem S2048x96 .bf16) fullShare x) ∗ (∃ x : Vec F S2048x96 .bf16, owns (c : Thread nD τ) (Memref.whole cc0_scratch1 : Memref sig .tc .vmem S2048x96 .bf16) fullShare x) ∗ (∃ x : Vec F S2048x128 .f32, owns (c : Thread nD τ) (Memref.whole cc0_scratch2 : Memref sig .tc .vmem S2048x128 .f32) fullShare x) ∗ (∃ x : Vec F S2048x128 .f32, owns (c : Thread nD τ) (Memref.whole cc0_scratch3 : Memref sig .tc .vmem S2048x128 .f32) fullShare x) ∗ (∃ x : Vec F S2048x128 .f32, owns (c : Thread nD τ) (Memref.whole cc0_scratch4 : Memref sig .tc .vmem S2048x128 .f32) fullShare x) ∗ (∃ x : Vec F S2048x96 .f32, owns (c : Thread nD τ) (Memref.whole cc0_scratch5 : Memref sig .tc .vmem S2048x96 .f32) fullShare x)
    ∗ (∃ r, prngReg c r))

/-- The proof data: the inputs' blocks stay; the results' blocks end at what the point computed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => k0_pay9 (wordK (grid0.coords t) (iblk m c 1 t)) (accAt m c t.val).a
    | ⟨11, _⟩ => k0_pay10 (accAt m c t.val).b
    | ⟨12, _⟩ => k0_pay11 (accAt m c t.val).c
  Φ t := PhiAt m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = k0_pay9 (wordK (grid0.coords t) (iblk m c 1 t)) (accAt m c t.val).a := by dsimp only [dats]
theorem after0_11 (c : Dev nD) (t : Fin cfg0.N) : (dats m 0 c).after 11 t = k0_pay10 (accAt m c t.val).b := by dsimp only [dats]
theorem after0_12 (c : Dev nD) (t : Fin cfg0.N) : (dats m 0 c).after 12 t = k0_pay11 (accAt m c t.val).c := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem Phi_eq (c : Dev nD) (t : Fin (cfg0.N + 1)) : (dats m 0 c).Φ t = PhiAt m c t.val := by dsimp only [dats]

/-- A window not idle at a point is left at what the point computed. -/
theorem leavesExact_live {c : Dev nD} (dat : Dat τ (Elt F) Unit ℕ (UR sig nD τ) ℕ cfg0 c) (w : Fin cfg0.W) (t : Fin cfg0.N)
    (hi : cfg0.idle w (cfg0.grid.coords t) = false) :
    dat.leavesExact w t = owns (c : Thread nD τ) ((cfg0.win w).stage (cfg0.slots t w)) fullShare (dat.after w t) := by
  unfold Dat.leavesExact; rw [hi]

/-! ## The body's obligation -/

/-- What the body is called with at point `t`, -/
def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns. -/
def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ (dats m 0 c).leavesExact 11 t ∗ (dats m 0 c).leavesExact 12 t)

/-- The body at a point that is the first of its group. -/
theorem sound_bodyA (c : Dev nD) (t : Fin cfg0.N) (h : t.val % 8 = 0) :
    bodyPre m c t ⊢ wp frame (wpE (defs₀ (F := F)) Variants.none c none) Set.univ (bodyAt0 t) (fun _ => bodyPost m c t) := by
  have h1 : condZ (grid0.coords t) = 1#1 := (condZ_iff t).2 h
  have h7 : ¬ t.val % 8 = 7 := by omega
  have h2 : ¬ k0_cond2 (grid0.coords t) = 1#1 := fun e => h7 ((cond2_iff t).1 e)
  unfold bodyPre bodyPost bodyAt0
  simp only [before0_0, before0_1, before0_2, before0_3, before0_4, before0_5, before0_6, before0_7, before0_8, before0_9]
  have hi : ((!(k0_cond2 (grid0.coords t) == 1#1)) : Bool) = true := by
    rw [Bool.not_eq_true']; exact beq_eq_false_iff_ne.2 h2
  have hf11 : (cfg0.win 11).flush t = false := Bool.eq_false_iff.2 fun e => h7 ((flush0_11 t).1 e)
  have hf12 : (cfg0.win 12).flush t = false := Bool.eq_false_iff.2 fun e => h7 ((flush0_12 t).1 e)
  rw [(dats m 0 c).leavesExact_idle 11 t hi hf11, (dats m 0 c).leavesExact_idle 12 t hi hf12]
  rw [show (dats m 0 c).owesAt () t.succ = (dats m 0 c).owesAt () t.castSucc from rfl,
    after0_0, after0_1, after0_2, after0_3, after0_4, after0_5, after0_6, after0_7, after0_8, after0_9, after0_10, Phi_eq, Phi_eq, accAt_first m c t h]
  rw [show (t.castSucc : Fin (cfg0.N + 1)).val = t.val from rfl, show (t.succ : Fin (cfg0.N + 1)).val = t.val + 1 from rfl]
  unfold PhiAt
  rw [Nat.add_sub_cancel, accAt_first m c t h]
  iintro ⟨⟨%b, %d, %hbd, HB, HD, S0, S1, S2, S3, S4, S5, HR⟩, HO, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩⟩
  iapply (wp_wand_r frame (wpE (defs₀ (F := F)) Variants.none c none) Set.univ)
  isplitr [HR HO]
  · iapply (soundA Variants.none c none (grid0.coords t) h1 h2 (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) Set.univ (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t e10) ((dats m 0 c).before 11 t e11) ((dats m 0 c).before 12 t e12) b d)
    unfold PointOwn
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HB]; · iexact HB
    isplitl [HD]; · iexact HD
    isplitl [S0]; · iexact S0
    isplitl [S1]; · iexact S1
    isplitl [S2]; · iexact S2
    isplitl [S3]; · iexact S3
    isplitl [S4]; · iexact S4
    iexact S5
  iintro %u HP
  unfold PointOwn
  icases HP with ⟨H0, H1, H2, H3, H4, H5, H6, H7, H8, H9, H10, H11, H12, HB, HD, S0, S1, S2, S3, S4, S5⟩
  isplitr [HO H0 H1 H2 H3 H4 H5 H6 H7 H8 H9 H10 H11 H12]
  · iexists _; iexists _
    isplitr; · ipureintro; exact fun _ => ⟨rfl, rfl⟩
    isplitl [HB]; · iexact HB
    isplitl [HD]; · iexact HD
    isplitl [S0]; · iexact S0
    isplitl [S1]; · iexact S1
    isplitl [S2]; · iexact S2
    isplitl [S3]; · iexact S3
    isplitl [S4]; · iexact S4
    isplitl [S5]; · iexact S5
    iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists e11; iexact H11
  iexists e12; iexact H12

/-- The body at a point inside its group. -/
theorem sound_bodyB (c : Dev nD) (t : Fin cfg0.N) (h : ¬ t.val % 8 = 0) (h7 : ¬ t.val % 8 = 7) :
    bodyPre m c t ⊢ wp frame (wpE (defs₀ (F := F)) Variants.none c none) Set.univ (bodyAt0 t) (fun _ => bodyPost m c t) := by
  have h1 : ¬ condZ (grid0.coords t) = 1#1 := fun e => h ((condZ_iff t).1 e)
  have h2 : ¬ k0_cond2 (grid0.coords t) = 1#1 := fun e => h7 ((cond2_iff t).1 e)
  unfold bodyPre bodyPost bodyAt0
  simp only [before0_0, before0_1, before0_2, before0_3, before0_4, before0_5, before0_6, before0_7, before0_8, before0_9]
  have hi : ((!(k0_cond2 (grid0.coords t) == 1#1)) : Bool) = true := by
    rw [Bool.not_eq_true']; exact beq_eq_false_iff_ne.2 h2
  have hf11 : (cfg0.win 11).flush t = false := Bool.eq_false_iff.2 fun e => h7 ((flush0_11 t).1 e)
  have hf12 : (cfg0.win 12).flush t = false := Bool.eq_false_iff.2 fun e => h7 ((flush0_12 t).1 e)
  rw [(dats m 0 c).leavesExact_idle 11 t hi hf11, (dats m 0 c).leavesExact_idle 12 t hi hf12]
  rw [show (dats m 0 c).owesAt () t.succ = (dats m 0 c).owesAt () t.castSucc from rfl,
    after0_0, after0_1, after0_2, after0_3, after0_4, after0_5, after0_6, after0_7, after0_8, after0_9, after0_10, Phi_eq, Phi_eq, accAt_next m c t h]
  rw [show (t.castSucc : Fin (cfg0.N + 1)).val = t.val from rfl, show (t.succ : Fin (cfg0.N + 1)).val = t.val + 1 from rfl]
  unfold PhiAt
  rw [Nat.add_sub_cancel, accAt_next m c t h]
  iintro ⟨⟨%b, %d, %hbd, HB, HD, S0, S1, S2, S3, S4, S5, HR⟩, HO, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩⟩
  obtain ⟨hb, hd⟩ := hbd h
  subst hb hd
  iapply (wp_wand_r frame (wpE (defs₀ (F := F)) Variants.none c none) Set.univ)
  isplitr [HR HO]
  · iapply (soundB Variants.none c none (grid0.coords t) h1 h2 (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) Set.univ (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t e10) ((dats m 0 c).before 11 t e11) ((dats m 0 c).before 12 t e12) _ _)
    unfold PointOwn
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HB]; · iexact HB
    isplitl [HD]; · iexact HD
    isplitl [S0]; · iexact S0
    isplitl [S1]; · iexact S1
    isplitl [S2]; · iexact S2
    isplitl [S3]; · iexact S3
    isplitl [S4]; · iexact S4
    iexact S5
  iintro %u HP
  unfold PointOwn
  icases HP with ⟨H0, H1, H2, H3, H4, H5, H6, H7, H8, H9, H10, H11, H12, HB, HD, S0, S1, S2, S3, S4, S5⟩
  isplitr [HO H0 H1 H2 H3 H4 H5 H6 H7 H8 H9 H10 H11 H12]
  · iexists _; iexists _
    isplitr; · ipureintro; exact fun _ => ⟨rfl, rfl⟩
    isplitl [HB]; · iexact HB
    isplitl [HD]; · iexact HD
    isplitl [S0]; · iexact S0
    isplitl [S1]; · iexact S1
    isplitl [S2]; · iexact S2
    isplitl [S3]; · iexact S3
    isplitl [S4]; · iexact S4
    isplitl [S5]; · iexact S5
    iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists e11; iexact H11
  iexists e12; iexact H12

/-- The body at a point that is the last of its group. -/
theorem sound_bodyC (c : Dev nD) (t : Fin cfg0.N) (h7 : t.val % 8 = 7) :
    bodyPre m c t ⊢ wp frame (wpE (defs₀ (F := F)) Variants.none c none) Set.univ (bodyAt0 t) (fun _ => bodyPost m c t) := by
  have h : ¬ t.val % 8 = 0 := by omega
  have h1 : ¬ condZ (grid0.coords t) = 1#1 := fun e => h ((condZ_iff t).1 e)
  have h2 : k0_cond2 (grid0.coords t) = 1#1 := (cond2_iff t).2 h7
  unfold bodyPre bodyPost bodyAt0
  simp only [before0_0, before0_1, before0_2, before0_3, before0_4, before0_5, before0_6, before0_7, before0_8, before0_9]
  have hi : ((!(k0_cond2 (grid0.coords t) == 1#1)) : Bool) = false := by rw [h2]; rfl
  rw [leavesExact_live (dats m 0 c) 11 t hi, leavesExact_live (dats m 0 c) 12 t hi, after0_11, after0_12]
  rw [show (dats m 0 c).owesAt () t.succ = (dats m 0 c).owesAt () t.castSucc from rfl,
    after0_0, after0_1, after0_2, after0_3, after0_4, after0_5, after0_6, after0_7, after0_8, after0_9, after0_10, Phi_eq, Phi_eq, accAt_next m c t h]
  rw [show (t.castSucc : Fin (cfg0.N + 1)).val = t.val from rfl, show (t.succ : Fin (cfg0.N + 1)).val = t.val + 1 from rfl]
  unfold PhiAt
  rw [Nat.add_sub_cancel, accAt_next m c t h]
  iintro ⟨⟨%b, %d, %hbd, HB, HD, S0, S1, S2, S3, S4, S5, HR⟩, HO, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩⟩
  obtain ⟨hb, hd⟩ := hbd h
  subst hb hd
  iapply (wp_wand_r frame (wpE (defs₀ (F := F)) Variants.none c none) Set.univ)
  isplitr [HR HO]
  · iapply (soundC Variants.none c none (grid0.coords t) h1 h2 (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) Set.univ (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t e10) ((dats m 0 c).before 11 t e11) ((dats m 0 c).before 12 t e12) _ _)
    unfold PointOwn
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HB]; · iexact HB
    isplitl [HD]; · iexact HD
    isplitl [S0]; · iexact S0
    isplitl [S1]; · iexact S1
    isplitl [S2]; · iexact S2
    isplitl [S3]; · iexact S3
    isplitl [S4]; · iexact S4
    iexact S5
  iintro %u HP
  unfold PointOwn
  icases HP with ⟨H0, H1, H2, H3, H4, H5, H6, H7, H8, H9, H10, H11, H12, HB, HD, S0, S1, S2, S3, S4, S5⟩
  isplitr [HO H0 H1 H2 H3 H4 H5 H6 H7 H8 H9 H10 H11 H12]
  · iexists _; iexists _
    isplitr; · ipureintro; exact fun _ => ⟨rfl, rfl⟩
    isplitl [HB]; · iexact HB
    isplitl [HD]; · iexact HD
    isplitl [S0]; · iexact S0
    isplitl [S1]; · iexact S1
    isplitl [S2]; · iexact S2
    isplitl [S3]; · iexact S3
    isplitl [S4]; · iexact S4
    isplitl [S5]; · iexact S5
    iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h : t.val % 8 = 0
  · exact sound_bodyA m c t h
  · by_cases h7 : t.val % 8 = 7
    · exact sound_bodyC m c t h7
    · exact sound_bodyB m c t h h7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the kernel is the invariant before the first point, -/
theorem phi_in (c : Dev nD) : (Pipeline.ΦA spec0 c : sProp 𝕄G) ⊢ (dats m 0 c).Φ 0 := by
  rw [Phi_eq]
  unfold Pipeline.ΦA PhiAt
  rw [scopedRest0_eq]
  simp only [owns_whole]
  iintro ⟨⟨S0, S1, S2, S3, S4, S5, ⟨%b, HB⟩, ⟨%d, HD⟩⟩, HR⟩
  iexists b; iexists d
  isplitr; · ipureintro; exact fun h => absurd rfl h
  isplitl [HB]; · iexact HB
  isplitl [HD]; · iexact HD
  isplitl [S0]; · iexact S0
  isplitl [S1]; · iexact S1
  isplitl [S2]; · iexact S2
  isplitl [S3]; · iexact S3
  isplitl [S4]; · iexact S4
  isplitl [S5]; · iexact S5
  iexact HR

/-- and the invariant after the last is what the launch takes back. -/
theorem phi_out (c : Dev nD) : (dats m 0 c).Φ (Fin.last cfg0.N) ⊢ (Pipeline.ΦA spec0 c : sProp 𝕄G) := by
  rw [Phi_eq]
  unfold Pipeline.ΦA PhiAt
  rw [scopedRest0_eq]
  simp only [owns_whole]
  iintro ⟨%b, %d, -, HB, HD, S0, S1, S2, S3, S4, S5, HR⟩
  isplitr [HR]
  · isplitl [S0]; · iexact S0
    isplitl [S1]; · iexact S1
    isplitl [S2]; · iexact S2
    isplitl [S3]; · iexact S3
    isplitl [S4]; · iexact S4
    isplitl [S5]; · iexact S5
    isplitl [HB]; · iexists b; iexact HB
    iexists d; iexact HD
  iexact HR

/-! ## The run and the frame -/

set_option backward.isDefEq.respectTransparency.types false in
set_option maxHeartbeats 800000 in
/-- The whole program ends, every array of the pipeline at what the proof data say, every semaphore at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := phi_in m) (hout := phi_out m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The frame: the program ends with its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_main_quiescent m ρ))

end Cert.Kernel.Gen

end
-- ==== Proof.LoopKI.lean ====
/- The outer loop of the kernel (one trip per block of keys) by an invariant that tracks what it writes. -/
module

public import proofs.«01_k».proof.Proof.Gen.KernelIdeal.Loops

@[expose] public section

set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra the invariant is stated at. -/
local notation "𝕄G" => MT nD τ sig Unit (Elt F) ℕ (UR sig nD τ) ℕ

/-- What one outer trip holds: the nine buffers it reads at the contents `X_·`, the three accumulators at `f_·`. -/
abbrev Trip_k0_t1 (c : Dev nD) (arg6 : Memref sig .tc .vmem S1x1x2048x96 .fp8e4m3) (arg7 : Memref sig .tc .vmem S1x1x2048x96 .fp8e4m3) (arg8 : Memref sig .tc .vmem S1x1x2048x96 .fp8e4m3) (arg10 : Memref sig .tc .vmem S1x1x2048x96 .fp8e5m2) (arg16 : Memref sig .tc .vmem S2048x96 .bf16) (arg17 : Memref sig .tc .vmem S2048x96 .bf16) (arg18 : Memref sig .tc .vmem S2048x128 .f32) (arg19 : Memref sig .tc .vmem S2048x128 .f32) (arg20 : Memref sig .tc .vmem S2048x128 .f32) (arg21 : Memref sig .tc .vmem S2048x96 .f32) (arg22 : Memref sig .tc .vmem S2048x96 .f32) (arg23 : Memref sig .tc .vmem S2048x96 .f32) (X_arg6 : BufTy.Contents (Elt F) arg6.view.ty) (X_arg7 : BufTy.Contents (Elt F) arg7.view.ty) (X_arg8 : BufTy.Contents (Elt F) arg8.view.ty) (X_arg10 : BufTy.Contents (Elt F) arg10.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (f_arg21 : BufTy.Contents (Elt F) arg21.view.ty) (f_arg22 : BufTy.Contents (Elt F) arg22.view.ty) (f_arg23 : BufTy.Contents (Elt F) arg23.view.ty) : sProp 𝕄G :=
  iprop((arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg10.view.loc (c : Thread nD τ) ↦[arg10.view.set]{fullShare} X_arg10) ∗ (arg16.view.loc (c : Thread nD τ) ↦[arg16.view.set]{fullShare} X_arg16) ∗ (arg17.view.loc (c : Thread nD τ) ↦[arg17.view.set]{fullShare} X_arg17) ∗ (arg18.view.loc (c : Thread nD τ) ↦[arg18.view.set]{fullShare} X_arg18) ∗ (arg19.view.loc (c : Thread nD τ) ↦[arg19.view.set]{fullShare} X_arg19) ∗ (arg20.view.loc (c : Thread nD τ) ↦[arg20.view.set]{fullShare} X_arg20) ∗ (arg21.view.loc (c : Thread nD τ) ↦[arg21.view.set]{fullShare} f_arg21) ∗ (arg22.view.loc (c : Thread nD τ) ↦[arg22.view.set]{fullShare} f_arg22) ∗ (arg23.view.loc (c : Thread nD τ) ↦[arg23.view.set]{fullShare} f_arg23))

/-- One trip of the outer loop (one block of keys): run once at a symbolic trip `k`, through the diagonal tile and the
   inner loops; the pieces it writes into the three accumulators are the witnesses. -/
@[irreducible] def trip_k0_t1 (𝒱 : Variants) (c : Dev nD) (bd : Option 𝒱.V) (i : grid0.Coords) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (v9 : F .f32) (X_arg6 : BufTy.Contents (Elt F) arg6.view.ty) (X_arg7 : BufTy.Contents (Elt F) arg7.view.ty) (X_arg8 : BufTy.Contents (Elt F) arg8.view.ty) (X_arg10 : BufTy.Contents (Elt F) arg10.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (k : Fin k0_t1_loop.trips) :
    Σ' (R_k0_t1 : (Unit → BufTy.Contents (Elt F) arg21.view.ty → BufTy.Contents (Elt F) arg22.view.ty → BufTy.Contents (Elt F) arg23.view.ty → Unit)) (L_arg21 : (Unit → BufTy.Contents (Elt F) arg21.view.ty → BufTy.Contents (Elt F) arg22.view.ty → BufTy.Contents (Elt F) arg23.view.ty → List (View.Piece (Elt F) S2048x96 .f32))) (L_arg22 : (Unit → BufTy.Contents (Elt F) arg21.view.ty → BufTy.Contents (Elt F) arg22.view.ty → BufTy.Contents (Elt F) arg23.view.ty → List (View.Piece (Elt F) S2048x96 .f32))) , { L_arg23 : (Unit → BufTy.Contents (Elt F) arg21.view.ty → BufTy.Contents (Elt F) arg22.view.ty → BufTy.Contents (Elt F) arg23.view.ty → List (View.Piece (Elt F) S2048x96 .f32)) // ∀ (E : Set ℕ) (acc : Unit) (f_arg21 : BufTy.Contents (Elt F) arg21.view.ty) (f_arg22 : BufTy.Contents (Elt F) arg22.view.ty) (f_arg23 : BufTy.Contents (Elt F) arg23.view.ty),
      Trip_k0_t1 (F := F) c arg6 arg7 arg8 arg10 arg16 arg17 arg18 arg19 arg20 arg21 arg22 arg23 X_arg6 X_arg7 X_arg8 X_arg10 X_arg16 X_arg17 X_arg18 X_arg19 X_arg20 f_arg21 f_arg22 f_arg23
      ⊢ wp frame (wpE (defs₀ (F := F)) 𝒱 (c : Thread nD τ) bd) E (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 k acc)
          (fun yld => iprop(⌜yld = R_k0_t1 acc f_arg21 f_arg22 f_arg23⌝ ∗ Trip_k0_t1 (F := F) c arg6 arg7 arg8 arg10 arg16 arg17 arg18 arg19 arg20 arg21 arg22 arg23 X_arg6 X_arg7 X_arg8 X_arg10 X_arg16 X_arg17 X_arg18 X_arg19 X_arg20 (arg21.view.writes (Elt F) f_arg21 (L_arg21 acc f_arg21 f_arg22 f_arg23)) (arg22.view.writes (Elt F) f_arg22 (L_arg22 acc f_arg21 f_arg22 f_arg23)) (arg23.view.writes (Elt F) f_arg23 (L_arg23 acc f_arg21 f_arg22 f_arg23)))) } := by
  refine ⟨?_, ?_, ?_, ?_, fun E acc f_arg21 f_arg22 f_arg23 => ?run⟩
  case run =>
    unfold k0_t1_body
    iintro ⟨HR_arg6, HR_arg7, HR_arg8, HR_arg10, HR_arg16, HR_arg17, HR_arg18, HR_arg19, HR_arg20, HW_arg21, HW_arg22, HW_arg23⟩
    sl_exec
    sl_step
    sl_close

/-- The (trivial) value one outer trip yields. -/
abbrev tripR_k0_t1 (𝒱 : Variants) (c : Dev nD) (bd : Option 𝒱.V) (i : grid0.Coords) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (v9 : F .f32) (X_arg6 : BufTy.Contents (Elt F) arg6.view.ty) (X_arg7 : BufTy.Contents (Elt F) arg7.view.ty) (X_arg8 : BufTy.Contents (Elt F) arg8.view.ty) (X_arg10 : BufTy.Contents (Elt F) arg10.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (k : Fin k0_t1_loop.trips) (acc : Unit) (f_arg21 : BufTy.Contents (Elt F) arg21.view.ty) (f_arg22 : BufTy.Contents (Elt F) arg22.view.ty) (f_arg23 : BufTy.Contents (Elt F) arg23.view.ty) : Unit :=
  (trip_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 k).1 acc f_arg21 f_arg22 f_arg23

/-- The pieces one outer trip writes into the three accumulators. -/
abbrev tripL_k0_t1 (𝒱 : Variants) (c : Dev nD) (bd : Option 𝒱.V) (i : grid0.Coords) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (v9 : F .f32) (X_arg6 : BufTy.Contents (Elt F) arg6.view.ty) (X_arg7 : BufTy.Contents (Elt F) arg7.view.ty) (X_arg8 : BufTy.Contents (Elt F) arg8.view.ty) (X_arg10 : BufTy.Contents (Elt F) arg10.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (k : Fin k0_t1_loop.trips) (acc : Unit) (f_arg21 : BufTy.Contents (Elt F) arg21.view.ty) (f_arg22 : BufTy.Contents (Elt F) arg22.view.ty) (f_arg23 : BufTy.Contents (Elt F) arg23.view.ty) : List (View.Piece (Elt F) S2048x96 .f32) × List (View.Piece (Elt F) S2048x96 .f32) × List (View.Piece (Elt F) S2048x96 .f32) :=
  ((trip_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 k).2.1 acc f_arg21 f_arg22 f_arg23, (trip_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 k).2.2.1 acc f_arg21 f_arg22 f_arg23, (trip_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 k).2.2.2.1 acc f_arg21 f_arg22 f_arg23)

/-- One trip's contribution to the recursion below. -/
@[irreducible] def st_k0_t1Step (𝒱 : Variants) (c : Dev nD) (bd : Option 𝒱.V) (i : grid0.Coords) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (v9 : F .f32) (X_arg6 : BufTy.Contents (Elt F) arg6.view.ty) (X_arg7 : BufTy.Contents (Elt F) arg7.view.ty) (X_arg8 : BufTy.Contents (Elt F) arg8.view.ty) (X_arg10 : BufTy.Contents (Elt F) arg10.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (G_arg21 : BufTy.Contents (Elt F) arg21.view.ty) (G_arg22 : BufTy.Contents (Elt F) arg22.view.ty) (G_arg23 : BufTy.Contents (Elt F) arg23.view.ty) (init : Unit) (k : ℕ) (prev : Unit × List (View.Piece (Elt F) S2048x96 .f32) × List (View.Piece (Elt F) S2048x96 .f32) × List (View.Piece (Elt F) S2048x96 .f32)) : Unit × List (View.Piece (Elt F) S2048x96 .f32) × List (View.Piece (Elt F) S2048x96 .f32) × List (View.Piece (Elt F) S2048x96 .f32) :=
  if h : k < k0_t1_loop.trips then
    (tripR_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 ⟨k, h⟩ prev.1 (arg21.view.writes (Elt F) G_arg21 prev.2.1) (arg22.view.writes (Elt F) G_arg22 prev.2.2.1) (arg23.view.writes (Elt F) G_arg23 prev.2.2.2), (tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 ⟨k, h⟩ prev.1 (arg21.view.writes (Elt F) G_arg21 prev.2.1) (arg22.view.writes (Elt F) G_arg22 prev.2.2.1) (arg23.view.writes (Elt F) G_arg23 prev.2.2.2)).1 ++ prev.2.1, (tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 ⟨k, h⟩ prev.1 (arg21.view.writes (Elt F) G_arg21 prev.2.1) (arg22.view.writes (Elt F) G_arg22 prev.2.2.1) (arg23.view.writes (Elt F) G_arg23 prev.2.2.2)).2.1 ++ prev.2.2.1, (tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 ⟨k, h⟩ prev.1 (arg21.view.writes (Elt F) G_arg21 prev.2.1) (arg22.view.writes (Elt F) G_arg22 prev.2.2.1) (arg23.view.writes (Elt F) G_arg23 prev.2.2.2)).2.2 ++ prev.2.2.2)
  else prev

/-- The pieces written by the outer trips before `k`, last first, over the contents `G_·` found at loop entry. -/
def st_k0_t1 (𝒱 : Variants) (c : Dev nD) (bd : Option 𝒱.V) (i : grid0.Coords) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (v9 : F .f32) (X_arg6 : BufTy.Contents (Elt F) arg6.view.ty) (X_arg7 : BufTy.Contents (Elt F) arg7.view.ty) (X_arg8 : BufTy.Contents (Elt F) arg8.view.ty) (X_arg10 : BufTy.Contents (Elt F) arg10.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (G_arg21 : BufTy.Contents (Elt F) arg21.view.ty) (G_arg22 : BufTy.Contents (Elt F) arg22.view.ty) (G_arg23 : BufTy.Contents (Elt F) arg23.view.ty) (init : Unit) : ℕ → Unit × List (View.Piece (Elt F) S2048x96 .f32) × List (View.Piece (Elt F) S2048x96 .f32) × List (View.Piece (Elt F) S2048x96 .f32)
  | 0 => (init, [], [], [])
  | k + 1 => st_k0_t1Step 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k (st_k0_t1 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k)

/-- The recursion one trip further. -/
theorem st_k0_t1_succ (𝒱 : Variants) (c : Dev nD) (bd : Option 𝒱.V) (i : grid0.Coords) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (v9 : F .f32) (X_arg6 : BufTy.Contents (Elt F) arg6.view.ty) (X_arg7 : BufTy.Contents (Elt F) arg7.view.ty) (X_arg8 : BufTy.Contents (Elt F) arg8.view.ty) (X_arg10 : BufTy.Contents (Elt F) arg10.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (G_arg21 : BufTy.Contents (Elt F) arg21.view.ty) (G_arg22 : BufTy.Contents (Elt F) arg22.view.ty) (G_arg23 : BufTy.Contents (Elt F) arg23.view.ty) (init : Unit) (k : Fin k0_t1_loop.trips) :
    st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init (k.val + 1)
      = ((tripR_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 k (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k.val).1 (arg21.view.writes (Elt F) G_arg21 (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k.val).2.1) (arg22.view.writes (Elt F) G_arg22 (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k.val).2.2.1) (arg23.view.writes (Elt F) G_arg23 (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k.val).2.2.2)), (tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 k (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k.val).1 (arg21.view.writes (Elt F) G_arg21 (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k.val).2.1) (arg22.view.writes (Elt F) G_arg22 (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k.val).2.2.1) (arg23.view.writes (Elt F) G_arg23 (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k.val).2.2.2)).1 ++ (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k.val).2.1, (tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 k (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k.val).1 (arg21.view.writes (Elt F) G_arg21 (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k.val).2.1) (arg22.view.writes (Elt F) G_arg22 (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k.val).2.2.1) (arg23.view.writes (Elt F) G_arg23 (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k.val).2.2.2)).2.1 ++ (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k.val).2.2.1, (tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 k (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k.val).1 (arg21.view.writes (Elt F) G_arg21 (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k.val).2.1) (arg22.view.writes (Elt F) G_arg22 (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k.val).2.2.1) (arg23.view.writes (Elt F) G_arg23 (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k.val).2.2.2)).2.2 ++ (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k.val).2.2.2) := by
  rw [st_k0_t1.eq_2]; unfold st_k0_t1Step; exact dif_pos k.isLt

/-- The carried value before the first trip. -/
theorem st_k0_t1_zero (𝒱 : Variants) (c : Dev nD) (bd : Option 𝒱.V) (i : grid0.Coords) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (v9 : F .f32) (X_arg6 : BufTy.Contents (Elt F) arg6.view.ty) (X_arg7 : BufTy.Contents (Elt F) arg7.view.ty) (X_arg8 : BufTy.Contents (Elt F) arg8.view.ty) (X_arg10 : BufTy.Contents (Elt F) arg10.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (G_arg21 : BufTy.Contents (Elt F) arg21.view.ty) (G_arg22 : BufTy.Contents (Elt F) arg22.view.ty) (G_arg23 : BufTy.Contents (Elt F) arg23.view.ty) (init : Unit) :
    (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init 0).1 = init := rfl

/-- The invariant of the outer loop: the buffers read at `X_·`, the accumulators at the pieces of the trips before `k`. -/
abbrev inv_k0_t1 (𝒱 : Variants) (c : Dev nD) (bd : Option 𝒱.V) (i : grid0.Coords) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (v9 : F .f32) (X_arg6 : BufTy.Contents (Elt F) arg6.view.ty) (X_arg7 : BufTy.Contents (Elt F) arg7.view.ty) (X_arg8 : BufTy.Contents (Elt F) arg8.view.ty) (X_arg10 : BufTy.Contents (Elt F) arg10.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (G_arg21 : BufTy.Contents (Elt F) arg21.view.ty) (G_arg22 : BufTy.Contents (Elt F) arg22.view.ty) (G_arg23 : BufTy.Contents (Elt F) arg23.view.ty) (init : Unit) (k : ℕ) (acc : Unit) : sProp 𝕄G :=
  iprop((arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg10.view.loc (c : Thread nD τ) ↦[arg10.view.set]{fullShare} X_arg10) ∗ (arg16.view.loc (c : Thread nD τ) ↦[arg16.view.set]{fullShare} X_arg16) ∗ (arg17.view.loc (c : Thread nD τ) ↦[arg17.view.set]{fullShare} X_arg17) ∗ (arg18.view.loc (c : Thread nD τ) ↦[arg18.view.set]{fullShare} X_arg18) ∗ (arg19.view.loc (c : Thread nD τ) ↦[arg19.view.set]{fullShare} X_arg19) ∗ (arg20.view.loc (c : Thread nD τ) ↦[arg20.view.set]{fullShare} X_arg20) ∗ (∃ f, (arg21.view.loc (c : Thread nD τ) ↦[arg21.view.set]{fullShare} f) ∗ ⌜f = arg21.view.writes (Elt F) G_arg21 (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k).2.1⌝) ∗ (∃ f, (arg22.view.loc (c : Thread nD τ) ↦[arg22.view.set]{fullShare} f) ∗ ⌜f = arg22.view.writes (Elt F) G_arg22 (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k).2.2.1⌝) ∗ (∃ f, (arg23.view.loc (c : Thread nD τ) ↦[arg23.view.set]{fullShare} f) ∗ ⌜f = arg23.view.writes (Elt F) G_arg23 (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k).2.2.2⌝) ∗ ⌜acc = (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k).1⌝)

set_option warn.classDefReducibility false in
/-- The outer loop by its invariant. -/
@[sl_loop] def loopInv_k0_t1 (𝒱 : Variants) (c : Dev nD) (bd : Option 𝒱.V) (E : Set ℕ) (i : grid0.Coords) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (v9 : F .f32) (X_arg6 : BufTy.Contents (Elt F) arg6.view.ty) (X_arg7 : BufTy.Contents (Elt F) arg7.view.ty) (X_arg8 : BufTy.Contents (Elt F) arg8.view.ty) (X_arg10 : BufTy.Contents (Elt F) arg10.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (G_arg21 : BufTy.Contents (Elt F) arg21.view.ty) (G_arg22 : BufTy.Contents (Elt F) arg22.view.ty) (G_arg23 : BufTy.Contents (Elt F) arg23.view.ty) (init : Unit) :
    LoopInvTy_k0_t1 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 where
  inv := inv_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init
  step k acc := by
    iintro ⟨HR_arg6, HR_arg7, HR_arg8, HR_arg10, HR_arg16, HR_arg17, HR_arg18, HR_arg19, HR_arg20, ⟨%f_arg21, HW_arg21, %h_arg21⟩, ⟨%f_arg22, HW_arg22, %h_arg22⟩, ⟨%f_arg23, HW_arg23, %h_arg23⟩, %h_acc⟩
    subst h_acc
    iapply (wp_wand_r Idealize.ShloMosaic.frame (wpE (defs₀ (F := F)) 𝒱 (c : Thread nD τ) bd) E)
    isplitl [HR_arg6 HR_arg7 HR_arg8 HR_arg10 HR_arg16 HR_arg17 HR_arg18 HR_arg19 HR_arg20 HW_arg21 HW_arg22 HW_arg23]
    · iapply ((trip_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 k).2.2.2.2 E (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 init k).1 f_arg21 f_arg22 f_arg23)
      isplitl [HR_arg6]; · iexact HR_arg6
      isplitl [HR_arg7]; · iexact HR_arg7
      isplitl [HR_arg8]; · iexact HR_arg8
      isplitl [HR_arg10]; · iexact HR_arg10
      isplitl [HR_arg16]; · iexact HR_arg16
      isplitl [HR_arg17]; · iexact HR_arg17
      isplitl [HR_arg18]; · iexact HR_arg18
      isplitl [HR_arg19]; · iexact HR_arg19
      isplitl [HR_arg20]; · iexact HR_arg20
      isplitl [HW_arg21]; · iexact HW_arg21
      isplitl [HW_arg22]; · iexact HW_arg22
      iexact HW_arg23
    · iintro %yld ⟨%h_res, HR_arg6, HR_arg7, HR_arg8, HR_arg10, HR_arg16, HR_arg17, HR_arg18, HR_arg19, HR_arg20, HW_arg21, HW_arg22, HW_arg23⟩
      isplitl [HR_arg6]; · iexact HR_arg6
      isplitl [HR_arg7]; · iexact HR_arg7
      isplitl [HR_arg8]; · iexact HR_arg8
      isplitl [HR_arg10]; · iexact HR_arg10
      isplitl [HR_arg16]; · iexact HR_arg16
      isplitl [HR_arg17]; · iexact HR_arg17
      isplitl [HR_arg18]; · iexact HR_arg18
      isplitl [HR_arg19]; · iexact HR_arg19
      isplitl [HR_arg20]; · iexact HR_arg20
      simp only [st_k0_t1_succ]
      isplitl [HW_arg21]
      · iexists _; isplitl [HW_arg21]; · iexact HW_arg21
        ipureintro; rw [h_arg21, h_arg22, h_arg23, ← View.writes_append]
      isplitl [HW_arg22]
      · iexists _; isplitl [HW_arg22]; · iexact HW_arg22
        ipureintro; rw [h_arg21, h_arg22, h_arg23, ← View.writes_append]
      isplitl [HW_arg23]
      · iexists _; isplitl [HW_arg23]; · iexact HW_arg23
        ipureintro; rw [h_arg21, h_arg22, h_arg23, ← View.writes_append]
      ipureintro; trivial

end Cert.KernelIdeal.Gen

end
-- ==== Proof.BodyKI.lean ====
/- One grid point of the kernel, run once per case of its two conditionals on the head index `g`: the first head of the
   group (the two carried accumulators are zeroed), the last (they are written out), or one between. -/
module

public import proofs.«01_k».proof.Proof.LoopKI
public import proofs.«01_k».proof.Proof.Gen.KernelIdeal.Frame
public import Idealize.ShloMosaic.Lib.WordCmp

@[expose] public section

set_option maxRecDepth 16384
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra the triples are stated at. -/
local notation "𝕄G" => MT nD τ sig Unit (Elt F) ℕ (UR sig nD τ) ℕ

/-- The condition of the kernel's first conditional (`g = 0`), as the kernel computes it. -/
def condZ (i : grid0.Coords) : BitVec 1 :=
  Scalar.cmpi .ne (Scalar.extui (Scalar.cmpi .eq (BitVec.ofNat 32 (i 2).val) 0#32)) 0#32

/-- What one grid point holds: the ten operand blocks at the contents `X_·`, the three result blocks and the two carried
   accumulators at `f_·`, and the six buffers it overwrites before reading at anything. -/
abbrev PointPre (c : Dev nD) (arg3 : Memref sig .tc .smem S32 .f32) (arg4 : Memref sig .tc .smem S4 .f32) (arg5 : Memref sig .tc .smem S4 .f32) (arg6 : Memref sig .tc .vmem S1x1x2048x96 .fp8e4m3) (arg7 : Memref sig .tc .vmem S1x1x2048x96 .fp8e4m3) (arg8 : Memref sig .tc .vmem S1x1x2048x96 .fp8e4m3) (arg9 : Memref sig .tc .vmem S1x1x2048x96 .bf16) (arg10 : Memref sig .tc .vmem S1x1x2048x96 .fp8e5m2) (arg11 : Memref sig .tc .vmem S1x1x1x2048 .f32) (arg12 : Memref sig .tc .vmem S1x1x1x2048 .f32) (arg13 : Memref sig .tc .vmem S1x1x2048x96 .bf16) (arg14 : Memref sig .tc .vmem S1x1x2048x96 .bf16) (arg15 : Memref sig .tc .vmem S1x1x2048x96 .bf16) (arg16 : Memref sig .tc .vmem S2048x96 .bf16) (arg17 : Memref sig .tc .vmem S2048x96 .bf16) (arg18 : Memref sig .tc .vmem S2048x128 .f32) (arg19 : Memref sig .tc .vmem S2048x128 .f32) (arg20 : Memref sig .tc .vmem S2048x128 .f32) (arg21 : Memref sig .tc .vmem S2048x96 .f32) (arg22 : Memref sig .tc .vmem S2048x96 .f32) (arg23 : Memref sig .tc .vmem S2048x96 .f32) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg22 : BufTy.Contents (Elt F) arg22.view.ty) (f_arg23 : BufTy.Contents (Elt F) arg23.view.ty) : sProp 𝕄G :=
  iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} f_arg13) ∗ (arg14.view.loc (c : Thread nD τ) ↦[arg14.view.set]{fullShare} f_arg14) ∗ (arg15.view.loc (c : Thread nD τ) ↦[arg15.view.set]{fullShare} f_arg15) ∗ (arg22.view.loc (c : Thread nD τ) ↦[arg22.view.set]{fullShare} f_arg22) ∗ (arg23.view.loc (c : Thread nD τ) ↦[arg23.view.set]{fullShare} f_arg23) ∗ (∃ f : BufTy.Contents (Elt F) arg16.view.ty, (arg16.view.loc (c : Thread nD τ) ↦[arg16.view.set]{fullShare} f)) ∗ (∃ f : BufTy.Contents (Elt F) arg17.view.ty, (arg17.view.loc (c : Thread nD τ) ↦[arg17.view.set]{fullShare} f)) ∗ (∃ f : BufTy.Contents (Elt F) arg18.view.ty, (arg18.view.loc (c : Thread nD τ) ↦[arg18.view.set]{fullShare} f)) ∗ (∃ f : BufTy.Contents (Elt F) arg19.view.ty, (arg19.view.loc (c : Thread nD τ) ↦[arg19.view.set]{fullShare} f)) ∗ (∃ f : BufTy.Contents (Elt F) arg20.view.ty, (arg20.view.loc (c : Thread nD τ) ↦[arg20.view.set]{fullShare} f)) ∗ (∃ f : BufTy.Contents (Elt F) arg21.view.ty, (arg21.view.loc (c : Thread nD τ) ↦[arg21.view.set]{fullShare} f)))

/-- One grid point at the first head of a group: what it leaves in the result blocks and the carried accumulators is found by the run. -/
@[irreducible] def pointA (𝒱 : Variants) (c : Dev nD) (bd : Option 𝒱.V) (i : grid0.Coords) (h1 : condZ i = 1#1) (h2 : ¬ k0_cond2 i = 1#1) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) :
    Σ' (R_arg13 : BufTy.Contents (Elt F) arg13.view.ty → BufTy.Contents (Elt F) arg14.view.ty → BufTy.Contents (Elt F) arg15.view.ty → BufTy.Contents (Elt F) arg22.view.ty → BufTy.Contents (Elt F) arg23.view.ty → BufTy.Contents (Elt F) arg13.view.ty) (R_arg14 : BufTy.Contents (Elt F) arg13.view.ty → BufTy.Contents (Elt F) arg14.view.ty → BufTy.Contents (Elt F) arg15.view.ty → BufTy.Contents (Elt F) arg22.view.ty → BufTy.Contents (Elt F) arg23.view.ty → BufTy.Contents (Elt F) arg14.view.ty) (R_arg15 : BufTy.Contents (Elt F) arg13.view.ty → BufTy.Contents (Elt F) arg14.view.ty → BufTy.Contents (Elt F) arg15.view.ty → BufTy.Contents (Elt F) arg22.view.ty → BufTy.Contents (Elt F) arg23.view.ty → BufTy.Contents (Elt F) arg15.view.ty) (R_arg22 : BufTy.Contents (Elt F) arg13.view.ty → BufTy.Contents (Elt F) arg14.view.ty → BufTy.Contents (Elt F) arg15.view.ty → BufTy.Contents (Elt F) arg22.view.ty → BufTy.Contents (Elt F) arg23.view.ty → BufTy.Contents (Elt F) arg22.view.ty), { R_arg23 : BufTy.Contents (Elt F) arg13.view.ty → BufTy.Contents (Elt F) arg14.view.ty → BufTy.Contents (Elt F) arg15.view.ty → BufTy.Contents (Elt F) arg22.view.ty → BufTy.Contents (Elt F) arg23.view.ty → BufTy.Contents (Elt F) arg23.view.ty // ∀ (E : Set ℕ) (f_arg13 : BufTy.Contents (Elt F) arg13.view.ty) (f_arg14 : BufTy.Contents (Elt F) arg14.view.ty) (f_arg15 : BufTy.Contents (Elt F) arg15.view.ty) (f_arg22 : BufTy.Contents (Elt F) arg22.view.ty) (f_arg23 : BufTy.Contents (Elt F) arg23.view.ty),
      PointPre (F := F) c arg3 arg4 arg5 arg6 arg7 arg8 arg9 arg10 arg11 arg12 arg13 arg14 arg15 arg16 arg17 arg18 arg19 arg20 arg21 arg22 arg23 X_arg3 X_arg4 X_arg5 X_arg6 X_arg7 X_arg8 X_arg9 X_arg10 X_arg11 X_arg12 f_arg13 f_arg14 f_arg15 f_arg22 f_arg23
      ⊢ wp frame (wpE (defs₀ (F := F)) 𝒱 (c : Thread nD τ) bd) E (cc0_attn_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23)
          (fun _ => PointPre (F := F) c arg3 arg4 arg5 arg6 arg7 arg8 arg9 arg10 arg11 arg12 arg13 arg14 arg15 arg16 arg17 arg18 arg19 arg20 arg21 arg22 arg23 X_arg3 X_arg4 X_arg5 X_arg6 X_arg7 X_arg8 X_arg9 X_arg10 X_arg11 X_arg12 (R_arg13 f_arg13 f_arg14 f_arg15 f_arg22 f_arg23) (R_arg14 f_arg13 f_arg14 f_arg15 f_arg22 f_arg23) (R_arg15 f_arg13 f_arg14 f_arg15 f_arg22 f_arg23) (R_arg22 f_arg13 f_arg14 f_arg15 f_arg22 f_arg23) (R_arg23 f_arg13 f_arg14 f_arg15 f_arg22 f_arg23)) } := by
  refine ⟨?_, ?_, ?_, ?_, ?_, fun E f_arg13 f_arg14 f_arg15 f_arg22 f_arg23 => ?run⟩
  case run =>
    simp only [cc0_attn_bwd_eq_skeleton]; unfold cc0_attn_bwd_skel
    unfold PointPre
    iintro ⟨HR_arg3, HR_arg4, HR_arg5, HR_arg6, HR_arg7, HR_arg8, HR_arg9, HR_arg10, HR_arg11, HR_arg12, HW_arg13, HW_arg14, HW_arg15, HW_arg22, HW_arg23, ⟨%g_arg16, HS_arg16⟩, ⟨%g_arg17, HS_arg17⟩, ⟨%g_arg18, HS_arg18⟩, ⟨%g_arg19, HS_arg19⟩, ⟨%g_arg20, HS_arg20⟩, ⟨%g_arg21, HS_arg21⟩⟩
    sl_exec (disch := first | sl_exact h1 | sl_exact h2)
    sl_step
    sl_close

/-- One grid point at a head between the first and the last: what it leaves in the result blocks and the carried accumulators is found by the run. -/
@[irreducible] def pointB (𝒱 : Variants) (c : Dev nD) (bd : Option 𝒱.V) (i : grid0.Coords) (h1 : ¬ condZ i = 1#1) (h2 : ¬ k0_cond2 i = 1#1) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) :
    Σ' (R_arg13 : BufTy.Contents (Elt F) arg13.view.ty → BufTy.Contents (Elt F) arg14.view.ty → BufTy.Contents (Elt F) arg15.view.ty → BufTy.Contents (Elt F) arg22.view.ty → BufTy.Contents (Elt F) arg23.view.ty → BufTy.Contents (Elt F) arg13.view.ty) (R_arg14 : BufTy.Contents (Elt F) arg13.view.ty → BufTy.Contents (Elt F) arg14.view.ty → BufTy.Contents (Elt F) arg15.view.ty → BufTy.Contents (Elt F) arg22.view.ty → BufTy.Contents (Elt F) arg23.view.ty → BufTy.Contents (Elt F) arg14.view.ty) (R_arg15 : BufTy.Contents (Elt F) arg13.view.ty → BufTy.Contents (Elt F) arg14.view.ty → BufTy.Contents (Elt F) arg15.view.ty → BufTy.Contents (Elt F) arg22.view.ty → BufTy.Contents (Elt F) arg23.view.ty → BufTy.Contents (Elt F) arg15.view.ty) (R_arg22 : BufTy.Contents (Elt F) arg13.view.ty → BufTy.Contents (Elt F) arg14.view.ty → BufTy.Contents (Elt F) arg15.view.ty → BufTy.Contents (Elt F) arg22.view.ty → BufTy.Contents (Elt F) arg23.view.ty → BufTy.Contents (Elt F) arg22.view.ty), { R_arg23 : BufTy.Contents (Elt F) arg13.view.ty → BufTy.Contents (Elt F) arg14.view.ty → BufTy.Contents (Elt F) arg15.view.ty → BufTy.Contents (Elt F) arg22.view.ty → BufTy.Contents (Elt F) arg23.view.ty → BufTy.Contents (Elt F) arg23.view.ty // ∀ (E : Set ℕ) (f_arg13 : BufTy.Contents (Elt F) arg13.view.ty) (f_arg14 : BufTy.Contents (Elt F) arg14.view.ty) (f_arg15 : BufTy.Contents (Elt F) arg15.view.ty) (f_arg22 : BufTy.Contents (Elt F) arg22.view.ty) (f_arg23 : BufTy.Contents (Elt F) arg23.view.ty),
      PointPre (F := F) c arg3 arg4 arg5 arg6 arg7 arg8 arg9 arg10 arg11 arg12 arg13 arg14 arg15 arg16 arg17 arg18 arg19 arg20 arg21 arg22 arg23 X_arg3 X_arg4 X_arg5 X_arg6 X_arg7 X_arg8 X_arg9 X_arg10 X_arg11 X_arg12 f_arg13 f_arg14 f_arg15 f_arg22 f_arg23
      ⊢ wp frame (wpE (defs₀ (F := F)) 𝒱 (c : Thread nD τ) bd) E (cc0_attn_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23)
          (fun _ => PointPre (F := F) c arg3 arg4 arg5 arg6 arg7 arg8 arg9 arg10 arg11 arg12 arg13 arg14 arg15 arg16 arg17 arg18 arg19 arg20 arg21 arg22 arg23 X_arg3 X_arg4 X_arg5 X_arg6 X_arg7 X_arg8 X_arg9 X_arg10 X_arg11 X_arg12 (R_arg13 f_arg13 f_arg14 f_arg15 f_arg22 f_arg23) (R_arg14 f_arg13 f_arg14 f_arg15 f_arg22 f_arg23) (R_arg15 f_arg13 f_arg14 f_arg15 f_arg22 f_arg23) (R_arg22 f_arg13 f_arg14 f_arg15 f_arg22 f_arg23) (R_arg23 f_arg13 f_arg14 f_arg15 f_arg22 f_arg23)) } := by
  refine ⟨?_, ?_, ?_, ?_, ?_, fun E f_arg13 f_arg14 f_arg15 f_arg22 f_arg23 => ?run⟩
  case run =>
    simp only [cc0_attn_bwd_eq_skeleton]; unfold cc0_attn_bwd_skel
    unfold PointPre
    iintro ⟨HR_arg3, HR_arg4, HR_arg5, HR_arg6, HR_arg7, HR_arg8, HR_arg9, HR_arg10, HR_arg11, HR_arg12, HW_arg13, HW_arg14, HW_arg15, HW_arg22, HW_arg23, ⟨%g_arg16, HS_arg16⟩, ⟨%g_arg17, HS_arg17⟩, ⟨%g_arg18, HS_arg18⟩, ⟨%g_arg19, HS_arg19⟩, ⟨%g_arg20, HS_arg20⟩, ⟨%g_arg21, HS_arg21⟩⟩
    sl_exec (disch := first | sl_exact h1 | sl_exact h2)
    sl_step
    sl_close

/-- One grid point at the last head of a group: what it leaves in the result blocks and the carried accumulators is found by the run. -/
@[irreducible] def pointC (𝒱 : Variants) (c : Dev nD) (bd : Option 𝒱.V) (i : grid0.Coords) (h1 : ¬ condZ i = 1#1) (h2 : k0_cond2 i = 1#1) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) :
    Σ' (R_arg13 : BufTy.Contents (Elt F) arg13.view.ty → BufTy.Contents (Elt F) arg14.view.ty → BufTy.Contents (Elt F) arg15.view.ty → BufTy.Contents (Elt F) arg22.view.ty → BufTy.Contents (Elt F) arg23.view.ty → BufTy.Contents (Elt F) arg13.view.ty) (R_arg14 : BufTy.Contents (Elt F) arg13.view.ty → BufTy.Contents (Elt F) arg14.view.ty → BufTy.Contents (Elt F) arg15.view.ty → BufTy.Contents (Elt F) arg22.view.ty → BufTy.Contents (Elt F) arg23.view.ty → BufTy.Contents (Elt F) arg14.view.ty) (R_arg15 : BufTy.Contents (Elt F) arg13.view.ty → BufTy.Contents (Elt F) arg14.view.ty → BufTy.Contents (Elt F) arg15.view.ty → BufTy.Contents (Elt F) arg22.view.ty → BufTy.Contents (Elt F) arg23.view.ty → BufTy.Contents (Elt F) arg15.view.ty) (R_arg22 : BufTy.Contents (Elt F) arg13.view.ty → BufTy.Contents (Elt F) arg14.view.ty → BufTy.Contents (Elt F) arg15.view.ty → BufTy.Contents (Elt F) arg22.view.ty → BufTy.Contents (Elt F) arg23.view.ty → BufTy.Contents (Elt F) arg22.view.ty), { R_arg23 : BufTy.Contents (Elt F) arg13.view.ty → BufTy.Contents (Elt F) arg14.view.ty → BufTy.Contents (Elt F) arg15.view.ty → BufTy.Contents (Elt F) arg22.view.ty → BufTy.Contents (Elt F) arg23.view.ty → BufTy.Contents (Elt F) arg23.view.ty // ∀ (E : Set ℕ) (f_arg13 : BufTy.Contents (Elt F) arg13.view.ty) (f_arg14 : BufTy.Contents (Elt F) arg14.view.ty) (f_arg15 : BufTy.Contents (Elt F) arg15.view.ty) (f_arg22 : BufTy.Contents (Elt F) arg22.view.ty) (f_arg23 : BufTy.Contents (Elt F) arg23.view.ty),
      PointPre (F := F) c arg3 arg4 arg5 arg6 arg7 arg8 arg9 arg10 arg11 arg12 arg13 arg14 arg15 arg16 arg17 arg18 arg19 arg20 arg21 arg22 arg23 X_arg3 X_arg4 X_arg5 X_arg6 X_arg7 X_arg8 X_arg9 X_arg10 X_arg11 X_arg12 f_arg13 f_arg14 f_arg15 f_arg22 f_arg23
      ⊢ wp frame (wpE (defs₀ (F := F)) 𝒱 (c : Thread nD τ) bd) E (cc0_attn_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23)
          (fun _ => PointPre (F := F) c arg3 arg4 arg5 arg6 arg7 arg8 arg9 arg10 arg11 arg12 arg13 arg14 arg15 arg16 arg17 arg18 arg19 arg20 arg21 arg22 arg23 X_arg3 X_arg4 X_arg5 X_arg6 X_arg7 X_arg8 X_arg9 X_arg10 X_arg11 X_arg12 (R_arg13 f_arg13 f_arg14 f_arg15 f_arg22 f_arg23) (R_arg14 f_arg13 f_arg14 f_arg15 f_arg22 f_arg23) (R_arg15 f_arg13 f_arg14 f_arg15 f_arg22 f_arg23) (R_arg22 f_arg13 f_arg14 f_arg15 f_arg22 f_arg23) (R_arg23 f_arg13 f_arg14 f_arg15 f_arg22 f_arg23)) } := by
  refine ⟨?_, ?_, ?_, ?_, ?_, fun E f_arg13 f_arg14 f_arg15 f_arg22 f_arg23 => ?run⟩
  case run =>
    simp only [cc0_attn_bwd_eq_skeleton]; unfold cc0_attn_bwd_skel
    unfold PointPre
    iintro ⟨HR_arg3, HR_arg4, HR_arg5, HR_arg6, HR_arg7, HR_arg8, HR_arg9, HR_arg10, HR_arg11, HR_arg12, HW_arg13, HW_arg14, HW_arg15, HW_arg22, HW_arg23, ⟨%g_arg16, HS_arg16⟩, ⟨%g_arg17, HS_arg17⟩, ⟨%g_arg18, HS_arg18⟩, ⟨%g_arg19, HS_arg19⟩, ⟨%g_arg20, HS_arg20⟩, ⟨%g_arg21, HS_arg21⟩⟩
    sl_exec (disch := first | sl_exact h1 | sl_exact h2)
    sl_step
    sl_close

end Cert.KernelIdeal.Gen

end
-- ==== Proof.StepKI.lean ====
/- What the kernel's two loops do to the three accumulators, as pure functions of the blocks they read: one tile of the
   diagonal, one tile below it, the loops of such tiles, and the proof that the pieces the runs write read back as these. -/
module

public import proofs.«01_k».proof.Proof.LoopKI
public import Idealize.ShloMosaic.Lib.VecWindow

@[expose] public section

set_option maxRecDepth 16384
set_option maxHeartbeats 4000000

noncomputable section

namespace Cert.KernelIdeal.Gen

open Idealize.ShloMosaic Idealize.ShloMosaic.TcCoe Idealize.ShloMosaic.Tactic
open Idealize.SL Idealize.SL.RA Idealize.SL.BI
open VecWindow (window put)

variable {F : FTy → Type} [FloatOps F] [Named F]

/-- What the loops read: the score scale, the query, key, value blocks and the gradient block, the two scaled operands, and
   the spread log-sum-exp, row term and gradient scale. -/
structure Ops (F : FTy → Type) where
  /-- the score scale -/
  sc : F .f32
  /-- queries -/
  q : Vec F S1x1x2048x96 .fp8e4m3
  /-- keys -/
  k : Vec F S1x1x2048x96 .fp8e4m3
  /-- values -/
  v : Vec F S1x1x2048x96 .fp8e4m3
  /-- the incoming gradient -/
  g : Vec F S1x1x2048x96 .fp8e5m2
  /-- scaled queries -/
  qw : Vec F S2048x96 .bf16
  /-- scaled gradient -/
  dw : Vec F S2048x96 .bf16
  /-- log-sum-exp -/
  ls : Vec F S2048x128 .f32
  /-- row term -/
  de : Vec F S2048x128 .f32
  /-- gradient scale -/
  ds : Vec F S2048x128 .f32

/-- The three accumulators. -/
@[ext] structure Acc (F : FTy → Type) where
  /-- query gradient -/
  a : Vec F S2048x96 .f32
  /-- key gradient -/
  b : Vec F S2048x96 .f32
  /-- value gradient -/
  c : Vec F S2048x96 .f32

/-- One tile below the diagonal: key block `j`, query block `j + 1 + k`. -/
def step2 (o : Ops F) (j : Fin k0_t1_loop.trips) (k : Fin (k0_t2_loop j).trips) (s : Acc F) : Acc F :=
  let q := window o.q (k0_off6 j k) S1x1x512x96.size (k0_off6_inb j k)
  let kk := window o.k (k0_off7 j) S1x1x512x96.size (k0_off7_inb j)
  let ls := window o.ls (k0_off8 j k) S512x128.size (k0_off8_inb j k)
  let ds := k0_pay13 o.sc q kk ls (window o.g (k0_off6 j k) S1x1x512x96.size (k0_off6_inb j k))
    (window o.v (k0_off7 j) S1x1x512x96.size (k0_off7_inb j)) (window o.ds (k0_off8 j k) S512x128.size (k0_off8_inb j k))
    (window o.de (k0_off8 j k) S512x128.size (k0_off8_inb j k))
  ⟨put s.a (k0_off10 j k) S512x96.size (k0_pay5 ds (window s.a (k0_off10 j k) S512x96.size (k0_off10_inb j k)) kk),
   put s.b (k0_off9 j) S512x96.size (k0_pay4 ds (window s.b (k0_off9 j) S512x96.size (k0_off9_inb j))
      (window o.qw (k0_off10 j k) S512x96.size (k0_off10_inb j k))),
   put s.c (k0_off9 j) S512x96.size (k0_pay3 (k0_pay12 o.sc q kk ls) (window s.c (k0_off9 j) S512x96.size (k0_off9_inb j))
      (window o.dw (k0_off10 j k) S512x96.size (k0_off10_inb j k)))⟩

/-- The tile on the diagonal: key block `j`, query block `j`. -/
def step1 (o : Ops F) (j : Fin k0_t1_loop.trips) (s : Acc F) : Acc F :=
  let kk := window o.k (k0_off3 j) S1x1x512x96.size (k0_off3_inb j)
  let p := k0_pay16 o.sc (window o.q (k0_off3 j) S1x1x512x96.size (k0_off3_inb j)) kk (window o.ls (k0_off4 j) S512x128.size (k0_off4_inb j))
  let dp := k0_pay17 (window o.g (k0_off3 j) S1x1x512x96.size (k0_off3_inb j)) (window o.v (k0_off3 j) S1x1x512x96.size (k0_off3_inb j))
    (window o.ds (k0_off4 j) S512x128.size (k0_off4_inb j))
  let de := k0_pay18 (window o.de (k0_off4 j) S512x128.size (k0_off4_inb j))
  ⟨put s.a (k0_off5 j) S512x96.size (k0_pay22 p dp de (window s.a (k0_off5 j) S512x96.size (k0_off5_inb j)) kk),
   put s.b (k0_off5 j) S512x96.size (k0_pay21 p dp de (window s.b (k0_off5 j) S512x96.size (k0_off5_inb j))
      (window o.qw (k0_off5 j) S512x96.size (k0_off5_inb j))),
   put s.c (k0_off5 j) S512x96.size (k0_pay20 p (window s.c (k0_off5 j) S512x96.size (k0_off5_inb j))
      (window o.dw (k0_off5 j) S512x96.size (k0_off5_inb j)))⟩

/-- The first `n` tiles below the diagonal of key block `j`. -/
def loop2 (o : Ops F) (j : Fin k0_t1_loop.trips) (s : Acc F) : ℕ → Acc F
  | 0 => s
  | n + 1 => if h : n < (k0_t2_loop j).trips then step2 o j ⟨n, h⟩ (loop2 o j s n) else loop2 o j s n

theorem loop2_succ (o : Ops F) (j : Fin k0_t1_loop.trips) (s : Acc F) (n : Fin (k0_t2_loop j).trips) :
    loop2 o j s (n.val + 1) = step2 o j n (loop2 o j s n.val) := dif_pos n.isLt

/-- The first `n` key blocks, each its diagonal tile and then every tile below. -/
def loop1 (o : Ops F) (s : Acc F) : ℕ → Acc F
  | 0 => s
  | n + 1 => if h : n < k0_t1_loop.trips then
      loop2 o ⟨n, h⟩ (step1 o ⟨n, h⟩ (loop1 o s n)) (k0_t2_loop ⟨n, h⟩).trips else loop1 o s n

theorem loop1_succ (o : Ops F) (s : Acc F) (n : Fin k0_t1_loop.trips) :
    loop1 o s (n.val + 1) = loop2 o n (step1 o n (loop1 o s n.val)) (k0_t2_loop n).trips := dif_pos n.isLt

/-- The remainder loop never runs. -/
theorem trips3 : ∀ j : Fin k0_t1_loop.trips, (k0_t3_loop j).trips = 0 := by decide +kernel

/-- The same at the words the run spells the trip count with. -/
theorem trips3' (k : Fin k0_t1_loop.trips) :
    Scf.trips (Scalar.addi (Scalar.addi (Scf.iv 0#32 1#32 k.val) 1#32)
        (Scalar.muli (Scalar.divsi (Scalar.subi 4#32 (Scalar.addi (Scf.iv 0#32 1#32 k.val) 1#32)) 1#32) 1#32))
      (Scalar.addi (Scalar.addi (Scf.iv 0#32 1#32 k.val) 1#32) (Scalar.subi 4#32 (Scalar.addi (Scf.iv 0#32 1#32 k.val) 1#32)))
      1#32 = 0 := trips3 k

/-- One trip of the inner loop, read back: the three accumulators after it are `step2` of those before. -/
theorem trip2_read (𝒱 : Variants) (c : Dev nD) (bd : Option 𝒱.V) (i : grid0.Coords) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (v9 : F .f32) (k0_t1 : Fin k0_t1_loop.trips) (arg24 : BitVec 32) (v159 : BitVec 32) (X_arg6 : BufTy.Contents (Elt F) arg6.view.ty) (X_arg7 : BufTy.Contents (Elt F) arg7.view.ty) (X_arg8 : BufTy.Contents (Elt F) arg8.view.ty) (X_arg10 : BufTy.Contents (Elt F) arg10.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (k : Fin (k0_t2_loop k0_t1).trips) (acc : BitVec 32) (f_arg21 : BufTy.Contents (Elt F) arg21.view.ty) (f_arg22 : BufTy.Contents (Elt F) arg22.view.ty) (f_arg23 : BufTy.Contents (Elt F) arg23.view.ty) :
    (⟨arg21.view.read (Elt F) (arg21.view.writes (Elt F) f_arg21 (tripL_k0_t2 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 k0_t1 arg24 v159 X_arg6 X_arg7 X_arg8 X_arg10 X_arg16 X_arg17 X_arg18 X_arg19 X_arg20 k acc f_arg21 f_arg22 f_arg23).1),
      arg22.view.read (Elt F) (arg22.view.writes (Elt F) f_arg22 (tripL_k0_t2 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 k0_t1 arg24 v159 X_arg6 X_arg7 X_arg8 X_arg10 X_arg16 X_arg17 X_arg18 X_arg19 X_arg20 k acc f_arg21 f_arg22 f_arg23).2.1),
      arg23.view.read (Elt F) (arg23.view.writes (Elt F) f_arg23 (tripL_k0_t2 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 k0_t1 arg24 v159 X_arg6 X_arg7 X_arg8 X_arg10 X_arg16 X_arg17 X_arg18 X_arg19 X_arg20 k acc f_arg21 f_arg22 f_arg23).2.2)⟩ : Acc F)
    = step2 (⟨v9, (arg6.view.read (Elt F) X_arg6), (arg7.view.read (Elt F) X_arg7), (arg8.view.read (Elt F) X_arg8), (arg10.view.read (Elt F) X_arg10), (arg16.view.read (Elt F) X_arg16), (arg17.view.read (Elt F) X_arg17), (arg18.view.read (Elt F) X_arg18), (arg19.view.read (Elt F) X_arg19), (arg20.view.read (Elt F) X_arg20)⟩ : Ops F) k0_t1 k ⟨(arg21.view.read (Elt F) f_arg21), (arg22.view.read (Elt F) f_arg22), (arg23.view.read (Elt F) f_arg23)⟩ := by
  unfold tripL_k0_t2 trip_k0_t2
  apply Acc.ext
  · exact View.read_writes_cons_put arg21.view f_arg21 _ _ [] rfl
  · exact View.read_writes_cons_put arg22.view f_arg22 _ _ [] rfl
  · exact View.read_writes_cons_put arg23.view f_arg23 _ _ [] rfl

/-- The inner loop, read back: after `n` trips the accumulators are `loop2` of those at its entry. -/
theorem st2_read (𝒱 : Variants) (c : Dev nD) (bd : Option 𝒱.V) (i : grid0.Coords) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (v9 : F .f32) (k0_t1 : Fin k0_t1_loop.trips) (arg24 : BitVec 32) (v159 : BitVec 32) (X_arg6 : BufTy.Contents (Elt F) arg6.view.ty) (X_arg7 : BufTy.Contents (Elt F) arg7.view.ty) (X_arg8 : BufTy.Contents (Elt F) arg8.view.ty) (X_arg10 : BufTy.Contents (Elt F) arg10.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (G_arg21 : BufTy.Contents (Elt F) arg21.view.ty) (G_arg22 : BufTy.Contents (Elt F) arg22.view.ty) (G_arg23 : BufTy.Contents (Elt F) arg23.view.ty) (init : BitVec 32) (n : ℕ) (hn : n ≤ (k0_t2_loop k0_t1).trips) :
    (⟨arg21.view.read (Elt F) (arg21.view.writes (Elt F) G_arg21 (st_k0_t2 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 k0_t1 arg24 v159 X_arg6 X_arg7 X_arg8 X_arg10 X_arg16 X_arg17 X_arg18 X_arg19 X_arg20 G_arg21 G_arg22 G_arg23 init n).2.1),
      arg22.view.read (Elt F) (arg22.view.writes (Elt F) G_arg22 (st_k0_t2 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 k0_t1 arg24 v159 X_arg6 X_arg7 X_arg8 X_arg10 X_arg16 X_arg17 X_arg18 X_arg19 X_arg20 G_arg21 G_arg22 G_arg23 init n).2.2.1),
      arg23.view.read (Elt F) (arg23.view.writes (Elt F) G_arg23 (st_k0_t2 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 k0_t1 arg24 v159 X_arg6 X_arg7 X_arg8 X_arg10 X_arg16 X_arg17 X_arg18 X_arg19 X_arg20 G_arg21 G_arg22 G_arg23 init n).2.2.2)⟩ : Acc F)
    = loop2 (⟨v9, (arg6.view.read (Elt F) X_arg6), (arg7.view.read (Elt F) X_arg7), (arg8.view.read (Elt F) X_arg8), (arg10.view.read (Elt F) X_arg10), (arg16.view.read (Elt F) X_arg16), (arg17.view.read (Elt F) X_arg17), (arg18.view.read (Elt F) X_arg18), (arg19.view.read (Elt F) X_arg19), (arg20.view.read (Elt F) X_arg20)⟩ : Ops F) k0_t1 ⟨(arg21.view.read (Elt F) G_arg21), (arg22.view.read (Elt F) G_arg22), (arg23.view.read (Elt F) G_arg23)⟩ n := by
  induction n with
  | zero => rfl
  | succ n ih =>
    have h : n < (k0_t2_loop k0_t1).trips := hn
    have e := st_k0_t2_succ (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 k0_t1 arg24 v159 X_arg6 X_arg7 X_arg8 X_arg10 X_arg16 X_arg17 X_arg18 X_arg19 X_arg20 G_arg21 G_arg22 G_arg23 init ⟨n, h⟩
    have e' := loop2_succ (⟨v9, (arg6.view.read (Elt F) X_arg6), (arg7.view.read (Elt F) X_arg7), (arg8.view.read (Elt F) X_arg8), (arg10.view.read (Elt F) X_arg10), (arg16.view.read (Elt F) X_arg16), (arg17.view.read (Elt F) X_arg17), (arg18.view.read (Elt F) X_arg18), (arg19.view.read (Elt F) X_arg19), (arg20.view.read (Elt F) X_arg20)⟩ : Ops F) k0_t1 ⟨(arg21.view.read (Elt F) G_arg21), (arg22.view.read (Elt F) G_arg22), (arg23.view.read (Elt F) G_arg23)⟩ ⟨n, h⟩
    dsimp only at e e'
    rw [e, e', ← ih h.le]
    simp only [View.writes_append]
    exact trip2_read (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 k0_t1 arg24 v159 X_arg6 X_arg7 X_arg8 X_arg10 X_arg16 X_arg17 X_arg18 X_arg19 X_arg20 ⟨n, h⟩ _ _ _ _

/-- One trip of the outer loop, read back: the diagonal tile and then the tiles below it. -/
theorem trip1_read (𝒱 : Variants) (c : Dev nD) (bd : Option 𝒱.V) (i : grid0.Coords) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (v9 : F .f32) (X_arg6 : BufTy.Contents (Elt F) arg6.view.ty) (X_arg7 : BufTy.Contents (Elt F) arg7.view.ty) (X_arg8 : BufTy.Contents (Elt F) arg8.view.ty) (X_arg10 : BufTy.Contents (Elt F) arg10.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (k : Fin k0_t1_loop.trips) (acc : Unit) (f_arg21 : BufTy.Contents (Elt F) arg21.view.ty) (f_arg22 : BufTy.Contents (Elt F) arg22.view.ty) (f_arg23 : BufTy.Contents (Elt F) arg23.view.ty) :
    (⟨arg21.view.read (Elt F) (arg21.view.writes (Elt F) f_arg21 (tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 k acc f_arg21 f_arg22 f_arg23).1),
      arg22.view.read (Elt F) (arg22.view.writes (Elt F) f_arg22 (tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 k acc f_arg21 f_arg22 f_arg23).2.1),
      arg23.view.read (Elt F) (arg23.view.writes (Elt F) f_arg23 (tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 k acc f_arg21 f_arg22 f_arg23).2.2)⟩ : Acc F)
    = loop2 (⟨v9, (arg6.view.read (Elt F) X_arg6), (arg7.view.read (Elt F) X_arg7), (arg8.view.read (Elt F) X_arg8), (arg10.view.read (Elt F) X_arg10), (arg16.view.read (Elt F) X_arg16), (arg17.view.read (Elt F) X_arg17), (arg18.view.read (Elt F) X_arg18), (arg19.view.read (Elt F) X_arg19), (arg20.view.read (Elt F) X_arg20)⟩ : Ops F) k (step1 (⟨v9, (arg6.view.read (Elt F) X_arg6), (arg7.view.read (Elt F) X_arg7), (arg8.view.read (Elt F) X_arg8), (arg10.view.read (Elt F) X_arg10), (arg16.view.read (Elt F) X_arg16), (arg17.view.read (Elt F) X_arg17), (arg18.view.read (Elt F) X_arg18), (arg19.view.read (Elt F) X_arg19), (arg20.view.read (Elt F) X_arg20)⟩ : Ops F) k ⟨(arg21.view.read (Elt F) f_arg21), (arg22.view.read (Elt F) f_arg22), (arg23.view.read (Elt F) f_arg23)⟩) (k0_t2_loop k).trips := by
  unfold tripL_k0_t1 trip_k0_t1
  dsimp only
  simp only [trips3' k, st_k0_t3.eq_1, List.nil_append, View.writes_append]
  refine (st2_read (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 k _ _ X_arg6 X_arg7 X_arg8 X_arg10 X_arg16 X_arg17 X_arg18 X_arg19 X_arg20 _ _ _ _ _ le_rfl).trans (congrArg (loop2 (⟨v9, (arg6.view.read (Elt F) X_arg6), (arg7.view.read (Elt F) X_arg7), (arg8.view.read (Elt F) X_arg8), (arg10.view.read (Elt F) X_arg10), (arg16.view.read (Elt F) X_arg16), (arg17.view.read (Elt F) X_arg17), (arg18.view.read (Elt F) X_arg18), (arg19.view.read (Elt F) X_arg19), (arg20.view.read (Elt F) X_arg20)⟩ : Ops F) k · (k0_t2_loop k).trips) ?_)
  apply Acc.ext
  · exact View.read_writes_cons_put arg21.view f_arg21 _ _ [] rfl
  · exact View.read_writes_cons_put arg22.view f_arg22 _ _ [] rfl
  · exact View.read_writes_cons_put arg23.view f_arg23 _ _ [] rfl

/-- The outer loop, read back: after `n` trips the accumulators are `loop1` of those at its entry. -/
theorem st1_read (𝒱 : Variants) (c : Dev nD) (bd : Option 𝒱.V) (i : grid0.Coords) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (v9 : F .f32) (X_arg6 : BufTy.Contents (Elt F) arg6.view.ty) (X_arg7 : BufTy.Contents (Elt F) arg7.view.ty) (X_arg8 : BufTy.Contents (Elt F) arg8.view.ty) (X_arg10 : BufTy.Contents (Elt F) arg10.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (G_arg21 : BufTy.Contents (Elt F) arg21.view.ty) (G_arg22 : BufTy.Contents (Elt F) arg22.view.ty) (G_arg23 : BufTy.Contents (Elt F) arg23.view.ty) (n : ℕ) (hn : n ≤ k0_t1_loop.trips) :
    (⟨arg21.view.read (Elt F) (arg21.view.writes (Elt F) G_arg21 (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 () n).2.1),
      arg22.view.read (Elt F) (arg22.view.writes (Elt F) G_arg22 (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 () n).2.2.1),
      arg23.view.read (Elt F) (arg23.view.writes (Elt F) G_arg23 (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 () n).2.2.2)⟩ : Acc F)
    = loop1 (⟨v9, (arg6.view.read (Elt F) X_arg6), (arg7.view.read (Elt F) X_arg7), (arg8.view.read (Elt F) X_arg8), (arg10.view.read (Elt F) X_arg10), (arg16.view.read (Elt F) X_arg16), (arg17.view.read (Elt F) X_arg17), (arg18.view.read (Elt F) X_arg18), (arg19.view.read (Elt F) X_arg19), (arg20.view.read (Elt F) X_arg20)⟩ : Ops F) ⟨(arg21.view.read (Elt F) G_arg21), (arg22.view.read (Elt F) G_arg22), (arg23.view.read (Elt F) G_arg23)⟩ n := by
  induction n with
  | zero => rfl
  | succ n ih =>
    have h : n < k0_t1_loop.trips := hn
    have e := st_k0_t1_succ (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 () ⟨n, h⟩
    have e' := loop1_succ (⟨v9, (arg6.view.read (Elt F) X_arg6), (arg7.view.read (Elt F) X_arg7), (arg8.view.read (Elt F) X_arg8), (arg10.view.read (Elt F) X_arg10), (arg16.view.read (Elt F) X_arg16), (arg17.view.read (Elt F) X_arg17), (arg18.view.read (Elt F) X_arg18), (arg19.view.read (Elt F) X_arg19), (arg20.view.read (Elt F) X_arg20)⟩ : Ops F) ⟨(arg21.view.read (Elt F) G_arg21), (arg22.view.read (Elt F) G_arg22), (arg23.view.read (Elt F) G_arg23)⟩ ⟨n, h⟩
    dsimp only at e e'
    rw [e, e', ← ih h.le]
    simp only [View.writes_append]
    exact trip1_read (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 ⟨n, h⟩ _ _ _ _

end Cert.KernelIdeal.Gen

end
-- ==== Proof.PointKI.lean ====
/- What one grid point leaves in the result blocks and the carried accumulators, as pure functions of the operand blocks
   and of the accumulators as the point finds them. -/
module

public import proofs.«01_k».proof.Proof.BodyKI
public import proofs.«01_k».proof.Proof.StepKI
public import Idealize.ShloMosaic.Lib.Pipeline.TableIdle

@[expose] public section

set_option maxRecDepth 16384
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)

variable {F : FTy → Type} [FloatOps F] [Named F]

/-- The resource algebra the triples are stated at. -/
local notation "𝕄G" => MT nD τ sig Unit (Elt F) ℕ (UR sig nD τ) ℕ

/-- The query head's scale at a grid point. -/
def wordQ (i : grid0.Coords) (x : Vec F S32 .f32) : Elt F .f32 :=
  window x (k0_off1 i) S1.size (k0_off1_inb i) (Shape.Idx.first (numel1_S1.symm ▸ Nat.one_pos))

/-- The key head's scale at a grid point (of the key scales or of the value scales). -/
def wordK (i : grid0.Coords) (x : Vec F S4 .f32) : Elt F .f32 :=
  window x (k0_off2 i) S1.size (k0_off2_inb i) (Shape.Idx.first (numel1_S1.symm ▸ Nat.one_pos))

/-- What the loops read at a grid point, of the ten operand blocks. -/
def ptOps (i : grid0.Coords) (x3 : Vec F S32 .f32) (x4 : Vec F S4 .f32) (x5 : Vec F S4 .f32) (x6 : Vec F S1x1x2048x96 .fp8e4m3) (x7 : Vec F S1x1x2048x96 .fp8e4m3) (x8 : Vec F S1x1x2048x96 .fp8e4m3) (x9 : Vec F S1x1x2048x96 .bf16) (x10 : Vec F S1x1x2048x96 .fp8e5m2) (x11 : Vec F S1x1x1x2048 .f32) (x12 : Vec F S1x1x1x2048 .f32) : Ops F :=
  ⟨k0_pay23 (wordQ i x3) (wordK i x4), x6, x7, x8, x10, k0_pay29 (wordQ i x3) x6, k0_pay30 (k0_pay25 x12) x10, k0_pay24 x11,
    k0_pay28 (k0_pay25 x12) x10 x9, k0_pay26 (wordK i x5) x12⟩

theorem Ops.ext' {a a' : F .f32} {b b' c c' d d' : Vec F S1x1x2048x96 .fp8e4m3} {e e' : Vec F S1x1x2048x96 .fp8e5m2}
    {f f' g g' : Vec F S2048x96 .bf16} {h h' k k' l l' : Vec F S2048x128 .f32} (ha : a = a') (hb : b = b') (hc : c = c')
    (hd : d = d') (he : e = e') (hf : f = f') (hg : g = g') (hh : h = h') (hk : k = k') (hl : l = l') :
    (⟨a, b, c, d, e, f, g, h, k, l⟩ : Ops F) = ⟨a', b', c', d', e', f', g', h', k', l'⟩ := by
  subst ha hb hc hd he hf hg hh hk hl; rfl

/-- The accumulators after the loops at a grid point, the carried ones found at `b` and `d`. -/
def ptAcc (i : grid0.Coords) (x3 : Vec F S32 .f32) (x4 : Vec F S4 .f32) (x5 : Vec F S4 .f32) (x6 : Vec F S1x1x2048x96 .fp8e4m3) (x7 : Vec F S1x1x2048x96 .fp8e4m3) (x8 : Vec F S1x1x2048x96 .fp8e4m3) (x9 : Vec F S1x1x2048x96 .bf16) (x10 : Vec F S1x1x2048x96 .fp8e5m2) (x11 : Vec F S1x1x1x2048 .f32) (x12 : Vec F S1x1x1x2048 .f32) (b d : Vec F S2048x96 .f32) : Acc F :=
  loop1 (ptOps i x3 x4 x5 x6 x7 x8 x9 x10 x11 x12) ⟨k0_pay31, b, d⟩ k0_t1_loop.trips

theorem st1_read_a (𝒱 : Variants) (c : Dev nD) (bd : Option 𝒱.V) (i : grid0.Coords) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (v9 : F .f32) (X_arg6 : BufTy.Contents (Elt F) arg6.view.ty) (X_arg7 : BufTy.Contents (Elt F) arg7.view.ty) (X_arg8 : BufTy.Contents (Elt F) arg8.view.ty) (X_arg10 : BufTy.Contents (Elt F) arg10.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (G_arg21 : BufTy.Contents (Elt F) arg21.view.ty) (G_arg22 : BufTy.Contents (Elt F) arg22.view.ty) (G_arg23 : BufTy.Contents (Elt F) arg23.view.ty) :
    arg21.view.read (Elt F) (arg21.view.writes (Elt F) G_arg21 (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 PUnit.unit (Scf.trips k0_t1_loop.lb k0_t1_loop.ub k0_t1_loop.st)).2.1)
      = (loop1 (⟨v9, (arg6.view.read (Elt F) X_arg6), (arg7.view.read (Elt F) X_arg7), (arg8.view.read (Elt F) X_arg8), (arg10.view.read (Elt F) X_arg10), (arg16.view.read (Elt F) X_arg16), (arg17.view.read (Elt F) X_arg17), (arg18.view.read (Elt F) X_arg18), (arg19.view.read (Elt F) X_arg19), (arg20.view.read (Elt F) X_arg20)⟩ : Ops F) ⟨(arg21.view.read (Elt F) G_arg21), (arg22.view.read (Elt F) G_arg22), (arg23.view.read (Elt F) G_arg23)⟩ k0_t1_loop.trips).a :=
  congrArg Acc.a (st1_read (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 k0_t1_loop.trips le_rfl)

theorem st1_read_b (𝒱 : Variants) (c : Dev nD) (bd : Option 𝒱.V) (i : grid0.Coords) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (v9 : F .f32) (X_arg6 : BufTy.Contents (Elt F) arg6.view.ty) (X_arg7 : BufTy.Contents (Elt F) arg7.view.ty) (X_arg8 : BufTy.Contents (Elt F) arg8.view.ty) (X_arg10 : BufTy.Contents (Elt F) arg10.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (G_arg21 : BufTy.Contents (Elt F) arg21.view.ty) (G_arg22 : BufTy.Contents (Elt F) arg22.view.ty) (G_arg23 : BufTy.Contents (Elt F) arg23.view.ty) :
    arg22.view.read (Elt F) (arg22.view.writes (Elt F) G_arg22 (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 PUnit.unit (Scf.trips k0_t1_loop.lb k0_t1_loop.ub k0_t1_loop.st)).2.2.1)
      = (loop1 (⟨v9, (arg6.view.read (Elt F) X_arg6), (arg7.view.read (Elt F) X_arg7), (arg8.view.read (Elt F) X_arg8), (arg10.view.read (Elt F) X_arg10), (arg16.view.read (Elt F) X_arg16), (arg17.view.read (Elt F) X_arg17), (arg18.view.read (Elt F) X_arg18), (arg19.view.read (Elt F) X_arg19), (arg20.view.read (Elt F) X_arg20)⟩ : Ops F) ⟨(arg21.view.read (Elt F) G_arg21), (arg22.view.read (Elt F) G_arg22), (arg23.view.read (Elt F) G_arg23)⟩ k0_t1_loop.trips).b :=
  congrArg Acc.b (st1_read (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 k0_t1_loop.trips le_rfl)

theorem st1_read_c (𝒱 : Variants) (c : Dev nD) (bd : Option 𝒱.V) (i : grid0.Coords) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (v9 : F .f32) (X_arg6 : BufTy.Contents (Elt F) arg6.view.ty) (X_arg7 : BufTy.Contents (Elt F) arg7.view.ty) (X_arg8 : BufTy.Contents (Elt F) arg8.view.ty) (X_arg10 : BufTy.Contents (Elt F) arg10.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (G_arg21 : BufTy.Contents (Elt F) arg21.view.ty) (G_arg22 : BufTy.Contents (Elt F) arg22.view.ty) (G_arg23 : BufTy.Contents (Elt F) arg23.view.ty) :
    arg23.view.read (Elt F) (arg23.view.writes (Elt F) G_arg23 (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 PUnit.unit (Scf.trips k0_t1_loop.lb k0_t1_loop.ub k0_t1_loop.st)).2.2.2)
      = (loop1 (⟨v9, (arg6.view.read (Elt F) X_arg6), (arg7.view.read (Elt F) X_arg7), (arg8.view.read (Elt F) X_arg8), (arg10.view.read (Elt F) X_arg10), (arg16.view.read (Elt F) X_arg16), (arg17.view.read (Elt F) X_arg17), (arg18.view.read (Elt F) X_arg18), (arg19.view.read (Elt F) X_arg19), (arg20.view.read (Elt F) X_arg20)⟩ : Ops F) ⟨(arg21.view.read (Elt F) G_arg21), (arg22.view.read (Elt F) G_arg22), (arg23.view.read (Elt F) G_arg23)⟩ k0_t1_loop.trips).c :=
  congrArg Acc.c (st1_read (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 X_arg6 X_arg7 X_arg8 X_arg10 X_arg16 X_arg17 X_arg18 X_arg19 X_arg20 G_arg21 G_arg22 G_arg23 k0_t1_loop.trips le_rfl)

theorem wordQ_read (i : grid0.Coords) {κ : Kind} {sp : Space} (v : View sig κ sp S32 .f32) (X : v.ty.Contents (Elt F)) :
    View.readAt (Elt F) v (Rect.unit (s := S32) (k0_off1 i) S1.size (k0_off1_inb i)).toLoadRect X (Shape.Idx.first (numel1_S1.symm ▸ Nat.one_pos))
      = wordQ i (v.read (Elt F) X) :=
  congrFun (View.readAt_unit v X _ rfl _) _
theorem wordK_read (i : grid0.Coords) {κ : Kind} {sp : Space} (v : View sig κ sp S4 .f32) (X : v.ty.Contents (Elt F)) :
    View.readAt (Elt F) v (Rect.unit (s := S4) (k0_off2 i) S1.size (k0_off2_inb i)).toLoadRect X (Shape.Idx.first (numel1_S1.symm ▸ Nat.one_pos))
      = wordK i (v.read (Elt F) X) :=
  congrFun (View.readAt_unit v X _ rfl _) _
theorem pay9_congr {w w' : F .f32} {a a' : Vec F S2048x96 .f32} (hw : w = w') (ha : a = a') : k0_pay9 w a = k0_pay9 w' a' := by
  subst hw ha; rfl
theorem loop1_congr {o o' : Ops F} {s s' : Acc F} (n : ℕ) (ho : o = o') (hs : s = s') : loop1 o s n = loop1 o' s' n := by
  subst ho hs; rfl
theorem loop1_congr_a {o o' : Ops F} {s s' : Acc F} (n : ℕ) (ho : o = o') (hs : s = s') : (loop1 o s n).a = (loop1 o' s' n).a := by
  subst ho hs; rfl
theorem Acc.ext' {a a' b b' c c' : Vec F S2048x96 .f32} (ha : a = a') (hb : b = b') (hc : c = c') :
    (⟨a, b, c⟩ : Acc F) = ⟨a', b', c'⟩ := by
  subst ha hb hc; rfl
theorem loop1_congr_b {o o' : Ops F} {s s' : Acc F} (n : ℕ) (ho : o = o') (hs : s = s') : (loop1 o s n).b = (loop1 o' s' n).b := by
  subst ho hs; rfl
theorem loop1_congr_c {o o' : Ops F} {s s' : Acc F} (n : ℕ) (ho : o = o') (hs : s = s') : (loop1 o s n).c = (loop1 o' s' n).c := by
  subst ho hs; rfl

theorem pointA_dq (𝒱 : Variants) (c : Dev nD) (bd : Option 𝒱.V) (i : grid0.Coords) (h1 : condZ i = 1#1) (h2 : ¬ k0_cond2 i = 1#1) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg22 : BufTy.Contents (Elt F) arg22.view.ty) (f_arg23 : BufTy.Contents (Elt F) arg23.view.ty) :
    arg13.view.read (Elt F) ((pointA (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X_arg3 X_arg4 X_arg5 X_arg6 X_arg7 X_arg8 X_arg9 X_arg10 X_arg11 X_arg12).1 f_arg13 f_arg14 f_arg15 f_arg22 f_arg23) = k0_pay9 (wordK i (arg4.view.read (Elt F) X_arg4)) (ptAcc i (arg3.view.read (Elt F) X_arg3) (arg4.view.read (Elt F) X_arg4) (arg5.view.read (Elt F) X_arg5) (arg6.view.read (Elt F) X_arg6) (arg7.view.read (Elt F) X_arg7) (arg8.view.read (Elt F) X_arg8) (arg9.view.read (Elt F) X_arg9) (arg10.view.read (Elt F) X_arg10) (arg11.view.read (Elt F) X_arg11) (arg12.view.read (Elt F) X_arg12) k0_pay1 k0_pay2).a := by
  unfold pointA
  rw [View.read_writes_full]
  sl_unfold_words
  rw [View.readCov, View.readAt_full, View.writes_append, st1_read_a]
  unfold ptAcc ptOps
  refine pay9_congr ?_ (loop1_congr_a _ (Ops.ext' ?_ ?_ ?_ ?_ ?_ ?_ ?_ ?_ ?_ ?_) (Acc.ext' ?_ ?_ ?_))
  · exact wordK_read i arg4.view X_arg4
  · exact congrArg₂ k0_pay23 (wordQ_read i arg3.view X_arg3) (wordK_read i arg4.view X_arg4)
  · rfl
  · rfl
  · rfl
  · rfl
  · rw [View.read_writes_full, View.readAt_full]; exact congrArg (fun w => k0_pay29 w (arg6.view.read (Elt F) X_arg6)) (wordQ_read i arg3.view X_arg3)
  · rw [View.read_writes_full, View.readAt_full, View.readAt_full]; rfl
  · rw [View.read_writes_full, View.readAt_full]
  · rw [View.read_writes_full, View.readAt_full, View.readAt_full, View.readAt_full]; rfl
  · rw [View.read_writes_full, View.readAt_full]; exact congrArg (fun w => k0_pay26 w (arg12.view.read (Elt F) X_arg12)) (wordK_read i arg5.view X_arg5)
  · rw [View.read_writes_full]; rfl
  · rw [View.read_writes_full]
  · rw [View.read_writes_full]

theorem pointA_b (𝒱 : Variants) (c : Dev nD) (bd : Option 𝒱.V) (i : grid0.Coords) (h1 : condZ i = 1#1) (h2 : ¬ k0_cond2 i = 1#1) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg22 : BufTy.Contents (Elt F) arg22.view.ty) (f_arg23 : BufTy.Contents (Elt F) arg23.view.ty) :
    arg22.view.read (Elt F) ((pointA (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X_arg3 X_arg4 X_arg5 X_arg6 X_arg7 X_arg8 X_arg9 X_arg10 X_arg11 X_arg12).2.2.2.1 f_arg13 f_arg14 f_arg15 f_arg22 f_arg23) = (ptAcc i (arg3.view.read (Elt F) X_arg3) (arg4.view.read (Elt F) X_arg4) (arg5.view.read (Elt F) X_arg5) (arg6.view.read (Elt F) X_arg6) (arg7.view.read (Elt F) X_arg7) (arg8.view.read (Elt F) X_arg8) (arg9.view.read (Elt F) X_arg9) (arg10.view.read (Elt F) X_arg10) (arg11.view.read (Elt F) X_arg11) (arg12.view.read (Elt F) X_arg12) k0_pay1 k0_pay2).b := by
  unfold pointA
  dsimp only
  sl_unfold_words
  rw [View.writes_append, st1_read_b]
  unfold ptAcc ptOps
  refine (loop1_congr_b _ (Ops.ext' ?_ ?_ ?_ ?_ ?_ ?_ ?_ ?_ ?_ ?_) (Acc.ext' ?_ ?_ ?_))
  · exact congrArg₂ k0_pay23 (wordQ_read i arg3.view X_arg3) (wordK_read i arg4.view X_arg4)
  · rfl
  · rfl
  · rfl
  · rfl
  · rw [View.read_writes_full, View.readAt_full]; exact congrArg (fun w => k0_pay29 w (arg6.view.read (Elt F) X_arg6)) (wordQ_read i arg3.view X_arg3)
  · rw [View.read_writes_full, View.readAt_full, View.readAt_full]; rfl
  · rw [View.read_writes_full, View.readAt_full]
  · rw [View.read_writes_full, View.readAt_full, View.readAt_full, View.readAt_full]; rfl
  · rw [View.read_writes_full, View.readAt_full]; exact congrArg (fun w => k0_pay26 w (arg12.view.read (Elt F) X_arg12)) (wordK_read i arg5.view X_arg5)
  · rw [View.read_writes_full]; rfl
  · rw [View.read_writes_full]
  · rw [View.read_writes_full]

theorem pointA_c (𝒱 : Variants) (c : Dev nD) (bd : Option 𝒱.V) (i : grid0.Coords) (h1 : condZ i = 1#1) (h2 : ¬ k0_cond2 i = 1#1) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg22 : BufTy.Contents (Elt F) arg22.view.ty) (f_arg23 : BufTy.Contents (Elt F) arg23.view.ty) :
    arg23.view.read (Elt F) ((pointA (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X_arg3 X_arg4 X_arg5 X_arg6 X_arg7 X_arg8 X_arg9 X_arg10 X_arg11 X_arg12).2.2.2.2.val f_arg13 f_arg14 f_arg15 f_arg22 f_arg23) = (ptAcc i (arg3.view.read (Elt F) X_arg3) (arg4.view.read (Elt F) X_arg4) (arg5.view.read (Elt F) X_arg5) (arg6.view.read (Elt F) X_arg6) (arg7.view.read (Elt F) X_arg7) (arg8.view.read (Elt F) X_arg8) (arg9.view.read (Elt F) X_arg9) (arg10.view.read (Elt F) X_arg10) (arg11.view.read (Elt F) X_arg11) (arg12.view.read (Elt F) X_arg12) k0_pay1 k0_pay2).c := by
  unfold pointA
  dsimp only
  sl_unfold_words
  rw [View.writes_append, st1_read_c]
  unfold ptAcc ptOps
  refine (loop1_congr_c _ (Ops.ext' ?_ ?_ ?_ ?_ ?_ ?_ ?_ ?_ ?_ ?_) (Acc.ext' ?_ ?_ ?_))
  · exact congrArg₂ k0_pay23 (wordQ_read i arg3.view X_arg3) (wordK_read i arg4.view X_arg4)
  · rfl
  · rfl
  · rfl
  · rfl
  · rw [View.read_writes_full, View.readAt_full]; exact congrArg (fun w => k0_pay29 w (arg6.view.read (Elt F) X_arg6)) (wordQ_read i arg3.view X_arg3)
  · rw [View.read_writes_full, View.readAt_full, View.readAt_full]; rfl
  · rw [View.read_writes_full, View.readAt_full]
  · rw [View.read_writes_full, View.readAt_full, View.readAt_full, View.readAt_full]; rfl
  · rw [View.read_writes_full, View.readAt_full]; exact congrArg (fun w => k0_pay26 w (arg12.view.read (Elt F) X_arg12)) (wordK_read i arg5.view X_arg5)
  · rw [View.read_writes_full]; rfl
  · rw [View.read_writes_full]
  · rw [View.read_writes_full]

theorem pointA_arg14 (𝒱 : Variants) (c : Dev nD) (bd : Option 𝒱.V) (i : grid0.Coords) (h1 : condZ i = 1#1) (h2 : ¬ k0_cond2 i = 1#1) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg22 : BufTy.Contents (Elt F) arg22.view.ty) (f_arg23 : BufTy.Contents (Elt F) arg23.view.ty) : ((pointA (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X_arg3 X_arg4 X_arg5 X_arg6 X_arg7 X_arg8 X_arg9 X_arg10 X_arg11 X_arg12).2.1 f_arg13 f_arg14 f_arg15 f_arg22 f_arg23) = f_arg14 := by
  unfold pointA
  sl_unfold_words
  rfl

theorem pointA_arg15 (𝒱 : Variants) (c : Dev nD) (bd : Option 𝒱.V) (i : grid0.Coords) (h1 : condZ i = 1#1) (h2 : ¬ k0_cond2 i = 1#1) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg22 : BufTy.Contents (Elt F) arg22.view.ty) (f_arg23 : BufTy.Contents (Elt F) arg23.view.ty) : ((pointA (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X_arg3 X_arg4 X_arg5 X_arg6 X_arg7 X_arg8 X_arg9 X_arg10 X_arg11 X_arg12).2.2.1 f_arg13 f_arg14 f_arg15 f_arg22 f_arg23) = f_arg15 := by
  unfold pointA
  sl_unfold_words
  rfl

theorem pointB_dq (𝒱 : Variants) (c : Dev nD) (bd : Option 𝒱.V) (i : grid0.Coords) (h1 : ¬ condZ i = 1#1) (h2 : ¬ k0_cond2 i = 1#1) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg22 : BufTy.Contents (Elt F) arg22.view.ty) (f_arg23 : BufTy.Contents (Elt F) arg23.view.ty) :
    arg13.view.read (Elt F) ((pointB (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X_arg3 X_arg4 X_arg5 X_arg6 X_arg7 X_arg8 X_arg9 X_arg10 X_arg11 X_arg12).1 f_arg13 f_arg14 f_arg15 f_arg22 f_arg23) = k0_pay9 (wordK i (arg4.view.read (Elt F) X_arg4)) (ptAcc i (arg3.view.read (Elt F) X_arg3) (arg4.view.read (Elt F) X_arg4) (arg5.view.read (Elt F) X_arg5) (arg6.view.read (Elt F) X_arg6) (arg7.view.read (Elt F) X_arg7) (arg8.view.read (Elt F) X_arg8) (arg9.view.read (Elt F) X_arg9) (arg10.view.read (Elt F) X_arg10) (arg11.view.read (Elt F) X_arg11) (arg12.view.read (Elt F) X_arg12) (arg22.view.read (Elt F) f_arg22) (arg23.view.read (Elt F) f_arg23)).a := by
  unfold pointB
  rw [View.read_writes_full]
  sl_unfold_words
  rw [View.readCov, View.readAt_full, View.writes_append, st1_read_a]
  unfold ptAcc ptOps
  refine pay9_congr ?_ (loop1_congr_a _ (Ops.ext' ?_ ?_ ?_ ?_ ?_ ?_ ?_ ?_ ?_ ?_) (Acc.ext' ?_ ?_ ?_))
  · exact wordK_read i arg4.view X_arg4
  · exact congrArg₂ k0_pay23 (wordQ_read i arg3.view X_arg3) (wordK_read i arg4.view X_arg4)
  · rfl
  · rfl
  · rfl
  · rfl
  · rw [View.read_writes_full, View.readAt_full]; exact congrArg (fun w => k0_pay29 w (arg6.view.read (Elt F) X_arg6)) (wordQ_read i arg3.view X_arg3)
  · rw [View.read_writes_full, View.readAt_full, View.readAt_full]; rfl
  · rw [View.read_writes_full, View.readAt_full]
  · rw [View.read_writes_full, View.readAt_full, View.readAt_full, View.readAt_full]; rfl
  · rw [View.read_writes_full, View.readAt_full]; exact congrArg (fun w => k0_pay26 w (arg12.view.read (Elt F) X_arg12)) (wordK_read i arg5.view X_arg5)
  · rw [View.read_writes_full]; rfl
  · rfl
  · rfl

theorem pointB_b (𝒱 : Variants) (c : Dev nD) (bd : Option 𝒱.V) (i : grid0.Coords) (h1 : ¬ condZ i = 1#1) (h2 : ¬ k0_cond2 i = 1#1) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg22 : BufTy.Contents (Elt F) arg22.view.ty) (f_arg23 : BufTy.Contents (Elt F) arg23.view.ty) :
    arg22.view.read (Elt F) ((pointB (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X_arg3 X_arg4 X_arg5 X_arg6 X_arg7 X_arg8 X_arg9 X_arg10 X_arg11 X_arg12).2.2.2.1 f_arg13 f_arg14 f_arg15 f_arg22 f_arg23) = (ptAcc i (arg3.view.read (Elt F) X_arg3) (arg4.view.read (Elt F) X_arg4) (arg5.view.read (Elt F) X_arg5) (arg6.view.read (Elt F) X_arg6) (arg7.view.read (Elt F) X_arg7) (arg8.view.read (Elt F) X_arg8) (arg9.view.read (Elt F) X_arg9) (arg10.view.read (Elt F) X_arg10) (arg11.view.read (Elt F) X_arg11) (arg12.view.read (Elt F) X_arg12) (arg22.view.read (Elt F) f_arg22) (arg23.view.read (Elt F) f_arg23)).b := by
  unfold pointB
  sl_unfold_words
  rw [st1_read_b]
  unfold ptAcc ptOps
  refine (loop1_congr_b _ (Ops.ext' ?_ ?_ ?_ ?_ ?_ ?_ ?_ ?_ ?_ ?_) (Acc.ext' ?_ ?_ ?_))
  · exact congrArg₂ k0_pay23 (wordQ_read i arg3.view X_arg3) (wordK_read i arg4.view X_arg4)
  · rfl
  · rfl
  · rfl
  · rfl
  · rw [View.read_writes_full, View.readAt_full]; exact congrArg (fun w => k0_pay29 w (arg6.view.read (Elt F) X_arg6)) (wordQ_read i arg3.view X_arg3)
  · rw [View.read_writes_full, View.readAt_full, View.readAt_full]; rfl
  · rw [View.read_writes_full, View.readAt_full]
  · rw [View.read_writes_full, View.readAt_full, View.readAt_full, View.readAt_full]; rfl
  · rw [View.read_writes_full, View.readAt_full]; exact congrArg (fun w => k0_pay26 w (arg12.view.read (Elt F) X_arg12)) (wordK_read i arg5.view X_arg5)
  · rw [View.read_writes_full]; rfl
  · rfl
  · rfl

theorem pointB_c (𝒱 : Variants) (c : Dev nD) (bd : Option 𝒱.V) (i : grid0.Coords) (h1 : ¬ condZ i = 1#1) (h2 : ¬ k0_cond2 i = 1#1) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg22 : BufTy.Contents (Elt F) arg22.view.ty) (f_arg23 : BufTy.Contents (Elt F) arg23.view.ty) :
    arg23.view.read (Elt F) ((pointB (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X_arg3 X_arg4 X_arg5 X_arg6 X_arg7 X_arg8 X_arg9 X_arg10 X_arg11 X_arg12).2.2.2.2.val f_arg13 f_arg14 f_arg15 f_arg22 f_arg23) = (ptAcc i (arg3.view.read (Elt F) X_arg3) (arg4.view.read (Elt F) X_arg4) (arg5.view.read (Elt F) X_arg5) (arg6.view.read (Elt F) X_arg6) (arg7.view.read (Elt F) X_arg7) (arg8.view.read (Elt F) X_arg8) (arg9.view.read (Elt F) X_arg9) (arg10.view.read (Elt F) X_arg10) (arg11.view.read (Elt F) X_arg11) (arg12.view.read (Elt F) X_arg12) (arg22.view.read (Elt F) f_arg22) (arg23.view.read (Elt F) f_arg23)).c := by
  unfold pointB
  sl_unfold_words
  rw [st1_read_c]
  unfold ptAcc ptOps
  refine (loop1_congr_c _ (Ops.ext' ?_ ?_ ?_ ?_ ?_ ?_ ?_ ?_ ?_ ?_) (Acc.ext' ?_ ?_ ?_))
  · exact congrArg₂ k0_pay23 (wordQ_read i arg3.view X_arg3) (wordK_read i arg4.view X_arg4)
  · rfl
  · rfl
  · rfl
  · rfl
  · rw [View.read_writes_full, View.readAt_full]; exact congrArg (fun w => k0_pay29 w (arg6.view.read (Elt F) X_arg6)) (wordQ_read i arg3.view X_arg3)
  · rw [View.read_writes_full, View.readAt_full, View.readAt_full]; rfl
  · rw [View.read_writes_full, View.readAt_full]
  · rw [View.read_writes_full, View.readAt_full, View.readAt_full, View.readAt_full]; rfl
  · rw [View.read_writes_full, View.readAt_full]; exact congrArg (fun w => k0_pay26 w (arg12.view.read (Elt F) X_arg12)) (wordK_read i arg5.view X_arg5)
  · rw [View.read_writes_full]; rfl
  · rfl
  · rfl

theorem pointB_arg14 (𝒱 : Variants) (c : Dev nD) (bd : Option 𝒱.V) (i : grid0.Coords) (h1 : ¬ condZ i = 1#1) (h2 : ¬ k0_cond2 i = 1#1) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg22 : BufTy.Contents (Elt F) arg22.view.ty) (f_arg23 : BufTy.Contents (Elt F) arg23.view.ty) : ((pointB (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X_arg3 X_arg4 X_arg5 X_arg6 X_arg7 X_arg8 X_arg9 X_arg10 X_arg11 X_arg12).2.1 f_arg13 f_arg14 f_arg15 f_arg22 f_arg23) = f_arg14 := by
  unfold pointB
  sl_unfold_words
  rfl

theorem pointB_arg15 (𝒱 : Variants) (c : Dev nD) (bd : Option 𝒱.V) (i : grid0.Coords) (h1 : ¬ condZ i = 1#1) (h2 : ¬ k0_cond2 i = 1#1) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg22 : BufTy.Contents (Elt F) arg22.view.ty) (f_arg23 : BufTy.Contents (Elt F) arg23.view.ty) : ((pointB (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X_arg3 X_arg4 X_arg5 X_arg6 X_arg7 X_arg8 X_arg9 X_arg10 X_arg11 X_arg12).2.2.1 f_arg13 f_arg14 f_arg15 f_arg22 f_arg23) = f_arg15 := by
  unfold pointB
  sl_unfold_words
  rfl

theorem pointC_dq (𝒱 : Variants) (c : Dev nD) (bd : Option 𝒱.V) (i : grid0.Coords) (h1 : ¬ condZ i = 1#1) (h2 : k0_cond2 i = 1#1) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg22 : BufTy.Contents (Elt F) arg22.view.ty) (f_arg23 : BufTy.Contents (Elt F) arg23.view.ty) :
    arg13.view.read (Elt F) ((pointC (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X_arg3 X_arg4 X_arg5 X_arg6 X_arg7 X_arg8 X_arg9 X_arg10 X_arg11 X_arg12).1 f_arg13 f_arg14 f_arg15 f_arg22 f_arg23) = k0_pay9 (wordK i (arg4.view.read (Elt F) X_arg4)) (ptAcc i (arg3.view.read (Elt F) X_arg3) (arg4.view.read (Elt F) X_arg4) (arg5.view.read (Elt F) X_arg5) (arg6.view.read (Elt F) X_arg6) (arg7.view.read (Elt F) X_arg7) (arg8.view.read (Elt F) X_arg8) (arg9.view.read (Elt F) X_arg9) (arg10.view.read (Elt F) X_arg10) (arg11.view.read (Elt F) X_arg11) (arg12.view.read (Elt F) X_arg12) (arg22.view.read (Elt F) f_arg22) (arg23.view.read (Elt F) f_arg23)).a := by
  unfold pointC
  rw [View.read_writes_full]
  sl_unfold_words
  rw [View.readCov, View.readAt_full, View.writes_append, st1_read_a]
  unfold ptAcc ptOps
  refine pay9_congr ?_ (loop1_congr_a _ (Ops.ext' ?_ ?_ ?_ ?_ ?_ ?_ ?_ ?_ ?_ ?_) (Acc.ext' ?_ ?_ ?_))
  · exact wordK_read i arg4.view X_arg4
  · exact congrArg₂ k0_pay23 (wordQ_read i arg3.view X_arg3) (wordK_read i arg4.view X_arg4)
  · rfl
  · rfl
  · rfl
  · rfl
  · rw [View.read_writes_full, View.readAt_full]; exact congrArg (fun w => k0_pay29 w (arg6.view.read (Elt F) X_arg6)) (wordQ_read i arg3.view X_arg3)
  · rw [View.read_writes_full, View.readAt_full, View.readAt_full]; rfl
  · rw [View.read_writes_full, View.readAt_full]
  · rw [View.read_writes_full, View.readAt_full, View.readAt_full, View.readAt_full]; rfl
  · rw [View.read_writes_full, View.readAt_full]; exact congrArg (fun w => k0_pay26 w (arg12.view.read (Elt F) X_arg12)) (wordK_read i arg5.view X_arg5)
  · rw [View.read_writes_full]; rfl
  · rfl
  · rfl

theorem pointC_b (𝒱 : Variants) (c : Dev nD) (bd : Option 𝒱.V) (i : grid0.Coords) (h1 : ¬ condZ i = 1#1) (h2 : k0_cond2 i = 1#1) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg22 : BufTy.Contents (Elt F) arg22.view.ty) (f_arg23 : BufTy.Contents (Elt F) arg23.view.ty) :
    arg22.view.read (Elt F) ((pointC (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X_arg3 X_arg4 X_arg5 X_arg6 X_arg7 X_arg8 X_arg9 X_arg10 X_arg11 X_arg12).2.2.2.1 f_arg13 f_arg14 f_arg15 f_arg22 f_arg23) = (ptAcc i (arg3.view.read (Elt F) X_arg3) (arg4.view.read (Elt F) X_arg4) (arg5.view.read (Elt F) X_arg5) (arg6.view.read (Elt F) X_arg6) (arg7.view.read (Elt F) X_arg7) (arg8.view.read (Elt F) X_arg8) (arg9.view.read (Elt F) X_arg9) (arg10.view.read (Elt F) X_arg10) (arg11.view.read (Elt F) X_arg11) (arg12.view.read (Elt F) X_arg12) (arg22.view.read (Elt F) f_arg22) (arg23.view.read (Elt F) f_arg23)).b := by
  unfold pointC
  sl_unfold_words
  rw [st1_read_b]
  unfold ptAcc ptOps
  refine (loop1_congr_b _ (Ops.ext' ?_ ?_ ?_ ?_ ?_ ?_ ?_ ?_ ?_ ?_) (Acc.ext' ?_ ?_ ?_))
  · exact congrArg₂ k0_pay23 (wordQ_read i arg3.view X_arg3) (wordK_read i arg4.view X_arg4)
  · rfl
  · rfl
  · rfl
  · rfl
  · rw [View.read_writes_full, View.readAt_full]; exact congrArg (fun w => k0_pay29 w (arg6.view.read (Elt F) X_arg6)) (wordQ_read i arg3.view X_arg3)
  · rw [View.read_writes_full, View.readAt_full, View.readAt_full]; rfl
  · rw [View.read_writes_full, View.readAt_full]
  · rw [View.read_writes_full, View.readAt_full, View.readAt_full, View.readAt_full]; rfl
  · rw [View.read_writes_full, View.readAt_full]; exact congrArg (fun w => k0_pay26 w (arg12.view.read (Elt F) X_arg12)) (wordK_read i arg5.view X_arg5)
  · rw [View.read_writes_full]; rfl
  · rfl
  · rfl

theorem pointC_c (𝒱 : Variants) (c : Dev nD) (bd : Option 𝒱.V) (i : grid0.Coords) (h1 : ¬ condZ i = 1#1) (h2 : k0_cond2 i = 1#1) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg22 : BufTy.Contents (Elt F) arg22.view.ty) (f_arg23 : BufTy.Contents (Elt F) arg23.view.ty) :
    arg23.view.read (Elt F) ((pointC (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X_arg3 X_arg4 X_arg5 X_arg6 X_arg7 X_arg8 X_arg9 X_arg10 X_arg11 X_arg12).2.2.2.2.val f_arg13 f_arg14 f_arg15 f_arg22 f_arg23) = (ptAcc i (arg3.view.read (Elt F) X_arg3) (arg4.view.read (Elt F) X_arg4) (arg5.view.read (Elt F) X_arg5) (arg6.view.read (Elt F) X_arg6) (arg7.view.read (Elt F) X_arg7) (arg8.view.read (Elt F) X_arg8) (arg9.view.read (Elt F) X_arg9) (arg10.view.read (Elt F) X_arg10) (arg11.view.read (Elt F) X_arg11) (arg12.view.read (Elt F) X_arg12) (arg22.view.read (Elt F) f_arg22) (arg23.view.read (Elt F) f_arg23)).c := by
  unfold pointC
  sl_unfold_words
  rw [st1_read_c]
  unfold ptAcc ptOps
  refine (loop1_congr_c _ (Ops.ext' ?_ ?_ ?_ ?_ ?_ ?_ ?_ ?_ ?_ ?_) (Acc.ext' ?_ ?_ ?_))
  · exact congrArg₂ k0_pay23 (wordQ_read i arg3.view X_arg3) (wordK_read i arg4.view X_arg4)
  · rfl
  · rfl
  · rfl
  · rfl
  · rw [View.read_writes_full, View.readAt_full]; exact congrArg (fun w => k0_pay29 w (arg6.view.read (Elt F) X_arg6)) (wordQ_read i arg3.view X_arg3)
  · rw [View.read_writes_full, View.readAt_full, View.readAt_full]; rfl
  · rw [View.read_writes_full, View.readAt_full]
  · rw [View.read_writes_full, View.readAt_full, View.readAt_full, View.readAt_full]; rfl
  · rw [View.read_writes_full, View.readAt_full]; exact congrArg (fun w => k0_pay26 w (arg12.view.read (Elt F) X_arg12)) (wordK_read i arg5.view X_arg5)
  · rw [View.read_writes_full]; rfl
  · rfl
  · rfl

theorem pointC_arg14 (𝒱 : Variants) (c : Dev nD) (bd : Option 𝒱.V) (i : grid0.Coords) (h1 : ¬ condZ i = 1#1) (h2 : k0_cond2 i = 1#1) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg22 : BufTy.Contents (Elt F) arg22.view.ty) (f_arg23 : BufTy.Contents (Elt F) arg23.view.ty) :
    arg14.view.read (Elt F) ((pointC (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X_arg3 X_arg4 X_arg5 X_arg6 X_arg7 X_arg8 X_arg9 X_arg10 X_arg11 X_arg12).2.1 f_arg13 f_arg14 f_arg15 f_arg22 f_arg23) = k0_pay10 (ptAcc i (arg3.view.read (Elt F) X_arg3) (arg4.view.read (Elt F) X_arg4) (arg5.view.read (Elt F) X_arg5) (arg6.view.read (Elt F) X_arg6) (arg7.view.read (Elt F) X_arg7) (arg8.view.read (Elt F) X_arg8) (arg9.view.read (Elt F) X_arg9) (arg10.view.read (Elt F) X_arg10) (arg11.view.read (Elt F) X_arg11) (arg12.view.read (Elt F) X_arg12) (arg22.view.read (Elt F) f_arg22) (arg23.view.read (Elt F) f_arg23)).b := by
  unfold pointC
  rw [View.read_writes_full]
  sl_unfold_words
  rw [View.readAt_full, st1_read_b]
  unfold ptAcc ptOps
  refine congrArg k0_pay10 (loop1_congr_b _ (Ops.ext' ?_ ?_ ?_ ?_ ?_ ?_ ?_ ?_ ?_ ?_) (Acc.ext' ?_ ?_ ?_))
  · exact congrArg₂ k0_pay23 (wordQ_read i arg3.view X_arg3) (wordK_read i arg4.view X_arg4)
  · rfl
  · rfl
  · rfl
  · rfl
  · rw [View.read_writes_full, View.readAt_full]; exact congrArg (fun w => k0_pay29 w (arg6.view.read (Elt F) X_arg6)) (wordQ_read i arg3.view X_arg3)
  · rw [View.read_writes_full, View.readAt_full, View.readAt_full]; rfl
  · rw [View.read_writes_full, View.readAt_full]
  · rw [View.read_writes_full, View.readAt_full, View.readAt_full, View.readAt_full]; rfl
  · rw [View.read_writes_full, View.readAt_full]; exact congrArg (fun w => k0_pay26 w (arg12.view.read (Elt F) X_arg12)) (wordK_read i arg5.view X_arg5)
  · rw [View.read_writes_full]; rfl
  · rfl
  · rfl

theorem pointC_arg15 (𝒱 : Variants) (c : Dev nD) (bd : Option 𝒱.V) (i : grid0.Coords) (h1 : ¬ condZ i = 1#1) (h2 : k0_cond2 i = 1#1) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg22 : BufTy.Contents (Elt F) arg22.view.ty) (f_arg23 : BufTy.Contents (Elt F) arg23.view.ty) :
    arg15.view.read (Elt F) ((pointC (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X_arg3 X_arg4 X_arg5 X_arg6 X_arg7 X_arg8 X_arg9 X_arg10 X_arg11 X_arg12).2.2.1 f_arg13 f_arg14 f_arg15 f_arg22 f_arg23) = k0_pay11 (ptAcc i (arg3.view.read (Elt F) X_arg3) (arg4.view.read (Elt F) X_arg4) (arg5.view.read (Elt F) X_arg5) (arg6.view.read (Elt F) X_arg6) (arg7.view.read (Elt F) X_arg7) (arg8.view.read (Elt F) X_arg8) (arg9.view.read (Elt F) X_arg9) (arg10.view.read (Elt F) X_arg10) (arg11.view.read (Elt F) X_arg11) (arg12.view.read (Elt F) X_arg12) (arg22.view.read (Elt F) f_arg22) (arg23.view.read (Elt F) f_arg23)).c := by
  unfold pointC
  rw [View.read_writes_full]
  sl_unfold_words
  rw [View.readAt_full, st1_read_c]
  unfold ptAcc ptOps
  refine congrArg k0_pay11 (loop1_congr_c _ (Ops.ext' ?_ ?_ ?_ ?_ ?_ ?_ ?_ ?_ ?_ ?_) (Acc.ext' ?_ ?_ ?_))
  · exact congrArg₂ k0_pay23 (wordQ_read i arg3.view X_arg3) (wordK_read i arg4.view X_arg4)
  · rfl
  · rfl
  · rfl
  · rfl
  · rw [View.read_writes_full, View.readAt_full]; exact congrArg (fun w => k0_pay29 w (arg6.view.read (Elt F) X_arg6)) (wordQ_read i arg3.view X_arg3)
  · rw [View.read_writes_full, View.readAt_full, View.readAt_full]; rfl
  · rw [View.read_writes_full, View.readAt_full]
  · rw [View.read_writes_full, View.readAt_full, View.readAt_full, View.readAt_full]; rfl
  · rw [View.read_writes_full, View.readAt_full]; exact congrArg (fun w => k0_pay26 w (arg12.view.read (Elt F) X_arg12)) (wordK_read i arg5.view X_arg5)
  · rw [View.read_writes_full]; rfl
  · rfl
  · rfl

end Cert.KernelIdeal.Gen

end
-- ==== Proof.SoundKI.lean ====
/- One grid point's triple over what each buffer reads: the operand blocks stay, the result blocks and the carried
   accumulators end at the pure functions of `PointKI`. -/
module

public import proofs.«01_k».proof.Proof.PointKI
public import Idealize.ShloMosaic.Lib.Pipeline.TableIdle

@[expose] public section

set_option maxRecDepth 16384
set_option maxHeartbeats 400000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)

variable {F : FTy → Type} [FloatOps F] [Named F]

/-- The resource algebra the triples are stated at. -/
local notation "𝕄G" => MT nD τ sig Unit (Elt F) ℕ (UR sig nD τ) ℕ

/-- The kernel's buffers, by what each reads: the ten operand blocks, the three result blocks, the two carried
    accumulators; the six other scratch buffers at anything. -/
def PointOwn (c : Dev nD) (arg3 : Memref sig .tc .smem S32 .f32) (arg4 : Memref sig .tc .smem S4 .f32) (arg5 : Memref sig .tc .smem S4 .f32) (arg6 : Memref sig .tc .vmem S1x1x2048x96 .fp8e4m3) (arg7 : Memref sig .tc .vmem S1x1x2048x96 .fp8e4m3) (arg8 : Memref sig .tc .vmem S1x1x2048x96 .fp8e4m3) (arg9 : Memref sig .tc .vmem S1x1x2048x96 .bf16) (arg10 : Memref sig .tc .vmem S1x1x2048x96 .fp8e5m2) (arg11 : Memref sig .tc .vmem S1x1x1x2048 .f32) (arg12 : Memref sig .tc .vmem S1x1x1x2048 .f32) (arg13 : Memref sig .tc .vmem S1x1x2048x96 .bf16) (arg14 : Memref sig .tc .vmem S1x1x2048x96 .bf16) (arg15 : Memref sig .tc .vmem S1x1x2048x96 .bf16) (arg16 : Memref sig .tc .vmem S2048x96 .bf16) (arg17 : Memref sig .tc .vmem S2048x96 .bf16) (arg18 : Memref sig .tc .vmem S2048x128 .f32) (arg19 : Memref sig .tc .vmem S2048x128 .f32) (arg20 : Memref sig .tc .vmem S2048x128 .f32) (arg21 : Memref sig .tc .vmem S2048x96 .f32) (arg22 : Memref sig .tc .vmem S2048x96 .f32) (arg23 : Memref sig .tc .vmem S2048x96 .f32) (x_arg3 : Vec F S32 .f32) (x_arg4 : Vec F S4 .f32) (x_arg5 : Vec F S4 .f32) (x_arg6 : Vec F S1x1x2048x96 .fp8e4m3) (x_arg7 : Vec F S1x1x2048x96 .fp8e4m3) (x_arg8 : Vec F S1x1x2048x96 .fp8e4m3) (x_arg9 : Vec F S1x1x2048x96 .bf16) (x_arg10 : Vec F S1x1x2048x96 .fp8e5m2) (x_arg11 : Vec F S1x1x1x2048 .f32) (x_arg12 : Vec F S1x1x1x2048 .f32) (y_arg13 : Vec F S1x1x2048x96 .bf16) (y_arg14 : Vec F S1x1x2048x96 .bf16) (y_arg15 : Vec F S1x1x2048x96 .bf16) (y_arg22 : Vec F S2048x96 .f32) (y_arg23 : Vec F S2048x96 .f32) : sProp 𝕄G :=
  iprop(owns (c : Thread nD τ) arg3 fullShare x_arg3 ∗ owns (c : Thread nD τ) arg4 fullShare x_arg4 ∗ owns (c : Thread nD τ) arg5 fullShare x_arg5 ∗ owns (c : Thread nD τ) arg6 fullShare x_arg6 ∗ owns (c : Thread nD τ) arg7 fullShare x_arg7 ∗ owns (c : Thread nD τ) arg8 fullShare x_arg8 ∗ owns (c : Thread nD τ) arg9 fullShare x_arg9 ∗ owns (c : Thread nD τ) arg10 fullShare x_arg10 ∗ owns (c : Thread nD τ) arg11 fullShare x_arg11 ∗ owns (c : Thread nD τ) arg12 fullShare x_arg12 ∗ owns (c : Thread nD τ) arg13 fullShare y_arg13 ∗ owns (c : Thread nD τ) arg14 fullShare y_arg14 ∗ owns (c : Thread nD τ) arg15 fullShare y_arg15 ∗ owns (c : Thread nD τ) arg22 fullShare y_arg22 ∗ owns (c : Thread nD τ) arg23 fullShare y_arg23 ∗ (∃ x : Vec F S2048x96 .bf16, owns (c : Thread nD τ) arg16 fullShare x) ∗ (∃ x : Vec F S2048x96 .bf16, owns (c : Thread nD τ) arg17 fullShare x) ∗ (∃ x : Vec F S2048x128 .f32, owns (c : Thread nD τ) arg18 fullShare x) ∗ (∃ x : Vec F S2048x128 .f32, owns (c : Thread nD τ) arg19 fullShare x) ∗ (∃ x : Vec F S2048x128 .f32, owns (c : Thread nD τ) arg20 fullShare x) ∗ (∃ x : Vec F S2048x96 .f32, owns (c : Thread nD τ) arg21 fullShare x))

theorem owns_of_pts (c : Dev nD) {sp : Space} {sh : Shape} {e : EltTy} (a : Memref sig .tc sp sh e) (f : a.view.ty.Contents (Elt F))
    (x : sh.Idx → Elt F e) (h : a.view.read (Elt F) f = x) :
    ((a.view.loc (c : Thread nD τ) ↦[a.view.set]{fullShare} f) : sProp 𝕄G) ⊢ owns (c : Thread nD τ) a fullShare x := by
  unfold owns
  iintro H
  iexists f
  isplitr; · ipureintro; exact h
  iexact H

theorem owns_of_ex_pts (c : Dev nD) {sp : Space} {sh : Shape} {e : EltTy} (a : Memref sig .tc sp sh e) :
    (iprop(∃ f : BufTy.Contents (Elt F) a.view.ty, a.view.loc (c : Thread nD τ) ↦[a.view.set]{fullShare} f) : sProp 𝕄G)
      ⊢ iprop(∃ x : sh.Idx → Elt F e, owns (c : Thread nD τ) a fullShare x) := by
  iintro ⟨%f, H⟩
  iexists (a.view.read (Elt F) f)
  iapply (owns_of_pts c a f _ rfl)
  iexact H

theorem pts_of_ex_owns (c : Dev nD) {sp : Space} {sh : Shape} {e : EltTy} (a : Memref sig .tc sp sh e) :
    (iprop(∃ x : sh.Idx → Elt F e, owns (c : Thread nD τ) a fullShare x) : sProp 𝕄G)
      ⊢ iprop(∃ f : BufTy.Contents (Elt F) a.view.ty, a.view.loc (c : Thread nD τ) ↦[a.view.set]{fullShare} f) := by
  iintro ⟨%x, H⟩
  iexists (a.view.rep x)
  iapply (rep_of_owns (c : Thread nD τ) a fullShare x)
  iexact H

theorem pre_of_own (c : Dev nD) (arg3 : Memref sig .tc .smem S32 .f32) (arg4 : Memref sig .tc .smem S4 .f32) (arg5 : Memref sig .tc .smem S4 .f32) (arg6 : Memref sig .tc .vmem S1x1x2048x96 .fp8e4m3) (arg7 : Memref sig .tc .vmem S1x1x2048x96 .fp8e4m3) (arg8 : Memref sig .tc .vmem S1x1x2048x96 .fp8e4m3) (arg9 : Memref sig .tc .vmem S1x1x2048x96 .bf16) (arg10 : Memref sig .tc .vmem S1x1x2048x96 .fp8e5m2) (arg11 : Memref sig .tc .vmem S1x1x1x2048 .f32) (arg12 : Memref sig .tc .vmem S1x1x1x2048 .f32) (arg13 : Memref sig .tc .vmem S1x1x2048x96 .bf16) (arg14 : Memref sig .tc .vmem S1x1x2048x96 .bf16) (arg15 : Memref sig .tc .vmem S1x1x2048x96 .bf16) (arg16 : Memref sig .tc .vmem S2048x96 .bf16) (arg17 : Memref sig .tc .vmem S2048x96 .bf16) (arg18 : Memref sig .tc .vmem S2048x128 .f32) (arg19 : Memref sig .tc .vmem S2048x128 .f32) (arg20 : Memref sig .tc .vmem S2048x128 .f32) (arg21 : Memref sig .tc .vmem S2048x96 .f32) (arg22 : Memref sig .tc .vmem S2048x96 .f32) (arg23 : Memref sig .tc .vmem S2048x96 .f32) (x_arg3 : Vec F S32 .f32) (x_arg4 : Vec F S4 .f32) (x_arg5 : Vec F S4 .f32) (x_arg6 : Vec F S1x1x2048x96 .fp8e4m3) (x_arg7 : Vec F S1x1x2048x96 .fp8e4m3) (x_arg8 : Vec F S1x1x2048x96 .fp8e4m3) (x_arg9 : Vec F S1x1x2048x96 .bf16) (x_arg10 : Vec F S1x1x2048x96 .fp8e5m2) (x_arg11 : Vec F S1x1x1x2048 .f32) (x_arg12 : Vec F S1x1x1x2048 .f32) (y_arg13 : Vec F S1x1x2048x96 .bf16) (y_arg14 : Vec F S1x1x2048x96 .bf16) (y_arg15 : Vec F S1x1x2048x96 .bf16) (y_arg22 : Vec F S2048x96 .f32) (y_arg23 : Vec F S2048x96 .f32) :
    PointOwn c arg3 arg4 arg5 arg6 arg7 arg8 arg9 arg10 arg11 arg12 arg13 arg14 arg15 arg16 arg17 arg18 arg19 arg20 arg21 arg22 arg23 x_arg3 x_arg4 x_arg5 x_arg6 x_arg7 x_arg8 x_arg9 x_arg10 x_arg11 x_arg12 y_arg13 y_arg14 y_arg15 y_arg22 y_arg23 ⊢ PointPre (F := F) c arg3 arg4 arg5 arg6 arg7 arg8 arg9 arg10 arg11 arg12 arg13 arg14 arg15 arg16 arg17 arg18 arg19 arg20 arg21 arg22 arg23 (arg3.view.rep x_arg3) (arg4.view.rep x_arg4) (arg5.view.rep x_arg5) (arg6.view.rep x_arg6) (arg7.view.rep x_arg7) (arg8.view.rep x_arg8) (arg9.view.rep x_arg9) (arg10.view.rep x_arg10) (arg11.view.rep x_arg11) (arg12.view.rep x_arg12) (arg13.view.rep y_arg13) (arg14.view.rep y_arg14) (arg15.view.rep y_arg15) (arg22.view.rep y_arg22) (arg23.view.rep y_arg23) :=
  by
  unfold PointOwn PointPre
  refine Idealize.SL.BI.sep_mono (rep_of_owns (c : Thread nD τ) arg3 fullShare x_arg3) ?_
  refine Idealize.SL.BI.sep_mono (rep_of_owns (c : Thread nD τ) arg4 fullShare x_arg4) ?_
  refine Idealize.SL.BI.sep_mono (rep_of_owns (c : Thread nD τ) arg5 fullShare x_arg5) ?_
  refine Idealize.SL.BI.sep_mono (rep_of_owns (c : Thread nD τ) arg6 fullShare x_arg6) ?_
  refine Idealize.SL.BI.sep_mono (rep_of_owns (c : Thread nD τ) arg7 fullShare x_arg7) ?_
  refine Idealize.SL.BI.sep_mono (rep_of_owns (c : Thread nD τ) arg8 fullShare x_arg8) ?_
  refine Idealize.SL.BI.sep_mono (rep_of_owns (c : Thread nD τ) arg9 fullShare x_arg9) ?_
  refine Idealize.SL.BI.sep_mono (rep_of_owns (c : Thread nD τ) arg10 fullShare x_arg10) ?_
  refine Idealize.SL.BI.sep_mono (rep_of_owns (c : Thread nD τ) arg11 fullShare x_arg11) ?_
  refine Idealize.SL.BI.sep_mono (rep_of_owns (c : Thread nD τ) arg12 fullShare x_arg12) ?_
  refine Idealize.SL.BI.sep_mono (rep_of_owns (c : Thread nD τ) arg13 fullShare y_arg13) ?_
  refine Idealize.SL.BI.sep_mono (rep_of_owns (c : Thread nD τ) arg14 fullShare y_arg14) ?_
  refine Idealize.SL.BI.sep_mono (rep_of_owns (c : Thread nD τ) arg15 fullShare y_arg15) ?_
  refine Idealize.SL.BI.sep_mono (rep_of_owns (c : Thread nD τ) arg22 fullShare y_arg22) ?_
  refine Idealize.SL.BI.sep_mono (rep_of_owns (c : Thread nD τ) arg23 fullShare y_arg23) ?_
  refine Idealize.SL.BI.sep_mono (pts_of_ex_owns c arg16) ?_
  refine Idealize.SL.BI.sep_mono (pts_of_ex_owns c arg17) ?_
  refine Idealize.SL.BI.sep_mono (pts_of_ex_owns c arg18) ?_
  refine Idealize.SL.BI.sep_mono (pts_of_ex_owns c arg19) ?_
  refine Idealize.SL.BI.sep_mono (pts_of_ex_owns c arg20) ?_
  exact (pts_of_ex_owns c arg21)

theorem own_of_pre (c : Dev nD) (arg3 : Memref sig .tc .smem S32 .f32) (arg4 : Memref sig .tc .smem S4 .f32) (arg5 : Memref sig .tc .smem S4 .f32) (arg6 : Memref sig .tc .vmem S1x1x2048x96 .fp8e4m3) (arg7 : Memref sig .tc .vmem S1x1x2048x96 .fp8e4m3) (arg8 : Memref sig .tc .vmem S1x1x2048x96 .fp8e4m3) (arg9 : Memref sig .tc .vmem S1x1x2048x96 .bf16) (arg10 : Memref sig .tc .vmem S1x1x2048x96 .fp8e5m2) (arg11 : Memref sig .tc .vmem S1x1x1x2048 .f32) (arg12 : Memref sig .tc .vmem S1x1x1x2048 .f32) (arg13 : Memref sig .tc .vmem S1x1x2048x96 .bf16) (arg14 : Memref sig .tc .vmem S1x1x2048x96 .bf16) (arg15 : Memref sig .tc .vmem S1x1x2048x96 .bf16) (arg16 : Memref sig .tc .vmem S2048x96 .bf16) (arg17 : Memref sig .tc .vmem S2048x96 .bf16) (arg18 : Memref sig .tc .vmem S2048x128 .f32) (arg19 : Memref sig .tc .vmem S2048x128 .f32) (arg20 : Memref sig .tc .vmem S2048x128 .f32) (arg21 : Memref sig .tc .vmem S2048x96 .f32) (arg22 : Memref sig .tc .vmem S2048x96 .f32) (arg23 : Memref sig .tc .vmem S2048x96 .f32) (x_arg3 : Vec F S32 .f32) (x_arg4 : Vec F S4 .f32) (x_arg5 : Vec F S4 .f32) (x_arg6 : Vec F S1x1x2048x96 .fp8e4m3) (x_arg7 : Vec F S1x1x2048x96 .fp8e4m3) (x_arg8 : Vec F S1x1x2048x96 .fp8e4m3) (x_arg9 : Vec F S1x1x2048x96 .bf16) (x_arg10 : Vec F S1x1x2048x96 .fp8e5m2) (x_arg11 : Vec F S1x1x1x2048 .f32) (x_arg12 : Vec F S1x1x1x2048 .f32) (f_arg13 : BufTy.Contents (Elt F) arg13.view.ty) (f_arg14 : BufTy.Contents (Elt F) arg14.view.ty) (f_arg15 : BufTy.Contents (Elt F) arg15.view.ty) (f_arg22 : BufTy.Contents (Elt F) arg22.view.ty) (f_arg23 : BufTy.Contents (Elt F) arg23.view.ty) (y_arg13 : Vec F S1x1x2048x96 .bf16) (y_arg14 : Vec F S1x1x2048x96 .bf16) (y_arg15 : Vec F S1x1x2048x96 .bf16) (y_arg22 : Vec F S2048x96 .f32) (y_arg23 : Vec F S2048x96 .f32)
    (h_arg13 : arg13.view.read (Elt F) f_arg13 = y_arg13) (h_arg14 : arg14.view.read (Elt F) f_arg14 = y_arg14) (h_arg15 : arg15.view.read (Elt F) f_arg15 = y_arg15) (h_arg22 : arg22.view.read (Elt F) f_arg22 = y_arg22) (h_arg23 : arg23.view.read (Elt F) f_arg23 = y_arg23) :
    PointPre (F := F) c arg3 arg4 arg5 arg6 arg7 arg8 arg9 arg10 arg11 arg12 arg13 arg14 arg15 arg16 arg17 arg18 arg19 arg20 arg21 arg22 arg23 (arg3.view.rep x_arg3) (arg4.view.rep x_arg4) (arg5.view.rep x_arg5) (arg6.view.rep x_arg6) (arg7.view.rep x_arg7) (arg8.view.rep x_arg8) (arg9.view.rep x_arg9) (arg10.view.rep x_arg10) (arg11.view.rep x_arg11) (arg12.view.rep x_arg12) f_arg13 f_arg14 f_arg15 f_arg22 f_arg23 ⊢ PointOwn c arg3 arg4 arg5 arg6 arg7 arg8 arg9 arg10 arg11 arg12 arg13 arg14 arg15 arg16 arg17 arg18 arg19 arg20 arg21 arg22 arg23 x_arg3 x_arg4 x_arg5 x_arg6 x_arg7 x_arg8 x_arg9 x_arg10 x_arg11 x_arg12 y_arg13 y_arg14 y_arg15 y_arg22 y_arg23 :=
  by
  unfold PointOwn PointPre
  refine Idealize.SL.BI.sep_mono (owns_of_pts c arg3 (arg3.view.rep x_arg3) x_arg3 (View.read_rep _ _)) ?_
  refine Idealize.SL.BI.sep_mono (owns_of_pts c arg4 (arg4.view.rep x_arg4) x_arg4 (View.read_rep _ _)) ?_
  refine Idealize.SL.BI.sep_mono (owns_of_pts c arg5 (arg5.view.rep x_arg5) x_arg5 (View.read_rep _ _)) ?_
  refine Idealize.SL.BI.sep_mono (owns_of_pts c arg6 (arg6.view.rep x_arg6) x_arg6 (View.read_rep _ _)) ?_
  refine Idealize.SL.BI.sep_mono (owns_of_pts c arg7 (arg7.view.rep x_arg7) x_arg7 (View.read_rep _ _)) ?_
  refine Idealize.SL.BI.sep_mono (owns_of_pts c arg8 (arg8.view.rep x_arg8) x_arg8 (View.read_rep _ _)) ?_
  refine Idealize.SL.BI.sep_mono (owns_of_pts c arg9 (arg9.view.rep x_arg9) x_arg9 (View.read_rep _ _)) ?_
  refine Idealize.SL.BI.sep_mono (owns_of_pts c arg10 (arg10.view.rep x_arg10) x_arg10 (View.read_rep _ _)) ?_
  refine Idealize.SL.BI.sep_mono (owns_of_pts c arg11 (arg11.view.rep x_arg11) x_arg11 (View.read_rep _ _)) ?_
  refine Idealize.SL.BI.sep_mono (owns_of_pts c arg12 (arg12.view.rep x_arg12) x_arg12 (View.read_rep _ _)) ?_
  refine Idealize.SL.BI.sep_mono (owns_of_pts c arg13 f_arg13 y_arg13 h_arg13) ?_
  refine Idealize.SL.BI.sep_mono (owns_of_pts c arg14 f_arg14 y_arg14 h_arg14) ?_
  refine Idealize.SL.BI.sep_mono (owns_of_pts c arg15 f_arg15 y_arg15 h_arg15) ?_
  refine Idealize.SL.BI.sep_mono (owns_of_pts c arg22 f_arg22 y_arg22 h_arg22) ?_
  refine Idealize.SL.BI.sep_mono (owns_of_pts c arg23 f_arg23 y_arg23 h_arg23) ?_
  refine Idealize.SL.BI.sep_mono (owns_of_ex_pts c arg16) ?_
  refine Idealize.SL.BI.sep_mono (owns_of_ex_pts c arg17) ?_
  refine Idealize.SL.BI.sep_mono (owns_of_ex_pts c arg18) ?_
  refine Idealize.SL.BI.sep_mono (owns_of_ex_pts c arg19) ?_
  refine Idealize.SL.BI.sep_mono (owns_of_ex_pts c arg20) ?_
  exact (owns_of_ex_pts c arg21)

/-- One grid point at the first head of a group: the carried accumulators start from zero, whatever they held. -/
theorem soundA (𝒱 : Variants) (c : Dev nD) (bd : Option 𝒱.V) (i : grid0.Coords) (h1 : condZ i = 1#1) (h2 : ¬ k0_cond2 i = 1#1) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (E : Set ℕ) (x_arg3 : Vec F S32 .f32) (x_arg4 : Vec F S4 .f32) (x_arg5 : Vec F S4 .f32) (x_arg6 : Vec F S1x1x2048x96 .fp8e4m3) (x_arg7 : Vec F S1x1x2048x96 .fp8e4m3) (x_arg8 : Vec F S1x1x2048x96 .fp8e4m3) (x_arg9 : Vec F S1x1x2048x96 .bf16) (x_arg10 : Vec F S1x1x2048x96 .fp8e5m2) (x_arg11 : Vec F S1x1x1x2048 .f32) (x_arg12 : Vec F S1x1x1x2048 .f32) (y_arg13 : Vec F S1x1x2048x96 .bf16) (y_arg14 : Vec F S1x1x2048x96 .bf16) (y_arg15 : Vec F S1x1x2048x96 .bf16) (y_arg22 : Vec F S2048x96 .f32) (y_arg23 : Vec F S2048x96 .f32) :
    PointOwn c arg3 arg4 arg5 arg6 arg7 arg8 arg9 arg10 arg11 arg12 arg13 arg14 arg15 arg16 arg17 arg18 arg19 arg20 arg21 arg22 arg23 x_arg3 x_arg4 x_arg5 x_arg6 x_arg7 x_arg8 x_arg9 x_arg10 x_arg11 x_arg12 y_arg13 y_arg14 y_arg15 y_arg22 y_arg23
      ⊢ wp frame (wpE (defs₀ (F := F)) 𝒱 (c : Thread nD τ) bd) E (cc0_attn_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23)
          (fun _ => PointOwn c arg3 arg4 arg5 arg6 arg7 arg8 arg9 arg10 arg11 arg12 arg13 arg14 arg15 arg16 arg17 arg18 arg19 arg20 arg21 arg22 arg23 x_arg3 x_arg4 x_arg5 x_arg6 x_arg7 x_arg8 x_arg9 x_arg10 x_arg11 x_arg12 (k0_pay9 (wordK i x_arg4) (ptAcc i x_arg3 x_arg4 x_arg5 x_arg6 x_arg7 x_arg8 x_arg9 x_arg10 x_arg11 x_arg12 k0_pay1 k0_pay2).a) y_arg14 y_arg15 (ptAcc i x_arg3 x_arg4 x_arg5 x_arg6 x_arg7 x_arg8 x_arg9 x_arg10 x_arg11 x_arg12 k0_pay1 k0_pay2).b (ptAcc i x_arg3 x_arg4 x_arg5 x_arg6 x_arg7 x_arg8 x_arg9 x_arg10 x_arg11 x_arg12 k0_pay1 k0_pay2).c) :=
  (pre_of_own c arg3 arg4 arg5 arg6 arg7 arg8 arg9 arg10 arg11 arg12 arg13 arg14 arg15 arg16 arg17 arg18 arg19 arg20 arg21 arg22 arg23 x_arg3 x_arg4 x_arg5 x_arg6 x_arg7 x_arg8 x_arg9 x_arg10 x_arg11 x_arg12 y_arg13 y_arg14 y_arg15 y_arg22 y_arg23).trans
    (((pointA (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (arg3.view.rep x_arg3) (arg4.view.rep x_arg4) (arg5.view.rep x_arg5) (arg6.view.rep x_arg6) (arg7.view.rep x_arg7) (arg8.view.rep x_arg8) (arg9.view.rep x_arg9) (arg10.view.rep x_arg10) (arg11.view.rep x_arg11) (arg12.view.rep x_arg12)).2.2.2.2.property E (arg13.view.rep y_arg13) (arg14.view.rep y_arg14) (arg15.view.rep y_arg15) (arg22.view.rep y_arg22) (arg23.view.rep y_arg23)).trans
      (wp_mono _ _ _ fun _ => own_of_pre c arg3 arg4 arg5 arg6 arg7 arg8 arg9 arg10 arg11 arg12 arg13 arg14 arg15 arg16 arg17 arg18 arg19 arg20 arg21 arg22 arg23 x_arg3 x_arg4 x_arg5 x_arg6 x_arg7 x_arg8 x_arg9 x_arg10 x_arg11 x_arg12 _ _ _ _ _ _ _ _ _ _
        ((pointA_dq (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (arg3.view.rep x_arg3) (arg4.view.rep x_arg4) (arg5.view.rep x_arg5) (arg6.view.rep x_arg6) (arg7.view.rep x_arg7) (arg8.view.rep x_arg8) (arg9.view.rep x_arg9) (arg10.view.rep x_arg10) (arg11.view.rep x_arg11) (arg12.view.rep x_arg12) (arg13.view.rep y_arg13) (arg14.view.rep y_arg14) (arg15.view.rep y_arg15) (arg22.view.rep y_arg22) (arg23.view.rep y_arg23)).trans (by simp only [View.read_rep]))
        ((congrArg (arg14.view.read (Elt F)) (pointA_arg14 (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (arg3.view.rep x_arg3) (arg4.view.rep x_arg4) (arg5.view.rep x_arg5) (arg6.view.rep x_arg6) (arg7.view.rep x_arg7) (arg8.view.rep x_arg8) (arg9.view.rep x_arg9) (arg10.view.rep x_arg10) (arg11.view.rep x_arg11) (arg12.view.rep x_arg12) (arg13.view.rep y_arg13) (arg14.view.rep y_arg14) (arg15.view.rep y_arg15) (arg22.view.rep y_arg22) (arg23.view.rep y_arg23))).trans (View.read_rep _ _))
        ((congrArg (arg15.view.read (Elt F)) (pointA_arg15 (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (arg3.view.rep x_arg3) (arg4.view.rep x_arg4) (arg5.view.rep x_arg5) (arg6.view.rep x_arg6) (arg7.view.rep x_arg7) (arg8.view.rep x_arg8) (arg9.view.rep x_arg9) (arg10.view.rep x_arg10) (arg11.view.rep x_arg11) (arg12.view.rep x_arg12) (arg13.view.rep y_arg13) (arg14.view.rep y_arg14) (arg15.view.rep y_arg15) (arg22.view.rep y_arg22) (arg23.view.rep y_arg23))).trans (View.read_rep _ _))
        ((pointA_b (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (arg3.view.rep x_arg3) (arg4.view.rep x_arg4) (arg5.view.rep x_arg5) (arg6.view.rep x_arg6) (arg7.view.rep x_arg7) (arg8.view.rep x_arg8) (arg9.view.rep x_arg9) (arg10.view.rep x_arg10) (arg11.view.rep x_arg11) (arg12.view.rep x_arg12) (arg13.view.rep y_arg13) (arg14.view.rep y_arg14) (arg15.view.rep y_arg15) (arg22.view.rep y_arg22) (arg23.view.rep y_arg23)).trans (by simp only [View.read_rep]))
        ((pointA_c (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (arg3.view.rep x_arg3) (arg4.view.rep x_arg4) (arg5.view.rep x_arg5) (arg6.view.rep x_arg6) (arg7.view.rep x_arg7) (arg8.view.rep x_arg8) (arg9.view.rep x_arg9) (arg10.view.rep x_arg10) (arg11.view.rep x_arg11) (arg12.view.rep x_arg12) (arg13.view.rep y_arg13) (arg14.view.rep y_arg14) (arg15.view.rep y_arg15) (arg22.view.rep y_arg22) (arg23.view.rep y_arg23)).trans (by simp only [View.read_rep]))))

/-- One grid point at a head between the first and the last: the carried accumulators go on. -/
theorem soundB (𝒱 : Variants) (c : Dev nD) (bd : Option 𝒱.V) (i : grid0.Coords) (h1 : ¬ condZ i = 1#1) (h2 : ¬ k0_cond2 i = 1#1) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (E : Set ℕ) (x_arg3 : Vec F S32 .f32) (x_arg4 : Vec F S4 .f32) (x_arg5 : Vec F S4 .f32) (x_arg6 : Vec F S1x1x2048x96 .fp8e4m3) (x_arg7 : Vec F S1x1x2048x96 .fp8e4m3) (x_arg8 : Vec F S1x1x2048x96 .fp8e4m3) (x_arg9 : Vec F S1x1x2048x96 .bf16) (x_arg10 : Vec F S1x1x2048x96 .fp8e5m2) (x_arg11 : Vec F S1x1x1x2048 .f32) (x_arg12 : Vec F S1x1x1x2048 .f32) (y_arg13 : Vec F S1x1x2048x96 .bf16) (y_arg14 : Vec F S1x1x2048x96 .bf16) (y_arg15 : Vec F S1x1x2048x96 .bf16) (y_arg22 : Vec F S2048x96 .f32) (y_arg23 : Vec F S2048x96 .f32) :
    PointOwn c arg3 arg4 arg5 arg6 arg7 arg8 arg9 arg10 arg11 arg12 arg13 arg14 arg15 arg16 arg17 arg18 arg19 arg20 arg21 arg22 arg23 x_arg3 x_arg4 x_arg5 x_arg6 x_arg7 x_arg8 x_arg9 x_arg10 x_arg11 x_arg12 y_arg13 y_arg14 y_arg15 y_arg22 y_arg23
      ⊢ wp frame (wpE (defs₀ (F := F)) 𝒱 (c : Thread nD τ) bd) E (cc0_attn_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23)
          (fun _ => PointOwn c arg3 arg4 arg5 arg6 arg7 arg8 arg9 arg10 arg11 arg12 arg13 arg14 arg15 arg16 arg17 arg18 arg19 arg20 arg21 arg22 arg23 x_arg3 x_arg4 x_arg5 x_arg6 x_arg7 x_arg8 x_arg9 x_arg10 x_arg11 x_arg12 (k0_pay9 (wordK i x_arg4) (ptAcc i x_arg3 x_arg4 x_arg5 x_arg6 x_arg7 x_arg8 x_arg9 x_arg10 x_arg11 x_arg12 y_arg22 y_arg23).a) y_arg14 y_arg15 (ptAcc i x_arg3 x_arg4 x_arg5 x_arg6 x_arg7 x_arg8 x_arg9 x_arg10 x_arg11 x_arg12 y_arg22 y_arg23).b (ptAcc i x_arg3 x_arg4 x_arg5 x_arg6 x_arg7 x_arg8 x_arg9 x_arg10 x_arg11 x_arg12 y_arg22 y_arg23).c) :=
  (pre_of_own c arg3 arg4 arg5 arg6 arg7 arg8 arg9 arg10 arg11 arg12 arg13 arg14 arg15 arg16 arg17 arg18 arg19 arg20 arg21 arg22 arg23 x_arg3 x_arg4 x_arg5 x_arg6 x_arg7 x_arg8 x_arg9 x_arg10 x_arg11 x_arg12 y_arg13 y_arg14 y_arg15 y_arg22 y_arg23).trans
    (((pointB (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (arg3.view.rep x_arg3) (arg4.view.rep x_arg4) (arg5.view.rep x_arg5) (arg6.view.rep x_arg6) (arg7.view.rep x_arg7) (arg8.view.rep x_arg8) (arg9.view.rep x_arg9) (arg10.view.rep x_arg10) (arg11.view.rep x_arg11) (arg12.view.rep x_arg12)).2.2.2.2.property E (arg13.view.rep y_arg13) (arg14.view.rep y_arg14) (arg15.view.rep y_arg15) (arg22.view.rep y_arg22) (arg23.view.rep y_arg23)).trans
      (wp_mono _ _ _ fun _ => own_of_pre c arg3 arg4 arg5 arg6 arg7 arg8 arg9 arg10 arg11 arg12 arg13 arg14 arg15 arg16 arg17 arg18 arg19 arg20 arg21 arg22 arg23 x_arg3 x_arg4 x_arg5 x_arg6 x_arg7 x_arg8 x_arg9 x_arg10 x_arg11 x_arg12 _ _ _ _ _ _ _ _ _ _
        ((pointB_dq (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (arg3.view.rep x_arg3) (arg4.view.rep x_arg4) (arg5.view.rep x_arg5) (arg6.view.rep x_arg6) (arg7.view.rep x_arg7) (arg8.view.rep x_arg8) (arg9.view.rep x_arg9) (arg10.view.rep x_arg10) (arg11.view.rep x_arg11) (arg12.view.rep x_arg12) (arg13.view.rep y_arg13) (arg14.view.rep y_arg14) (arg15.view.rep y_arg15) (arg22.view.rep y_arg22) (arg23.view.rep y_arg23)).trans (by simp only [View.read_rep]))
        ((congrArg (arg14.view.read (Elt F)) (pointB_arg14 (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (arg3.view.rep x_arg3) (arg4.view.rep x_arg4) (arg5.view.rep x_arg5) (arg6.view.rep x_arg6) (arg7.view.rep x_arg7) (arg8.view.rep x_arg8) (arg9.view.rep x_arg9) (arg10.view.rep x_arg10) (arg11.view.rep x_arg11) (arg12.view.rep x_arg12) (arg13.view.rep y_arg13) (arg14.view.rep y_arg14) (arg15.view.rep y_arg15) (arg22.view.rep y_arg22) (arg23.view.rep y_arg23))).trans (View.read_rep _ _))
        ((congrArg (arg15.view.read (Elt F)) (pointB_arg15 (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (arg3.view.rep x_arg3) (arg4.view.rep x_arg4) (arg5.view.rep x_arg5) (arg6.view.rep x_arg6) (arg7.view.rep x_arg7) (arg8.view.rep x_arg8) (arg9.view.rep x_arg9) (arg10.view.rep x_arg10) (arg11.view.rep x_arg11) (arg12.view.rep x_arg12) (arg13.view.rep y_arg13) (arg14.view.rep y_arg14) (arg15.view.rep y_arg15) (arg22.view.rep y_arg22) (arg23.view.rep y_arg23))).trans (View.read_rep _ _))
        ((pointB_b (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (arg3.view.rep x_arg3) (arg4.view.rep x_arg4) (arg5.view.rep x_arg5) (arg6.view.rep x_arg6) (arg7.view.rep x_arg7) (arg8.view.rep x_arg8) (arg9.view.rep x_arg9) (arg10.view.rep x_arg10) (arg11.view.rep x_arg11) (arg12.view.rep x_arg12) (arg13.view.rep y_arg13) (arg14.view.rep y_arg14) (arg15.view.rep y_arg15) (arg22.view.rep y_arg22) (arg23.view.rep y_arg23)).trans (by simp only [View.read_rep]))
        ((pointB_c (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (arg3.view.rep x_arg3) (arg4.view.rep x_arg4) (arg5.view.rep x_arg5) (arg6.view.rep x_arg6) (arg7.view.rep x_arg7) (arg8.view.rep x_arg8) (arg9.view.rep x_arg9) (arg10.view.rep x_arg10) (arg11.view.rep x_arg11) (arg12.view.rep x_arg12) (arg13.view.rep y_arg13) (arg14.view.rep y_arg14) (arg15.view.rep y_arg15) (arg22.view.rep y_arg22) (arg23.view.rep y_arg23)).trans (by simp only [View.read_rep]))))

/-- One grid point at the last head of a group: the carried accumulators go on, and are written to the result blocks. -/
theorem soundC (𝒱 : Variants) (c : Dev nD) (bd : Option 𝒱.V) (i : grid0.Coords) (h1 : ¬ condZ i = 1#1) (h2 : k0_cond2 i = 1#1) (arg3 : Memref sig .tc .smem S32 .f32) (harg3 : arg3.IsWhole) (arg4 : Memref sig .tc .smem S4 .f32) (harg4 : arg4.IsWhole) (arg5 : Memref sig .tc .smem S4 .f32) (harg5 : arg5.IsWhole) (arg6 : Memref sig .tc .vmem S1x1x2048x96 .fp8e4m3) (harg6 : arg6.IsWhole) (arg7 : Memref sig .tc .vmem S1x1x2048x96 .fp8e4m3) (harg7 : arg7.IsWhole) (arg8 : Memref sig .tc .vmem S1x1x2048x96 .fp8e4m3) (harg8 : arg8.IsWhole) (arg9 : Memref sig .tc .vmem S1x1x2048x96 .bf16) (harg9 : arg9.IsWhole) (arg10 : Memref sig .tc .vmem S1x1x2048x96 .fp8e5m2) (harg10 : arg10.IsWhole) (arg11 : Memref sig .tc .vmem S1x1x1x2048 .f32) (harg11 : arg11.IsWhole) (arg12 : Memref sig .tc .vmem S1x1x1x2048 .f32) (harg12 : arg12.IsWhole) (arg13 : Memref sig .tc .vmem S1x1x2048x96 .bf16) (harg13 : arg13.IsWhole) (arg14 : Memref sig .tc .vmem S1x1x2048x96 .bf16) (harg14 : arg14.IsWhole) (arg15 : Memref sig .tc .vmem S1x1x2048x96 .bf16) (harg15 : arg15.IsWhole) (arg16 : Memref sig .tc .vmem S2048x96 .bf16) (harg16 : arg16.IsWhole) (arg17 : Memref sig .tc .vmem S2048x96 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x96 .f32) (harg21 : arg21.IsWhole) (arg22 : Memref sig .tc .vmem S2048x96 .f32) (harg22 : arg22.IsWhole) (arg23 : Memref sig .tc .vmem S2048x96 .f32) (harg23 : arg23.IsWhole) (E : Set ℕ) (x_arg3 : Vec F S32 .f32) (x_arg4 : Vec F S4 .f32) (x_arg5 : Vec F S4 .f32) (x_arg6 : Vec F S1x1x2048x96 .fp8e4m3) (x_arg7 : Vec F S1x1x2048x96 .fp8e4m3) (x_arg8 : Vec F S1x1x2048x96 .fp8e4m3) (x_arg9 : Vec F S1x1x2048x96 .bf16) (x_arg10 : Vec F S1x1x2048x96 .fp8e5m2) (x_arg11 : Vec F S1x1x1x2048 .f32) (x_arg12 : Vec F S1x1x1x2048 .f32) (y_arg13 : Vec F S1x1x2048x96 .bf16) (y_arg14 : Vec F S1x1x2048x96 .bf16) (y_arg15 : Vec F S1x1x2048x96 .bf16) (y_arg22 : Vec F S2048x96 .f32) (y_arg23 : Vec F S2048x96 .f32) :
    PointOwn c arg3 arg4 arg5 arg6 arg7 arg8 arg9 arg10 arg11 arg12 arg13 arg14 arg15 arg16 arg17 arg18 arg19 arg20 arg21 arg22 arg23 x_arg3 x_arg4 x_arg5 x_arg6 x_arg7 x_arg8 x_arg9 x_arg10 x_arg11 x_arg12 y_arg13 y_arg14 y_arg15 y_arg22 y_arg23
      ⊢ wp frame (wpE (defs₀ (F := F)) 𝒱 (c : Thread nD τ) bd) E (cc0_attn_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23)
          (fun _ => PointOwn c arg3 arg4 arg5 arg6 arg7 arg8 arg9 arg10 arg11 arg12 arg13 arg14 arg15 arg16 arg17 arg18 arg19 arg20 arg21 arg22 arg23 x_arg3 x_arg4 x_arg5 x_arg6 x_arg7 x_arg8 x_arg9 x_arg10 x_arg11 x_arg12 (k0_pay9 (wordK i x_arg4) (ptAcc i x_arg3 x_arg4 x_arg5 x_arg6 x_arg7 x_arg8 x_arg9 x_arg10 x_arg11 x_arg12 y_arg22 y_arg23).a) (k0_pay10 (ptAcc i x_arg3 x_arg4 x_arg5 x_arg6 x_arg7 x_arg8 x_arg9 x_arg10 x_arg11 x_arg12 y_arg22 y_arg23).b) (k0_pay11 (ptAcc i x_arg3 x_arg4 x_arg5 x_arg6 x_arg7 x_arg8 x_arg9 x_arg10 x_arg11 x_arg12 y_arg22 y_arg23).c) (ptAcc i x_arg3 x_arg4 x_arg5 x_arg6 x_arg7 x_arg8 x_arg9 x_arg10 x_arg11 x_arg12 y_arg22 y_arg23).b (ptAcc i x_arg3 x_arg4 x_arg5 x_arg6 x_arg7 x_arg8 x_arg9 x_arg10 x_arg11 x_arg12 y_arg22 y_arg23).c) :=
  (pre_of_own c arg3 arg4 arg5 arg6 arg7 arg8 arg9 arg10 arg11 arg12 arg13 arg14 arg15 arg16 arg17 arg18 arg19 arg20 arg21 arg22 arg23 x_arg3 x_arg4 x_arg5 x_arg6 x_arg7 x_arg8 x_arg9 x_arg10 x_arg11 x_arg12 y_arg13 y_arg14 y_arg15 y_arg22 y_arg23).trans
    (((pointC (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (arg3.view.rep x_arg3) (arg4.view.rep x_arg4) (arg5.view.rep x_arg5) (arg6.view.rep x_arg6) (arg7.view.rep x_arg7) (arg8.view.rep x_arg8) (arg9.view.rep x_arg9) (arg10.view.rep x_arg10) (arg11.view.rep x_arg11) (arg12.view.rep x_arg12)).2.2.2.2.property E (arg13.view.rep y_arg13) (arg14.view.rep y_arg14) (arg15.view.rep y_arg15) (arg22.view.rep y_arg22) (arg23.view.rep y_arg23)).trans
      (wp_mono _ _ _ fun _ => own_of_pre c arg3 arg4 arg5 arg6 arg7 arg8 arg9 arg10 arg11 arg12 arg13 arg14 arg15 arg16 arg17 arg18 arg19 arg20 arg21 arg22 arg23 x_arg3 x_arg4 x_arg5 x_arg6 x_arg7 x_arg8 x_arg9 x_arg10 x_arg11 x_arg12 _ _ _ _ _ _ _ _ _ _
        ((pointC_dq (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (arg3.view.rep x_arg3) (arg4.view.rep x_arg4) (arg5.view.rep x_arg5) (arg6.view.rep x_arg6) (arg7.view.rep x_arg7) (arg8.view.rep x_arg8) (arg9.view.rep x_arg9) (arg10.view.rep x_arg10) (arg11.view.rep x_arg11) (arg12.view.rep x_arg12) (arg13.view.rep y_arg13) (arg14.view.rep y_arg14) (arg15.view.rep y_arg15) (arg22.view.rep y_arg22) (arg23.view.rep y_arg23)).trans (by simp only [View.read_rep]))
        ((pointC_arg14 (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (arg3.view.rep x_arg3) (arg4.view.rep x_arg4) (arg5.view.rep x_arg5) (arg6.view.rep x_arg6) (arg7.view.rep x_arg7) (arg8.view.rep x_arg8) (arg9.view.rep x_arg9) (arg10.view.rep x_arg10) (arg11.view.rep x_arg11) (arg12.view.rep x_arg12) (arg13.view.rep y_arg13) (arg14.view.rep y_arg14) (arg15.view.rep y_arg15) (arg22.view.rep y_arg22) (arg23.view.rep y_arg23)).trans (by simp only [View.read_rep]))
        ((pointC_arg15 (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (arg3.view.rep x_arg3) (arg4.view.rep x_arg4) (arg5.view.rep x_arg5) (arg6.view.rep x_arg6) (arg7.view.rep x_arg7) (arg8.view.rep x_arg8) (arg9.view.rep x_arg9) (arg10.view.rep x_arg10) (arg11.view.rep x_arg11) (arg12.view.rep x_arg12) (arg13.view.rep y_arg13) (arg14.view.rep y_arg14) (arg15.view.rep y_arg15) (arg22.view.rep y_arg22) (arg23.view.rep y_arg23)).trans (by simp only [View.read_rep]))
        ((pointC_b (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (arg3.view.rep x_arg3) (arg4.view.rep x_arg4) (arg5.view.rep x_arg5) (arg6.view.rep x_arg6) (arg7.view.rep x_arg7) (arg8.view.rep x_arg8) (arg9.view.rep x_arg9) (arg10.view.rep x_arg10) (arg11.view.rep x_arg11) (arg12.view.rep x_arg12) (arg13.view.rep y_arg13) (arg14.view.rep y_arg14) (arg15.view.rep y_arg15) (arg22.view.rep y_arg22) (arg23.view.rep y_arg23)).trans (by simp only [View.read_rep]))
        ((pointC_c (F := F) 𝒱 c bd i h1 h2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (arg3.view.rep x_arg3) (arg4.view.rep x_arg4) (arg5.view.rep x_arg5) (arg6.view.rep x_arg6) (arg7.view.rep x_arg7) (arg8.view.rep x_arg8) (arg9.view.rep x_arg9) (arg10.view.rep x_arg10) (arg11.view.rep x_arg11) (arg12.view.rep x_arg12) (arg13.view.rep y_arg13) (arg14.view.rep y_arg14) (arg15.view.rep y_arg15) (arg22.view.rep y_arg22) (arg23.view.rep y_arg23)).trans (by simp only [View.read_rep]))))

end Cert.KernelIdeal.Gen

end
-- ==== Proof.FrameKI.lean ====
/- The frame of the kernel: the proof data (what each grid point leaves in each result block, and the accumulators carried
   from a grid point to the next), the body's obligation at every point, the run of the whole program, and the claim that it
   ends with its arguments unchanged. -/
module

public import proofs.«01_k».proof.Proof.SoundKI
public import proofs.«01_k».proof.Proof.Gen.KernelIdeal.Frame
public import Idealize.ShloMosaic.Lib.Pipeline.FrameBody
public import Idealize.ShloMosaic.Lib.Pipeline.FrameSuffix
public import Idealize.ShloMosaic.Lib.Claim
public import Idealize.ShloMosaic.Lib.Pipeline.TableIdle

@[expose] public section

set_option maxRecDepth 16384
set_option maxHeartbeats 400000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open VecWindow (window put)

variable {F : FTy → Type} [FloatOps F] [Named F]

/-- The resource algebra the triples are stated at. -/
local notation "𝕄G" => MT nD τ sig Unit (Elt F) ℕ (UR sig nD τ) ℕ

variable (m : (ℓ : Loc nD τ sig) → Buf (Elt F) ℓ) (ρ : Dev nD → PrngReg)

/-! ## The grid's points -/

theorem condZ_iff : ∀ t : Fin grid0.N, condZ (grid0.coords t) = 1#1 ↔ t.val % 8 = 0 := by decide +kernel
theorem cond2_iff : ∀ t : Fin grid0.N, k0_cond2 (grid0.coords t) = 1#1 ↔ t.val % 8 = 7 := by decide +kernel

/-! ## What the points compute -/

/-- The accumulators after grid point `n`, the carried ones found at `b` and `d`. -/
def blkAcc (c : Dev nD) (n : ℕ) (b d : Vec F S2048x96 .f32) : Acc F :=
  if h : n < cfg0.N then (fun t : Fin cfg0.N => ptAcc (grid0.coords t) (iblk m c 0 t) (iblk m c 1 t) (iblk m c 2 t) (iblk m c 3 t) (iblk m c 4 t) (iblk m c 5 t) (iblk m c 6 t) (iblk m c 7 t) (iblk m c 8 t) (iblk m c 9 t) b d) ⟨n, h⟩
  else ⟨b, b, d⟩

/-- The accumulators after grid point `n`: the carried ones start from zero at the first head of each group of eight. -/
def accAt (c : Dev nD) : ℕ → Acc F
  | 0 => blkAcc m c 0 k0_pay1 k0_pay2
  | n + 1 => if (n + 1) % 8 = 0 then blkAcc m c (n + 1) k0_pay1 k0_pay2 else blkAcc m c (n + 1) (accAt c n).b (accAt c n).c

theorem blkAcc_eq (c : Dev nD) (t : Fin cfg0.N) (b d : Vec F S2048x96 .f32) :
    blkAcc m c t.val b d = ptAcc (grid0.coords t) (iblk m c 0 t) (iblk m c 1 t) (iblk m c 2 t) (iblk m c 3 t) (iblk m c 4 t) (iblk m c 5 t) (iblk m c 6 t) (iblk m c 7 t) (iblk m c 8 t) (iblk m c 9 t) b d := by
  unfold blkAcc; rw [dif_pos t.isLt]

theorem accAt_first (c : Dev nD) (t : Fin cfg0.N) (h : t.val % 8 = 0) :
    accAt m c t.val = ptAcc (grid0.coords t) (iblk m c 0 t) (iblk m c 1 t) (iblk m c 2 t) (iblk m c 3 t) (iblk m c 4 t) (iblk m c 5 t) (iblk m c 6 t) (iblk m c 7 t) (iblk m c 8 t) (iblk m c 9 t) k0_pay1 k0_pay2 := by
  rw [← blkAcc_eq]
  generalize t.val = n at h
  cases n with
  | zero => rfl
  | succ n => unfold accAt; rw [if_pos h]

theorem accAt_next (c : Dev nD) (t : Fin cfg0.N) (h : ¬ t.val % 8 = 0) :
    accAt m c t.val = ptAcc (grid0.coords t) (iblk m c 0 t) (iblk m c 1 t) (iblk m c 2 t) (iblk m c 3 t) (iblk m c 4 t) (iblk m c 5 t) (iblk m c 6 t) (iblk m c 7 t) (iblk m c 8 t) (iblk m c 9 t) (accAt m c (t.val - 1)).b (accAt m c (t.val - 1)).c := by
  rw [← blkAcc_eq]
  generalize t.val = n at h
  cases n with
  | zero => exact absurd rfl h
  | succ n => rw [Nat.add_sub_cancel]; conv_lhs => unfold accAt
              rw [if_neg h]

/-! ## The proof data -/

/-- What the kernel's own buffers hold before point `n`: the carried accumulators are the last point's, unless the point is
    the first of its group; the others hold anything. -/
def PhiAt (c : Dev nD) (n : ℕ) : sProp 𝕄G :=
  iprop(∃ b : Vec F S2048x96 .f32, ∃ d : Vec F S2048x96 .f32, ⌜¬ n % 8 = 0 → b = (accAt m c (n - 1)).b ∧ d = (accAt m c (n - 1)).c⌝
    ∗ owns (c : Thread nD τ) (Memref.whole cc0_scratch6 : Memref sig .tc .vmem S2048x96 .f32) fullShare b ∗ owns (c : Thread nD τ) (Memref.whole cc0_scratch7 : Memref sig .tc .vmem S2048x96 .f32) fullShare d
    ∗ (∃ x : Vec F S2048x96 .bf16, owns (c : Thread nD τ) (Memref.whole cc0_scratch0 : Memref sig .tc .vmem S2048x96 .bf16) fullShare x) ∗ (∃ x : Vec F S2048x96 .bf16, owns (c : Thread nD τ) (Memref.whole cc0_scratch1 : Memref sig .tc .vmem S2048x96 .bf16) fullShare x) ∗ (∃ x : Vec F S2048x128 .f32, owns (c : Thread nD τ) (Memref.whole cc0_scratch2 : Memref sig .tc .vmem S2048x128 .f32) fullShare x) ∗ (∃ x : Vec F S2048x128 .f32, owns (c : Thread nD τ) (Memref.whole cc0_scratch3 : Memref sig .tc .vmem S2048x128 .f32) fullShare x) ∗ (∃ x : Vec F S2048x128 .f32, owns (c : Thread nD τ) (Memref.whole cc0_scratch4 : Memref sig .tc .vmem S2048x128 .f32) fullShare x) ∗ (∃ x : Vec F S2048x96 .f32, owns (c : Thread nD τ) (Memref.whole cc0_scratch5 : Memref sig .tc .vmem S2048x96 .f32) fullShare x)
    ∗ (∃ r, prngReg c r))

/-- The proof data: the inputs' blocks stay; the results' blocks end at what the point computed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => k0_pay9 (wordK (grid0.coords t) (iblk m c 1 t)) (accAt m c t.val).a
    | ⟨11, _⟩ => k0_pay10 (accAt m c t.val).b
    | ⟨12, _⟩ => k0_pay11 (accAt m c t.val).c
  Φ t := PhiAt m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = k0_pay9 (wordK (grid0.coords t) (iblk m c 1 t)) (accAt m c t.val).a := by dsimp only [dats]
theorem after0_11 (c : Dev nD) (t : Fin cfg0.N) : (dats m 0 c).after 11 t = k0_pay10 (accAt m c t.val).b := by dsimp only [dats]
theorem after0_12 (c : Dev nD) (t : Fin cfg0.N) : (dats m 0 c).after 12 t = k0_pay11 (accAt m c t.val).c := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem Phi_eq (c : Dev nD) (t : Fin (cfg0.N + 1)) : (dats m 0 c).Φ t = PhiAt m c t.val := by dsimp only [dats]

/-- A window not idle at a point is left at what the point computed. -/
theorem leavesExact_live {c : Dev nD} (dat : Dat τ (Elt F) Unit ℕ (UR sig nD τ) ℕ cfg0 c) (w : Fin cfg0.W) (t : Fin cfg0.N)
    (hi : cfg0.idle w (cfg0.grid.coords t) = false) :
    dat.leavesExact w t = owns (c : Thread nD τ) ((cfg0.win w).stage (cfg0.slots t w)) fullShare (dat.after w t) := by
  unfold Dat.leavesExact; rw [hi]

/-! ## The body's obligation -/

/-- What the body is called with at point `t`, -/
def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns. -/
def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ (dats m 0 c).leavesExact 11 t ∗ (dats m 0 c).leavesExact 12 t)

/-- The body at a point that is the first of its group. -/
theorem sound_bodyA (c : Dev nD) (t : Fin cfg0.N) (h : t.val % 8 = 0) :
    bodyPre m c t ⊢ wp frame (wpE (defs₀ (F := F)) Variants.none c none) Set.univ (bodyAt0 t) (fun _ => bodyPost m c t) := by
  have h1 : condZ (grid0.coords t) = 1#1 := (condZ_iff t).2 h
  have h7 : ¬ t.val % 8 = 7 := by omega
  have h2 : ¬ k0_cond2 (grid0.coords t) = 1#1 := fun e => h7 ((cond2_iff t).1 e)
  unfold bodyPre bodyPost bodyAt0
  simp only [before0_0, before0_1, before0_2, before0_3, before0_4, before0_5, before0_6, before0_7, before0_8, before0_9]
  have hi : ((!(k0_cond2 (grid0.coords t) == 1#1)) : Bool) = true := by
    rw [Bool.not_eq_true']; exact beq_eq_false_iff_ne.2 h2
  have hf11 : (cfg0.win 11).flush t = false := Bool.eq_false_iff.2 fun e => h7 ((flush0_11 t).1 e)
  have hf12 : (cfg0.win 12).flush t = false := Bool.eq_false_iff.2 fun e => h7 ((flush0_12 t).1 e)
  rw [(dats m 0 c).leavesExact_idle 11 t hi hf11, (dats m 0 c).leavesExact_idle 12 t hi hf12]
  rw [show (dats m 0 c).owesAt () t.succ = (dats m 0 c).owesAt () t.castSucc from rfl,
    after0_0, after0_1, after0_2, after0_3, after0_4, after0_5, after0_6, after0_7, after0_8, after0_9, after0_10, Phi_eq, Phi_eq, accAt_first m c t h]
  rw [show (t.castSucc : Fin (cfg0.N + 1)).val = t.val from rfl, show (t.succ : Fin (cfg0.N + 1)).val = t.val + 1 from rfl]
  unfold PhiAt
  rw [Nat.add_sub_cancel, accAt_first m c t h]
  iintro ⟨⟨%b, %d, %hbd, HB, HD, S0, S1, S2, S3, S4, S5, HR⟩, HO, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩⟩
  iapply (wp_wand_r frame (wpE (defs₀ (F := F)) Variants.none c none) Set.univ)
  isplitr [HR HO]
  · iapply (soundA Variants.none c none (grid0.coords t) h1 h2 (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) Set.univ (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t e10) ((dats m 0 c).before 11 t e11) ((dats m 0 c).before 12 t e12) b d)
    unfold PointOwn
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HB]; · iexact HB
    isplitl [HD]; · iexact HD
    isplitl [S0]; · iexact S0
    isplitl [S1]; · iexact S1
    isplitl [S2]; · iexact S2
    isplitl [S3]; · iexact S3
    isplitl [S4]; · iexact S4
    iexact S5
  iintro %u HP
  unfold PointOwn
  icases HP with ⟨H0, H1, H2, H3, H4, H5, H6, H7, H8, H9, H10, H11, H12, HB, HD, S0, S1, S2, S3, S4, S5⟩
  isplitr [HO H0 H1 H2 H3 H4 H5 H6 H7 H8 H9 H10 H11 H12]
  · iexists _; iexists _
    isplitr; · ipureintro; exact fun _ => ⟨rfl, rfl⟩
    isplitl [HB]; · iexact HB
    isplitl [HD]; · iexact HD
    isplitl [S0]; · iexact S0
    isplitl [S1]; · iexact S1
    isplitl [S2]; · iexact S2
    isplitl [S3]; · iexact S3
    isplitl [S4]; · iexact S4
    isplitl [S5]; · iexact S5
    iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists e11; iexact H11
  iexists e12; iexact H12

/-- The body at a point inside its group. -/
theorem sound_bodyB (c : Dev nD) (t : Fin cfg0.N) (h : ¬ t.val % 8 = 0) (h7 : ¬ t.val % 8 = 7) :
    bodyPre m c t ⊢ wp frame (wpE (defs₀ (F := F)) Variants.none c none) Set.univ (bodyAt0 t) (fun _ => bodyPost m c t) := by
  have h1 : ¬ condZ (grid0.coords t) = 1#1 := fun e => h ((condZ_iff t).1 e)
  have h2 : ¬ k0_cond2 (grid0.coords t) = 1#1 := fun e => h7 ((cond2_iff t).1 e)
  unfold bodyPre bodyPost bodyAt0
  simp only [before0_0, before0_1, before0_2, before0_3, before0_4, before0_5, before0_6, before0_7, before0_8, before0_9]
  have hi : ((!(k0_cond2 (grid0.coords t) == 1#1)) : Bool) = true := by
    rw [Bool.not_eq_true']; exact beq_eq_false_iff_ne.2 h2
  have hf11 : (cfg0.win 11).flush t = false := Bool.eq_false_iff.2 fun e => h7 ((flush0_11 t).1 e)
  have hf12 : (cfg0.win 12).flush t = false := Bool.eq_false_iff.2 fun e => h7 ((flush0_12 t).1 e)
  rw [(dats m 0 c).leavesExact_idle 11 t hi hf11, (dats m 0 c).leavesExact_idle 12 t hi hf12]
  rw [show (dats m 0 c).owesAt () t.succ = (dats m 0 c).owesAt () t.castSucc from rfl,
    after0_0, after0_1, after0_2, after0_3, after0_4, after0_5, after0_6, after0_7, after0_8, after0_9, after0_10, Phi_eq, Phi_eq, accAt_next m c t h]
  rw [show (t.castSucc : Fin (cfg0.N + 1)).val = t.val from rfl, show (t.succ : Fin (cfg0.N + 1)).val = t.val + 1 from rfl]
  unfold PhiAt
  rw [Nat.add_sub_cancel, accAt_next m c t h]
  iintro ⟨⟨%b, %d, %hbd, HB, HD, S0, S1, S2, S3, S4, S5, HR⟩, HO, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩⟩
  obtain ⟨hb, hd⟩ := hbd h
  subst hb hd
  iapply (wp_wand_r frame (wpE (defs₀ (F := F)) Variants.none c none) Set.univ)
  isplitr [HR HO]
  · iapply (soundB Variants.none c none (grid0.coords t) h1 h2 (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) Set.univ (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t e10) ((dats m 0 c).before 11 t e11) ((dats m 0 c).before 12 t e12) _ _)
    unfold PointOwn
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HB]; · iexact HB
    isplitl [HD]; · iexact HD
    isplitl [S0]; · iexact S0
    isplitl [S1]; · iexact S1
    isplitl [S2]; · iexact S2
    isplitl [S3]; · iexact S3
    isplitl [S4]; · iexact S4
    iexact S5
  iintro %u HP
  unfold PointOwn
  icases HP with ⟨H0, H1, H2, H3, H4, H5, H6, H7, H8, H9, H10, H11, H12, HB, HD, S0, S1, S2, S3, S4, S5⟩
  isplitr [HO H0 H1 H2 H3 H4 H5 H6 H7 H8 H9 H10 H11 H12]
  · iexists _; iexists _
    isplitr; · ipureintro; exact fun _ => ⟨rfl, rfl⟩
    isplitl [HB]; · iexact HB
    isplitl [HD]; · iexact HD
    isplitl [S0]; · iexact S0
    isplitl [S1]; · iexact S1
    isplitl [S2]; · iexact S2
    isplitl [S3]; · iexact S3
    isplitl [S4]; · iexact S4
    isplitl [S5]; · iexact S5
    iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists e11; iexact H11
  iexists e12; iexact H12

/-- The body at a point that is the last of its group. -/
theorem sound_bodyC (c : Dev nD) (t : Fin cfg0.N) (h7 : t.val % 8 = 7) :
    bodyPre m c t ⊢ wp frame (wpE (defs₀ (F := F)) Variants.none c none) Set.univ (bodyAt0 t) (fun _ => bodyPost m c t) := by
  have h : ¬ t.val % 8 = 0 := by omega
  have h1 : ¬ condZ (grid0.coords t) = 1#1 := fun e => h ((condZ_iff t).1 e)
  have h2 : k0_cond2 (grid0.coords t) = 1#1 := (cond2_iff t).2 h7
  unfold bodyPre bodyPost bodyAt0
  simp only [before0_0, before0_1, before0_2, before0_3, before0_4, before0_5, before0_6, before0_7, before0_8, before0_9]
  have hi : ((!(k0_cond2 (grid0.coords t) == 1#1)) : Bool) = false := by rw [h2]; rfl
  rw [leavesExact_live (dats m 0 c) 11 t hi, leavesExact_live (dats m 0 c) 12 t hi, after0_11, after0_12]
  rw [show (dats m 0 c).owesAt () t.succ = (dats m 0 c).owesAt () t.castSucc from rfl,
    after0_0, after0_1, after0_2, after0_3, after0_4, after0_5, after0_6, after0_7, after0_8, after0_9, after0_10, Phi_eq, Phi_eq, accAt_next m c t h]
  rw [show (t.castSucc : Fin (cfg0.N + 1)).val = t.val from rfl, show (t.succ : Fin (cfg0.N + 1)).val = t.val + 1 from rfl]
  unfold PhiAt
  rw [Nat.add_sub_cancel, accAt_next m c t h]
  iintro ⟨⟨%b, %d, %hbd, HB, HD, S0, S1, S2, S3, S4, S5, HR⟩, HO, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩⟩
  obtain ⟨hb, hd⟩ := hbd h
  subst hb hd
  iapply (wp_wand_r frame (wpE (defs₀ (F := F)) Variants.none c none) Set.univ)
  isplitr [HR HO]
  · iapply (soundC Variants.none c none (grid0.coords t) h1 h2 (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) Set.univ (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t e10) ((dats m 0 c).before 11 t e11) ((dats m 0 c).before 12 t e12) _ _)
    unfold PointOwn
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HB]; · iexact HB
    isplitl [HD]; · iexact HD
    isplitl [S0]; · iexact S0
    isplitl [S1]; · iexact S1
    isplitl [S2]; · iexact S2
    isplitl [S3]; · iexact S3
    isplitl [S4]; · iexact S4
    iexact S5
  iintro %u HP
  unfold PointOwn
  icases HP with ⟨H0, H1, H2, H3, H4, H5, H6, H7, H8, H9, H10, H11, H12, HB, HD, S0, S1, S2, S3, S4, S5⟩
  isplitr [HO H0 H1 H2 H3 H4 H5 H6 H7 H8 H9 H10 H11 H12]
  · iexists _; iexists _
    isplitr; · ipureintro; exact fun _ => ⟨rfl, rfl⟩
    isplitl [HB]; · iexact HB
    isplitl [HD]; · iexact HD
    isplitl [S0]; · iexact S0
    isplitl [S1]; · iexact S1
    isplitl [S2]; · iexact S2
    isplitl [S3]; · iexact S3
    isplitl [S4]; · iexact S4
    isplitl [S5]; · iexact S5
    iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h : t.val % 8 = 0
  · exact sound_bodyA m c t h
  · by_cases h7 : t.val % 8 = 7
    · exact sound_bodyC m c t h7
    · exact sound_bodyB m c t h h7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the kernel is the invariant before the first point, -/
theorem phi_in (c : Dev nD) : (Pipeline.ΦA spec0 c : sProp 𝕄G) ⊢ (dats m 0 c).Φ 0 := by
  rw [Phi_eq]
  unfold Pipeline.ΦA PhiAt
  rw [scopedRest0_eq]
  simp only [owns_whole]
  iintro ⟨⟨S0, S1, S2, S3, S4, S5, ⟨%b, HB⟩, ⟨%d, HD⟩⟩, HR⟩
  iexists b; iexists d
  isplitr; · ipureintro; exact fun h => absurd rfl h
  isplitl [HB]; · iexact HB
  isplitl [HD]; · iexact HD
  isplitl [S0]; · iexact S0
  isplitl [S1]; · iexact S1
  isplitl [S2]; · iexact S2
  isplitl [S3]; · iexact S3
  isplitl [S4]; · iexact S4
  isplitl [S5]; · iexact S5
  iexact HR

/-- and the invariant after the last is what the launch takes back. -/
theorem phi_out (c : Dev nD) : (dats m 0 c).Φ (Fin.last cfg0.N) ⊢ (Pipeline.ΦA spec0 c : sProp 𝕄G) := by
  rw [Phi_eq]
  unfold Pipeline.ΦA PhiAt
  rw [scopedRest0_eq]
  simp only [owns_whole]
  iintro ⟨%b, %d, -, HB, HD, S0, S1, S2, S3, S4, S5, HR⟩
  isplitr [HR]
  · isplitl [S0]; · iexact S0
    isplitl [S1]; · iexact S1
    isplitl [S2]; · iexact S2
    isplitl [S3]; · iexact S3
    isplitl [S4]; · iexact S4
    isplitl [S5]; · iexact S5
    isplitl [HB]; · iexists b; iexact HB
    iexists d; iexact HD
  iexact HR

/-! ## The run and the frame -/

set_option backward.isDefEq.respectTransparency.types false in
set_option maxHeartbeats 800000 in
/-- The whole program ends, every array of the pipeline at what the proof data say, every semaphore at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := phi_in m) (hout := phi_out m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The frame: the program ends with its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_main_quiescent m ρ))

end Cert.KernelIdeal.Gen

end
-- ==== Proof.Spec.lean ====
/- The mathematics both programs compute, over the extended reals and plain coordinates, and the two scalar facts that join
   their two forms: base two against base e, and the mask before or after the exponential. -/
module

public import Idealize.ShloMosaic.Lib.Pointwise

@[expose] public section

set_option maxRecDepth 16384
set_option maxHeartbeats 1000000

noncomputable section

namespace Cert.Spec

open Idealize.ShloMosaic

/-- The query head of key head `h` and member `g` of its group. -/
def hd (h : Fin 4) (g : Fin 8) : Fin 32 := ⟨h.val * 8 + g.val, by omega⟩

/-- The scale of the scores, the word both programs print. -/
def SM : EReal := Ideal.ofBits .f32 0x3DD105EC#32

/-- The ten arrays, by coordinates: batch, row, head, feature. -/
structure In where
  q : Fin 6 → Fin 2048 → Fin 32 → Fin 96 → EReal
  qs : Fin 32 → EReal
  k : Fin 6 → Fin 2048 → Fin 4 → Fin 96 → EReal
  ks : Fin 4 → EReal
  v : Fin 6 → Fin 2048 → Fin 4 → Fin 96 → EReal
  vs : Fin 4 → EReal
  o : Fin 6 → Fin 2048 → Fin 32 → Fin 96 → EReal
  lse : Fin 6 → Fin 32 → Fin 2048 → EReal
  g : Fin 6 → Fin 2048 → Fin 32 → Fin 96 → EReal
  gs : Fin 6 → Fin 2048 → Fin 32 → EReal

variable (I : In)

/-- The probability that row `r` gives column `c`; zero above the diagonal. -/
def P (b : Fin 6) (h : Fin 4) (g : Fin 8) (r c : Fin 2048) : EReal :=
  if c.val ≤ r.val then
    Ideal.exp ((∑ d : Fin 96, I.q b r (hd h g) d * I.k b c h d) * (I.qs (hd h g) * I.ks h * SM) - I.lse b (hd h g) r)
  else 0

/-- The row term subtracted from the probability's gradient. -/
def D (b : Fin 6) (h : Fin 4) (g : Fin 8) (r : Fin 2048) : EReal :=
  (∑ d : Fin 96, I.g b r (hd h g) d * I.o b r (hd h g) d) * I.gs b r (hd h g)

/-- The gradient of the score of row `r` and column `c`. -/
def G (b : Fin 6) (h : Fin 4) (g : Fin 8) (r c : Fin 2048) : EReal :=
  P I b h g r c * ((∑ d : Fin 96, I.g b r (hd h g) d * I.v b c h d) * (I.gs b r (hd h g) * I.vs h) - D I b h g r)

/-- The query gradient. -/
def dq (b : Fin 6) (r : Fin 2048) (h : Fin 4) (g : Fin 8) (d : Fin 96) : EReal :=
  (∑ c : Fin 2048, G I b h g r c * I.k b c h d) * (I.ks h * SM)

/-- The query gradient of query head `n`. -/
def dqH (b : Fin 6) (r : Fin 2048) (n : Fin 32) (d : Fin 96) : EReal :=
  dq I b r ⟨n.val / 8, by omega⟩ ⟨n.val % 8, by omega⟩ d

theorem dqH_hd (b : Fin 6) (r : Fin 2048) (h : Fin 4) (g : Fin 8) (d : Fin 96) : dqH I b r (hd h g) d = dq I b r h g d := by
  unfold dqH
  have e1 : (⟨(hd h g).val / 8, by omega⟩ : Fin 4) = h := Fin.ext (by show (h.val * 8 + g.val) / 8 = h.val; omega)
  have e2 : (⟨(hd h g).val % 8, by omega⟩ : Fin 8) = g := Fin.ext (by show (h.val * 8 + g.val) % 8 = g.val; omega)
  rw [e1, e2]

/-- The key gradient. -/
def dk (b : Fin 6) (c : Fin 2048) (h : Fin 4) (d : Fin 96) : EReal :=
  (∑ g : Fin 8, ∑ r : Fin 2048, G I b h g r c * (I.q b r (hd h g) d * I.qs (hd h g))) * SM

/-- The value gradient. -/
def dv (b : Fin 6) (c : Fin 2048) (h : Fin 4) (d : Fin 96) : EReal :=
  ∑ g : Fin 8, ∑ r : Fin 2048, P I b h g r c * (I.g b r (hd h g) d * I.gs b r (hd h g))

/-- A difference scaled by a positive real is the difference of the scaled numbers, on all extended reals. -/
theorem sub_mul_pos (x y : EReal) (l : ℝ) (hl : 0 < l) : (x - y) * (l : EReal) = x * l - y * l := by
  induction x using EReal.rec with
  | bot =>
    rw [EReal.bot_mul_coe_of_pos hl]
    simp only [sub_eq_add_neg, EReal.bot_add, EReal.bot_mul_coe_of_pos hl]
  | top =>
    rw [EReal.top_mul_coe_of_pos hl]
    induction y using EReal.rec with
    | bot => simp [EReal.bot_mul_coe_of_pos hl, sub_eq_add_neg, EReal.top_mul_coe_of_pos hl]
    | top => simp [EReal.top_mul_coe_of_pos hl, sub_eq_add_neg, EReal.bot_mul_coe_of_pos hl]
    | coe y =>
      rw [← EReal.coe_mul]
      rw [sub_eq_add_neg, sub_eq_add_neg, ← EReal.coe_neg, ← EReal.coe_neg, EReal.top_add_coe, EReal.top_add_coe,
        EReal.top_mul_coe_of_pos hl]
  | coe x =>
    induction y using EReal.rec with
    | bot =>
      rw [EReal.bot_mul_coe_of_pos hl, ← EReal.coe_mul]
      rw [sub_eq_add_neg, sub_eq_add_neg, EReal.neg_bot, EReal.coe_add_top, EReal.coe_add_top, EReal.top_mul_coe_of_pos hl]
    | top =>
      rw [EReal.top_mul_coe_of_pos hl, ← EReal.coe_mul]
      simp [EReal.bot_mul_coe_of_pos hl, sub_eq_add_neg]
    | coe y => norm_cast; ring

/-- Two to the power `x / log 2` is the exponential of `x`. -/
theorem exp2_mul (x : EReal) : Ideal.exp2 (x * (((Real.log 2)⁻¹ : ℝ) : EReal)) = Ideal.exp x := by
  have hl : (0 : ℝ) < (Real.log 2)⁻¹ := inv_pos.mpr (Real.log_pos (by norm_num))
  induction x using EReal.rec with
  | bot => rw [EReal.bot_mul_coe_of_pos hl]; rfl
  | top => rw [EReal.top_mul_coe_of_pos hl]; rfl
  | coe x =>
    rw [← EReal.coe_mul]
    show (((2 : ℝ) ^ (x * (Real.log 2)⁻¹) : ℝ) : EReal) = ((Real.exp x : ℝ) : EReal)
    congr 1
    rw [Real.rpow_def_of_pos (by norm_num)]
    congr 1
    field_simp

/-- The kernel's probability is the reference's. -/
theorem exp2_scaled (s a y : EReal) :
    Ideal.exp2 (s * (a * (((Real.log 2)⁻¹ : ℝ) : EReal)) - y * (((Real.log 2)⁻¹ : ℝ) : EReal)) = Ideal.exp (s * a - y) := by
  have hl : (0 : ℝ) < (Real.log 2)⁻¹ := inv_pos.mpr (Real.log_pos (by norm_num))
  rw [← mul_assoc, ← sub_mul_pos _ _ _ hl, exp2_mul]

/-- The word compare of two small coordinates is their order. -/
theorem le_words (a b : ℕ) (ha : a < 2048) (hb : b < 2048) :
    IntOp.cmpi .sle (BitVec.ofNat 32 a) (BitVec.ofNat 32 b) = if a ≤ b then 1#1 else 0#1 := by
  have h1 : (BitVec.ofNat 32 a).toInt = (a : ℤ) := by
    rw [BitVec.toInt_eq_toNat_of_lt] <;> simp <;> omega
  have h2 : (BitVec.ofNat 32 b).toInt = (b : ℤ) := by
    rw [BitVec.toInt_eq_toNat_of_lt] <;> simp <;> omega
  by_cases h : a ≤ b
  · simp [IntOp.cmpi, BitVec.sle, h1, h2, h]
  · simp [IntOp.cmpi, BitVec.sle, h1, h2, h]

/-- Minus infinity's word. -/
theorem ofBits_ninf : Ideal.ofBits .f32 0xFF800000#32 = ⊥ := by simp [Ideal.ofBits, Ideal.ieee]

/-- The exponential of minus infinity less anything is zero. -/
theorem exp_bot_sub (y : EReal) : Ideal.exp (⊥ - y) = 0 := by
  rw [sub_eq_add_neg, EReal.bot_add]; rfl

end Cert.Spec

end
-- ==== Proof.HostKI.lean ====
/- The arrays the kernel's region reads, by coordinates of the program's arguments, and the blocks of them a grid point sees. -/
module

public import proofs.«01_k».proof.Proof.FrameKI
public import proofs.«01_k».proof.Proof.Spec
public import Idealize.ShloMosaic.Lib.Pointwise
public import Idealize.ShloMosaic.Lib.StableHlo.Run
public import Idealize.ShloMosaic.Lib.Pipeline.ValueKit.Geometry

@[expose] public section

set_option maxRecDepth 16384
set_option maxHeartbeats 1000000

noncomputable section

namespace Cert.KernelIdeal.Gen

open Idealize.ShloMosaic Idealize.ShloMosaic.TcCoe Idealize.ShloMosaic.Tactic
open Idealize.SL Idealize.SL.Sem
open Idealize.ShloMosaic.StableHlo
open VecWindow (window put)

variable (m : (ℓ : Loc nD τ sig) → Buf (Elt Ideal) ℓ)

/-! ## The arrays -/

theorem V_v0 (c : Dev nD) (b : Fin 6) (n : Fin 32) (r : Fin 2048) :
    V m c main_v0 (ix4 b n 0 r) = (m ((c : Thread nD τ).loc main_arg7)) (ix3 b n r) := by
  have e : V m c main_v0 = shapeCast S6x32x1x2048 (m ((c : Thread nD τ).loc main_arg7)) shapeCasts_S6x32x2048_S6x32x1x2048 := by
    unfold V V0; simp only [hostOps0, List.flatten_cons, List.flatten_nil, List.append_nil]; after_results
    try rfl
  rw [e]
  pointwise
theorem V_v2 (c : Dev nD) (b : Fin 6) (n : Fin 32) (r : Fin 2048) :
    V m c main_v2 (ix4 b n 0 r) = (m ((c : Thread nD τ).loc main_arg9)) (ix3 b r n) := by
  have e : V m c main_v2 = shapeCast S6x32x1x2048 (transpose S6x32x2048 [0, 2, 1] (m ((c : Thread nD τ).loc main_arg9)) transposes_S6x2048x32_S6x32x2048_0_2_1) shapeCasts_S6x32x2048_S6x32x1x2048 := by
    unfold V V0; simp only [hostOps0, List.flatten_cons, List.flatten_nil, List.append_nil]; after_results
    try rfl
  rw [e]
  pointwise
theorem V_v3 (c : Dev nD) (b : Fin 6) (n : Fin 32) (r : Fin 2048) (d : Fin 96) :
    V m c main_v3 (ix4 b n r d) = (m ((c : Thread nD τ).loc main_arg0)) (ix4 b r n d) := by
  have e : V m c main_v3 = transpose S6x32x2048x96 [0, 2, 1, 3] (m ((c : Thread nD τ).loc main_arg0)) transposes_S6x2048x32x96_S6x32x2048x96_0_2_1_3 := by
    unfold V V0; simp only [hostOps0, List.flatten_cons, List.flatten_nil, List.append_nil]; after_results
    try rfl
  rw [e]
  pointwise
theorem V_v4 (c : Dev nD) (b : Fin 6) (n : Fin 4) (r : Fin 2048) (d : Fin 96) :
    V m c main_v4 (ix4 b n r d) = (m ((c : Thread nD τ).loc main_arg2)) (ix4 b r n d) := by
  have e : V m c main_v4 = transpose S6x4x2048x96 [0, 2, 1, 3] (m ((c : Thread nD τ).loc main_arg2)) transposes_S6x2048x4x96_S6x4x2048x96_0_2_1_3 := by
    unfold V V0; simp only [hostOps0, List.flatten_cons, List.flatten_nil, List.append_nil]; after_results
    try rfl
  rw [e]
  pointwise
theorem V_v5 (c : Dev nD) (b : Fin 6) (n : Fin 4) (r : Fin 2048) (d : Fin 96) :
    V m c main_v5 (ix4 b n r d) = (m ((c : Thread nD τ).loc main_arg4)) (ix4 b r n d) := by
  have e : V m c main_v5 = transpose S6x4x2048x96 [0, 2, 1, 3] (m ((c : Thread nD τ).loc main_arg4)) transposes_S6x2048x4x96_S6x4x2048x96_0_2_1_3 := by
    unfold V V0; simp only [hostOps0, List.flatten_cons, List.flatten_nil, List.append_nil]; after_results
    try rfl
  rw [e]
  pointwise
theorem V_v6 (c : Dev nD) (b : Fin 6) (n : Fin 32) (r : Fin 2048) (d : Fin 96) :
    V m c main_v6 (ix4 b n r d) = (m ((c : Thread nD τ).loc main_arg6)) (ix4 b r n d) := by
  have e : V m c main_v6 = transpose S6x32x2048x96 [0, 2, 1, 3] (m ((c : Thread nD τ).loc main_arg6)) transposes_S6x2048x32x96_S6x32x2048x96_0_2_1_3 := by
    unfold V V0; simp only [hostOps0, List.flatten_cons, List.flatten_nil, List.append_nil]; after_results
    try rfl
  rw [e]
  pointwise
theorem V_v7 (c : Dev nD) (b : Fin 6) (n : Fin 32) (r : Fin 2048) (d : Fin 96) :
    V m c main_v7 (ix4 b n r d) = (m ((c : Thread nD τ).loc main_arg8)) (ix4 b r n d) := by
  have e : V m c main_v7 = transpose S6x32x2048x96 [0, 2, 1, 3] (m ((c : Thread nD τ).loc main_arg8)) transposes_S6x2048x32x96_S6x32x2048x96_0_2_1_3 := by
    unfold V V0; simp only [hostOps0, List.flatten_cons, List.flatten_nil, List.append_nil]; after_results
    try rfl
  rw [e]
  pointwise
/-! ## The grid's points and the blocks' places -/

/-- The batch, -/
def tb (t : Fin cfg0.N) : Fin 6 := ⟨t.val / 32, by have : t.val < 192 := t.isLt; omega⟩
/-- the key head, -/
def th (t : Fin cfg0.N) : Fin 4 := ⟨t.val / 8 % 4, by omega⟩
/-- the member of its group, -/
def tg (t : Fin cfg0.N) : Fin 8 := ⟨t.val % 8, by omega⟩
/-- and the query head of a grid point. -/
def tn (t : Fin cfg0.N) : Fin 32 := Spec.hd (th t) (tg t)

theorem e0 : ∀ t : Fin cfg0.N, win0_0.index t = ![0] := (by decide +kernel : ∀ t : Fin grid0.N, _)
theorem e1 : ∀ t : Fin cfg0.N, win0_1.index t = ![0] := (by decide +kernel : ∀ t : Fin grid0.N, _)
theorem e2 : ∀ t : Fin cfg0.N, win0_2.index t = ![0] := (by decide +kernel : ∀ t : Fin grid0.N, _)
theorem e3 : ∀ t : Fin cfg0.N, win0_3.index t = ![t.val / 32, t.val / 8 % 4 * 8 + t.val % 8, 0, 0] := (by decide +kernel : ∀ t : Fin grid0.N, _)
theorem e4 : ∀ t : Fin cfg0.N, win0_4.index t = ![t.val / 32, t.val / 8 % 4, 0, 0] := (by decide +kernel : ∀ t : Fin grid0.N, _)
theorem e5 : ∀ t : Fin cfg0.N, win0_5.index t = ![t.val / 32, t.val / 8 % 4, 0, 0] := (by decide +kernel : ∀ t : Fin grid0.N, _)
theorem e6 : ∀ t : Fin cfg0.N, win0_6.index t = ![t.val / 32, t.val / 8 % 4 * 8 + t.val % 8, 0, 0] := (by decide +kernel : ∀ t : Fin grid0.N, _)
theorem e7 : ∀ t : Fin cfg0.N, win0_7.index t = ![t.val / 32, t.val / 8 % 4 * 8 + t.val % 8, 0, 0] := (by decide +kernel : ∀ t : Fin grid0.N, _)
theorem e8 : ∀ t : Fin cfg0.N, win0_8.index t = ![t.val / 32, t.val / 8 % 4 * 8 + t.val % 8, 0, 0] := (by decide +kernel : ∀ t : Fin grid0.N, _)
theorem e9 : ∀ t : Fin cfg0.N, win0_9.index t = ![t.val / 32, t.val / 8 % 4 * 8 + t.val % 8, 0, 0] := (by decide +kernel : ∀ t : Fin grid0.N, _)
theorem e10 : ∀ t : Fin cfg0.N, win0_10.index t = ![t.val / 32, t.val / 8 % 4 * 8 + t.val % 8, 0, 0] := (by decide +kernel : ∀ t : Fin grid0.N, _)
theorem e11 : ∀ t : Fin cfg0.N, win0_11.index t = ![t.val / 32, t.val / 8 % 4, 0, 0] := (by decide +kernel : ∀ t : Fin grid0.N, _)
theorem e12 : ∀ t : Fin cfg0.N, win0_12.index t = ![t.val / 32, t.val / 8 % 4, 0, 0] := (by decide +kernel : ∀ t : Fin grid0.N, _)
theorem eoff1 : ∀ t : Fin cfg0.N, k0_off1 (grid0.coords t) = ![t.val / 8 % 4 * 8 + t.val % 8] := (by decide +kernel : ∀ t : Fin grid0.N, _)
theorem eoff2 : ∀ t : Fin cfg0.N, k0_off2 (grid0.coords t) = ![t.val / 8 % 4] := (by decide +kernel : ∀ t : Fin grid0.N, _)

/-! ## The blocks, by coordinates -/

theorem b3 (c : Dev nD) (t : Fin cfg0.N) (r : Fin 2048) (d : Fin 96) :
    iblk m c 3 t (ix4 0 0 r d) = (m ((c : Thread nD τ).loc main_arg0)) (ix4 (tb t) r (tn t) d) := by
  blk_simp [iblk]
  refine Eq.trans (congrArg (V m c main_v3) ?_) (V_v3 m c (tb t) (tn t) r d)
  blk_ext [e3, tb, th, tg, tn, Spec.hd]
theorem b4 (c : Dev nD) (t : Fin cfg0.N) (r : Fin 2048) (d : Fin 96) :
    iblk m c 4 t (ix4 0 0 r d) = (m ((c : Thread nD τ).loc main_arg2)) (ix4 (tb t) r (th t) d) := by
  blk_simp [iblk]
  refine Eq.trans (congrArg (V m c main_v4) ?_) (V_v4 m c (tb t) (th t) r d)
  blk_ext [e4, tb, th, tg, tn, Spec.hd]
theorem b5 (c : Dev nD) (t : Fin cfg0.N) (r : Fin 2048) (d : Fin 96) :
    iblk m c 5 t (ix4 0 0 r d) = (m ((c : Thread nD τ).loc main_arg4)) (ix4 (tb t) r (th t) d) := by
  blk_simp [iblk]
  refine Eq.trans (congrArg (V m c main_v5) ?_) (V_v5 m c (tb t) (th t) r d)
  blk_ext [e5, tb, th, tg, tn, Spec.hd]
theorem b6 (c : Dev nD) (t : Fin cfg0.N) (r : Fin 2048) (d : Fin 96) :
    iblk m c 6 t (ix4 0 0 r d) = (m ((c : Thread nD τ).loc main_arg6)) (ix4 (tb t) r (tn t) d) := by
  blk_simp [iblk]
  refine Eq.trans (congrArg (V m c main_v6) ?_) (V_v6 m c (tb t) (tn t) r d)
  blk_ext [e6, tb, th, tg, tn, Spec.hd]
theorem b7 (c : Dev nD) (t : Fin cfg0.N) (r : Fin 2048) (d : Fin 96) :
    iblk m c 7 t (ix4 0 0 r d) = (m ((c : Thread nD τ).loc main_arg8)) (ix4 (tb t) r (tn t) d) := by
  blk_simp [iblk]
  refine Eq.trans (congrArg (V m c main_v7) ?_) (V_v7 m c (tb t) (tn t) r d)
  blk_ext [e7, tb, th, tg, tn, Spec.hd]
theorem b8 (c : Dev nD) (t : Fin cfg0.N) (r : Fin 2048) :
    iblk m c 8 t (ix4 0 0 0 r) = (m ((c : Thread nD τ).loc main_arg7)) (ix3 (tb t) (tn t) r) := by
  blk_simp [iblk]
  refine Eq.trans (congrArg (V m c main_v0) ?_) (V_v0 m c (tb t) (tn t) r)
  blk_ext [e8, tb, th, tg, tn, Spec.hd]
theorem b9 (c : Dev nD) (t : Fin cfg0.N) (r : Fin 2048) :
    iblk m c 9 t (ix4 0 0 0 r) = (m ((c : Thread nD τ).loc main_arg9)) (ix3 (tb t) r (tn t)) := by
  blk_simp [iblk]
  refine Eq.trans (congrArg (V m c main_v2) ?_) (V_v2 m c (tb t) (tn t) r)
  blk_ext [e9, tb, th, tg, tn, Spec.hd]
theorem b0 (c : Dev nD) (t : Fin cfg0.N) (y : Fin 32) :
    iblk m c 0 t (ix1 y) = (m ((c : Thread nD τ).loc main_arg1)) (ix1 y) := by
  blk_simp [iblk]
  rw [V_main_arg1]
  congr 1
  blk_ext [e0]
theorem b1 (c : Dev nD) (t : Fin cfg0.N) (y : Fin 4) :
    iblk m c 1 t (ix1 y) = (m ((c : Thread nD τ).loc main_arg3)) (ix1 y) := by
  blk_simp [iblk]
  rw [V_main_arg3]
  congr 1
  blk_ext [e1]
theorem b2 (c : Dev nD) (t : Fin cfg0.N) (y : Fin 4) :
    iblk m c 2 t (ix1 y) = (m ((c : Thread nD τ).loc main_arg5)) (ix1 y) := by
  blk_simp [iblk]
  rw [V_main_arg5]
  congr 1
  blk_ext [e2]
theorem wQ (c : Dev nD) (t : Fin cfg0.N) : wordQ (grid0.coords t) (iblk m c 0 t) = (m ((c : Thread nD τ).loc main_arg1)) (ix1 (tn t)) := by
  rw [← b0 m c t (tn t)]
  unfold wordQ window
  congr 1
  funext a
  apply Fin.ext
  have e := congrFun (eoff1 t) a
  fin_cases a
  simp only [tn, th, tg, Spec.hd] at *
  show k0_off1 (grid0.coords t) 0 + 1 * 0 = _
  rw [eoff1]; rfl
theorem wK1 (c : Dev nD) (t : Fin cfg0.N) : wordK (grid0.coords t) (iblk m c 1 t) = (m ((c : Thread nD τ).loc main_arg3)) (ix1 (th t)) := by
  rw [← b1 m c t (th t)]
  unfold wordK window
  congr 1
  funext a
  apply Fin.ext
  fin_cases a
  show k0_off2 (grid0.coords t) 0 + 1 * 0 = _
  rw [eoff2]; rfl
theorem wK2 (c : Dev nD) (t : Fin cfg0.N) : wordK (grid0.coords t) (iblk m c 2 t) = (m ((c : Thread nD τ).loc main_arg5)) (ix1 (th t)) := by
  rw [← b2 m c t (th t)]
  unfold wordK window
  congr 1
  funext a
  apply Fin.ext
  fin_cases a
  show k0_off2 (grid0.coords t) 0 + 1 * 0 = _
  rw [eoff2]; rfl

end Cert.KernelIdeal.Gen
end
-- ==== Proof.PayKI.lean ====
/- What the kernel's straight-line pieces compute, read at an index, at the exact instance: the scores, the probabilities, the
   score gradients and the three products they feed. -/
module

public import proofs.«01_k».proof.Proof.StepKI
public import Idealize.ShloMosaic.Lib.Pointwise

@[expose] public section

set_option maxRecDepth 16384
set_option maxHeartbeats 1000000

noncomputable section

namespace Cert.KernelIdeal.Gen

open Idealize.ShloMosaic

/-- The folded constant's value: one over the natural logarithm of two. -/
def LL : EReal := (((Real.log 2)⁻¹ : ℝ) : EReal)

/-- The named constant is that value. -/
theorem named_LL (b : BitVec 32) : Named.named (F := Ideal) (φ := .f32) κ "log2e" b = LL :=
  IdealRules.named_const.ideal_named_scalar _ _ _ _ rfl

/-- The word compare of two small coordinates is their order. -/
theorem le_words (a b : ℕ) (ha : a < 512) (hb : b < 512) :
    IntOp.cmpi .sle (BitVec.ofNat 32 a) (BitVec.ofNat 32 b) = if a ≤ b then 1#1 else 0#1 := by
  have h1 : (BitVec.ofNat 32 a).toInt = (a : ℤ) := by
    rw [BitVec.toInt_eq_toNat_of_lt] <;> simp <;> omega
  have h2 : (BitVec.ofNat 32 b).toInt = (b : ℤ) := by
    rw [BitVec.toInt_eq_toNat_of_lt] <;> simp <;> omega
  by_cases h : a ≤ b
  · simp [IntOp.cmpi, BitVec.sle, h1, h2, h]
  · simp [IntOp.cmpi, BitVec.sle, h1, h2, h]

/-- Minus infinity's word. -/
theorem ofBits_ninf : Ideal.ofBits .f32 0xFF800000#32 = ⊥ := by simp [Ideal.ofBits, Ideal.ieee]

/-- A probability below the diagonal. -/
theorem pay12_apply (v9 : Ideal .f32) (q k : Vec Ideal S1x1x512x96 .fp8e4m3) (ls : Vec Ideal S512x128 .f32) (LS : Fin 512 → EReal)
    (h : ∀ r l, ls (ix2 r l) = LS r) (r c : Fin 512) :
    k0_pay12 v9 q k ls (ix2 r c)
      = Ideal.exp2 ((∑ d : Fin 96, q (ix4 0 0 r d) * k (ix4 0 0 c d)) * (v9 * LL) - LS r) := by
  pointwise [k0_pay12]
  simp only [h, dite_eq_ite, ite_self, named_LL]
  rfl

/-- A score gradient below the diagonal. -/
theorem pay13_apply (v9 : Ideal .f32) (q k v : Vec Ideal S1x1x512x96 .fp8e4m3) (g : Vec Ideal S1x1x512x96 .fp8e5m2)
    (ls ds de : Vec Ideal S512x128 .f32) (LS DS DE : Fin 512 → EReal)
    (h : ∀ r l, ls (ix2 r l) = LS r) (h1 : ∀ r l, ds (ix2 r l) = DS r) (h2 : ∀ r l, de (ix2 r l) = DE r) (r c : Fin 512) :
    k0_pay13 v9 q k ls g v ds de (ix2 r c)
      = Ideal.exp2 ((∑ d : Fin 96, q (ix4 0 0 r d) * k (ix4 0 0 c d)) * (v9 * LL) - LS r)
        * ((∑ d : Fin 96, g (ix4 0 0 r d) * v (ix4 0 0 c d)) * DS r - DE r) := by
  rw [← pay12_apply v9 q k ls LS h r c]
  pointwise [k0_pay13]
  simp only [h1, h2, dite_eq_ite, ite_self]

/-- A probability of a diagonal tile: nothing above the diagonal. -/
theorem pay16_apply (v9 : Ideal .f32) (q k : Vec Ideal S1x1x512x96 .fp8e4m3) (ls : Vec Ideal S512x128 .f32) (LS : Fin 512 → EReal)
    (h : ∀ r l, ls (ix2 r l) = LS r) (r c : Fin 512) :
    k0_pay16 v9 q k ls (ix2 r c)
      = if c.val ≤ r.val then Ideal.exp2 ((∑ d : Fin 96, q (ix4 0 0 r d) * k (ix4 0 0 c d)) * (v9 * LL) - LS r) else 0 := by
  pointwise [k0_pay16]
  simp only [h, dite_eq_ite, ite_self, named_LL]
  rw [le_words _ _ c.isLt r.isLt]
  by_cases hc : c.val ≤ r.val
  · simp only [hc, if_true]; rfl
  · simp only [hc, if_false, ofBits_ninf]; rfl

/-- A score gradient of a diagonal tile. -/
theorem pay19_apply (p : FVec Ideal S512x512 .f32) (g : Vec Ideal S1x1x512x96 .fp8e5m2) (v : Vec Ideal S1x1x512x96 .fp8e4m3)
    (ds de : Vec Ideal S512x128 .f32) (DS DE : Fin 512 → EReal)
    (h1 : ∀ r l, ds (ix2 r l) = DS r) (h2 : ∀ r l, de (ix2 r l) = DE r) (r c : Fin 512) :
    k0_pay19 p (k0_pay17 g v ds) (k0_pay18 de) (ix2 r c)
      = p (ix2 r c) * ((∑ d : Fin 96, g (ix4 0 0 r d) * v (ix4 0 0 c d)) * DS r - DE r) := by
  pointwise [k0_pay19, k0_pay17, k0_pay18]
  simp only [h1, h2, dite_eq_ite, ite_self]

/-- The value gradient's tile product, added. -/
theorem pay3_apply (p : FVec Ideal S512x512 .f32) (x : Vec Ideal S512x96 .f32) (w : Vec Ideal S512x96 .bf16) (c : Fin 512) (d : Fin 96) :
    k0_pay3 p x w (ix2 c d) = x (ix2 c d) + ∑ r : Fin 512, p (ix2 r c) * w (ix2 r d) := by
  pointwise [k0_pay3]

/-- The value gradient's tile product, added. -/
theorem pay20_apply (p : FVec Ideal S512x512 .f32) (x : Vec Ideal S512x96 .f32) (w : Vec Ideal S512x96 .bf16) (c : Fin 512) (d : Fin 96) :
    k0_pay20 p x w (ix2 c d) = x (ix2 c d) + ∑ r : Fin 512, p (ix2 r c) * w (ix2 r d) := by
  pointwise [k0_pay20]

/-- The key gradient's tile product, added. -/
theorem pay4_apply (p : FVec Ideal S512x512 .bf16) (x : Vec Ideal S512x96 .f32) (w : Vec Ideal S512x96 .bf16) (c : Fin 512) (d : Fin 96) :
    k0_pay4 p x w (ix2 c d) = x (ix2 c d) + ∑ r : Fin 512, p (ix2 r c) * w (ix2 r d) := by
  pointwise [k0_pay4]

/-- The query gradient's tile product, added. -/
theorem pay5_apply (p : FVec Ideal S512x512 .bf16) (x : Vec Ideal S512x96 .f32) (k : Vec Ideal S1x1x512x96 .fp8e4m3) (r : Fin 512) (d : Fin 96) :
    k0_pay5 p x k (ix2 r d) = x (ix2 r d) + ∑ c : Fin 512, p (ix2 r c) * k (ix4 0 0 c d) := by
  pointwise [k0_pay5]

/-- The key gradient's diagonal tile product, added. -/
theorem pay21_apply (p dp de : FVec Ideal S512x512 .f32) (x : Vec Ideal S512x96 .f32) (w : Vec Ideal S512x96 .bf16) (c : Fin 512) (d : Fin 96) :
    k0_pay21 p dp de x w (ix2 c d) = x (ix2 c d) + ∑ r : Fin 512, k0_pay19 p dp de (ix2 r c) * w (ix2 r d) := by
  pointwise [k0_pay21]

/-- The query gradient's diagonal tile product, added. -/
theorem pay22_apply (p dp de : FVec Ideal S512x512 .f32) (x : Vec Ideal S512x96 .f32) (k : Vec Ideal S1x1x512x96 .fp8e4m3) (r : Fin 512) (d : Fin 96) :
    k0_pay22 p dp de x k (ix2 r d) = x (ix2 r d) + ∑ c : Fin 512, k0_pay19 p dp de (ix2 r c) * k (ix4 0 0 c d) := by
  pointwise [k0_pay22]

/-- The spread, scaled log-sum-exp. -/
theorem pay24_apply (x : Vec Ideal S1x1x1x2048 .f32) (r : Fin 2048) (l : Fin 128) :
    k0_pay24 x (ix2 r l) = x (ix4 0 0 0 r) * LL := by
  pointwise [k0_pay24]
  rw [named_LL]

/-- The gradient scale as a column. -/
theorem pay25_apply (x : Vec Ideal S1x1x1x2048 .f32) (r : Fin 2048) (l : Fin 1) :
    k0_pay25 x (ix2 r l) = x (ix4 0 0 0 r) := by
  pointwise [k0_pay25]

/-- The spread gradient scale. -/
theorem pay26_apply (w : Elt Ideal .f32) (x : Vec Ideal S1x1x1x2048 .f32) (r : Fin 2048) (l : Fin 128) :
    k0_pay26 w x (ix2 r l) = x (ix4 0 0 0 r) * w := by
  pointwise [k0_pay26, k0_pay25]

/-- The spread row term. -/
theorem pay28_apply (x : Vec Ideal S1x1x1x2048 .f32) (g : Vec Ideal S1x1x2048x96 .fp8e5m2) (o : Vec Ideal S1x1x2048x96 .bf16) (r : Fin 2048) (l : Fin 128) :
    k0_pay28 (k0_pay25 x) g o (ix2 r l) = (∑ d : Fin 96, g (ix4 0 0 r d) * o (ix4 0 0 r d)) * x (ix4 0 0 0 r) := by
  pointwise [k0_pay28, k0_pay27, k0_pay25]

/-- The scaled queries. -/
theorem pay29_apply (w : Elt Ideal .f32) (q : Vec Ideal S1x1x2048x96 .fp8e4m3) (r : Fin 2048) (d : Fin 96) :
    k0_pay29 w q (ix2 r d) = q (ix4 0 0 r d) * w := by
  pointwise [k0_pay29]

/-- The scaled gradient. -/
theorem pay30_apply (x : Vec Ideal S1x1x1x2048 .f32) (g : Vec Ideal S1x1x2048x96 .fp8e5m2) (r : Fin 2048) (d : Fin 96) :
    k0_pay30 (k0_pay25 x) g (ix2 r d) = g (ix4 0 0 r d) * x (ix4 0 0 0 r) := by
  pointwise [k0_pay30, k0_pay27, k0_pay25]

/-- The three zero starts. -/
theorem pay31_apply (r : Fin 2048) (d : Fin 96) : k0_pay31 (F := Ideal) (ix2 r d) = 0 := by pointwise [k0_pay31]
theorem pay1_apply (r : Fin 2048) (d : Fin 96) : k0_pay1 (F := Ideal) (ix2 r d) = 0 := by pointwise [k0_pay1]
theorem pay2_apply (r : Fin 2048) (d : Fin 96) : k0_pay2 (F := Ideal) (ix2 r d) = 0 := by pointwise [k0_pay2]

/-- The literal both programs scale by. -/
def SM : EReal := Ideal.ofBits .f32 0x3DD105EC#32

/-- The stored query gradient. -/
theorem pay9_apply (w : Elt Ideal .f32) (x : Vec Ideal S2048x96 .f32) (r : Fin 2048) (d : Fin 96) :
    k0_pay9 w x (ix4 0 0 r d) = x (ix2 r d) * (w * SM) := by
  pointwise [k0_pay9]
  rfl

/-- The stored key gradient. -/
theorem pay10_apply (x : Vec Ideal S2048x96 .f32) (r : Fin 2048) (d : Fin 96) :
    k0_pay10 x (ix4 0 0 r d) = x (ix2 r d) * SM := by
  pointwise [k0_pay10]
  rfl

/-- The stored value gradient. -/
theorem pay11_apply (x : Vec Ideal S2048x96 .f32) (r : Fin 2048) (d : Fin 96) :
    k0_pay11 x (ix4 0 0 r d) = x (ix2 r d) := by
  pointwise [k0_pay11]

end Cert.KernelIdeal.Gen
end
-- ==== Proof.SumKI.lean ====
/- The loops' sums at the exact instance: each tile adds its part to the three accumulators, the tiles above the diagonal would
   add nothing, so the whole loop adds the full sums over the sequence. -/
module

public import proofs.«01_k».proof.Proof.PayKI

@[expose] public section

set_option maxRecDepth 16384
set_option maxHeartbeats 1000000

noncomputable section

namespace Cert.KernelIdeal.Gen

open Idealize.ShloMosaic
open VecWindow (window put)

/-- The loops' operands with the spread ones as functions of the row alone. -/
structure Row (o : Ops Ideal) where
  /-- log-sum-exp, scaled -/
  ls : Fin 2048 → EReal
  /-- row term -/
  de : Fin 2048 → EReal
  /-- gradient scale -/
  ds : Fin 2048 → EReal
  hls : ∀ r l, o.ls (ix2 r l) = ls r
  hde : ∀ r l, o.de (ix2 r l) = de r
  hds : ∀ r l, o.ds (ix2 r l) = ds r

variable {o : Ops Ideal} (w : Row o)

/-- The probability of row `r`, column `c`, before masking. -/
def prob (r c : Fin 2048) : EReal :=
  Ideal.exp2 ((∑ d : Fin 96, o.q (ix4 0 0 r d) * o.k (ix4 0 0 c d)) * (o.sc * LL) - w.ls r)

/-- The probability, zero above the diagonal. -/
def probM (r c : Fin 2048) : EReal := if c.val ≤ r.val then prob w r c else 0

/-- The score gradient, zero above the diagonal. -/
def gradM (r c : Fin 2048) : EReal :=
  probM w r c * ((∑ d : Fin 96, o.g (ix4 0 0 r d) * o.v (ix4 0 0 c d)) * w.ds r - w.de r)

/-- Row `x` of tile `i`. -/
def at512 (i : ℕ) (hi : i < 4) (x : Fin 512) : Fin 2048 := ⟨512 * i + x.val, by omega⟩

/-- Key tile `j`'s part of the query gradient. -/
def TA (j : ℕ) (r : Fin 2048) (d : Fin 96) : EReal :=
  if hj : j < 4 then ∑ x : Fin 512, gradM w r (at512 j hj x) * o.k (ix4 0 0 (at512 j hj x) d) else 0

/-- Query tile `i`'s part of the key gradient. -/
def TB (i : ℕ) (c : Fin 2048) (d : Fin 96) : EReal :=
  if hi : i < 4 then ∑ x : Fin 512, gradM w (at512 i hi x) c * o.qw (ix2 (at512 i hi x) d) else 0

/-- Query tile `i`'s part of the value gradient. -/
def TC (i : ℕ) (c : Fin 2048) (d : Fin 96) : EReal :=
  if hi : i < 4 then ∑ x : Fin 512, probM w (at512 i hi x) c * o.dw (ix2 (at512 i hi x) d) else 0

theorem TA_zero (j : ℕ) (r : Fin 2048) (d : Fin 96) (h : r.val < 512 * j) : TA w j r d = 0 := by
  unfold TA
  split
  · refine Finset.sum_eq_zero fun x _ => ?_
    have : ¬ (at512 j ‹_› x).val ≤ r.val := by simp only [at512]; omega
    simp only [gradM, probM, this, if_false, zero_mul]
  · rfl

theorem TB_zero (i : ℕ) (c : Fin 2048) (d : Fin 96) (h : 512 * (i + 1) ≤ c.val) : TB w i c d = 0 := by
  unfold TB
  split
  · refine Finset.sum_eq_zero fun x _ => ?_
    have : ¬ c.val ≤ (at512 i ‹_› x).val := by simp only [at512]; omega
    simp only [gradM, probM, this, if_false, zero_mul]
  · rfl

theorem TC_zero (i : ℕ) (c : Fin 2048) (d : Fin 96) (h : 512 * (i + 1) ≤ c.val) : TC w i c d = 0 := by
  unfold TC
  split
  · refine Finset.sum_eq_zero fun x _ => ?_
    have : ¬ c.val ≤ (at512 i ‹_› x).val := by simp only [at512]; omega
    simp only [probM, this, if_false, zero_mul]
  · rfl

/-- A sum over the sequence is the sum of its four tiles. -/
theorem sum_tiles (f : Fin 2048 → EReal) :
    ∑ r, f r = ∑ i ∈ Finset.range 4, if hi : i < 4 then ∑ x : Fin 512, f (at512 i hi x) else 0 := by
  have e := (Fintype.sum_equiv (finProdFinEquiv (m := 4) (n := 512)) (fun p => f (finProdFinEquiv p)) f (fun _ => rfl)).symm
  rw [e, Fintype.sum_prod_type, Finset.sum_range]
  refine Finset.sum_congr rfl fun i _ => ?_
  rw [dif_pos i.isLt]
  refine Finset.sum_congr rfl fun x _ => congrArg f (Fin.ext ?_)
  simp [finProdFinEquiv, at512]; omega

/-- Reading a window of rows of a four-axis block. -/
theorem win4 {e : EltTy} (x : Vec Ideal S1x1x2048x96 e) (off : Fin 4 → ℕ) (inb : ∀ a, off a + S1x1x512x96.size a ≤ S1x1x2048x96.size a)
    (i : ℕ) (hi : i < 4) (h : off = ![0, 0, 512 * i, 0]) (r : Fin 512) (d : Fin 96) :
    window x off S1x1x512x96.size inb (ix4 0 0 r d) = x (ix4 0 0 (at512 i hi r) d) := by
  subst h
  refine congrArg x (funext fun a => Fin.ext ?_)
  fin_cases a
  · rfl
  · rfl
  · show 512 * i + 1 * r.val = 512 * i + r.val; omega
  · show 0 + 1 * d.val = d.val; omega

/-- Reading a window of rows of a two-axis block. -/
theorem win96 {e : EltTy} (x : Vec Ideal S2048x96 e) (off : Fin 2 → ℕ) (inb : ∀ a, off a + S512x96.size a ≤ S2048x96.size a)
    (i : ℕ) (hi : i < 4) (h : off = ![512 * i, 0]) (r : Fin 512) (d : Fin 96) :
    window x off S512x96.size inb (ix2 r d) = x (ix2 (at512 i hi r) d) := by
  subst h
  refine congrArg x (funext fun a => Fin.ext ?_)
  fin_cases a
  · show 512 * i + 1 * r.val = 512 * i + r.val; omega
  · show 0 + 1 * d.val = d.val; omega

/-- Reading a window of rows of a spread column. -/
theorem win128 {e : EltTy} (x : Vec Ideal S2048x128 e) (off : Fin 2 → ℕ) (inb : ∀ a, off a + S512x128.size a ≤ S2048x128.size a)
    (i : ℕ) (hi : i < 4) (h : off = ![512 * i, 0]) (r : Fin 512) (d : Fin 128) :
    window x off S512x128.size inb (ix2 r d) = x (ix2 (at512 i hi r) d) := by
  subst h
  refine congrArg x (funext fun a => Fin.ext ?_)
  fin_cases a
  · show 512 * i + 1 * r.val = 512 * i + r.val; omega
  · show 0 + 1 * d.val = d.val; omega

/-- Writing a window of rows. -/
theorem put96 (x : Vec Ideal S2048x96 .f32) (y : Vec Ideal S512x96 .f32) (off : Fin 2 → ℕ) (i : ℕ) (hi : i < 4)
    (h : off = ![512 * i, 0]) (r : Fin 2048) (d : Fin 96) :
    put x off S512x96.size y (ix2 r d)
      = if hr : 512 * i ≤ r.val ∧ r.val < 512 * i + 512 then y (ix2 ⟨r.val - 512 * i, by omega⟩ d) else x (ix2 r d) := by
  subst h
  unfold put
  by_cases hr : 512 * i ≤ r.val ∧ r.val < 512 * i + 512
  · have h1 : ∀ a : Fin 2, (![512 * i, 0] : Fin 2 → ℕ) a ≤ ((ix2 r d : S2048x96.Idx) a).val ∧ ((ix2 r d : S2048x96.Idx) a).val < (![512 * i, 0] : Fin 2 → ℕ) a + S512x96.size a := by
      intro a
      fin_cases a
      · exact hr
      · exact ⟨Nat.zero_le _, by show d.val < 0 + 96; omega⟩
    rw [dif_pos hr]
    refine (dif_pos h1).trans (congrArg y (funext fun a => Fin.ext ?_))
    fin_cases a <;> rfl
  · rw [dif_neg hr]
    exact dif_neg fun h1 => hr (h1 0)

/-- There are at most four trips of the outer loop, and three minus its index of the inner. -/
theorem trips1 : k0_t1_loop.trips = 4 := by decide +kernel
theorem trips2 : ∀ j : Fin k0_t1_loop.trips, (k0_t2_loop j).trips = 3 - j.val := by decide +kernel

/-- The probability tile below the diagonal. -/
theorem p2_eq (j : Fin k0_t1_loop.trips) (k : Fin (k0_t2_loop j).trips) (hj : j.val < 4) (hi : j.val + 1 + k.val < 4) (r c : Fin 512) :
    k0_pay12 o.sc (window o.q (k0_off6 j k) S1x1x512x96.size (k0_off6_inb j k)) (window o.k (k0_off7 j) S1x1x512x96.size (k0_off7_inb j))
        (window o.ls (k0_off8 j k) S512x128.size (k0_off8_inb j k)) (ix2 r c)
      = probM w (at512 (j.val + 1 + k.val) hi r) (at512 j.val hj c) := by
  have e6 : k0_off6 j k = ![0, 0, 512 * (j.val + 1 + k.val), 0] := by rw [k0_off6_eq]; congr 3; omega
  have e8 : k0_off8 j k = ![512 * (j.val + 1 + k.val), 0] := by rw [k0_off8_eq]; congr 1; omega
  rw [pay12_apply _ _ _ _ (fun r => w.ls (at512 (j.val + 1 + k.val) hi r))
    (fun r l => by rw [win128 _ _ _ _ hi e8]; exact w.hls _ _)]
  have hc : (at512 j.val hj c).val ≤ (at512 (j.val + 1 + k.val) hi r).val := by simp only [at512]; omega
  simp only [win4 _ _ _ _ hi e6, win4 _ _ _ _ hj (k0_off7_eq j), probM, hc, if_true, prob]

/-- The score gradient tile below the diagonal. -/
theorem d2_eq (j : Fin k0_t1_loop.trips) (k : Fin (k0_t2_loop j).trips) (hj : j.val < 4) (hi : j.val + 1 + k.val < 4) (r c : Fin 512) :
    k0_pay13 o.sc (window o.q (k0_off6 j k) S1x1x512x96.size (k0_off6_inb j k)) (window o.k (k0_off7 j) S1x1x512x96.size (k0_off7_inb j))
        (window o.ls (k0_off8 j k) S512x128.size (k0_off8_inb j k)) (window o.g (k0_off6 j k) S1x1x512x96.size (k0_off6_inb j k))
        (window o.v (k0_off7 j) S1x1x512x96.size (k0_off7_inb j)) (window o.ds (k0_off8 j k) S512x128.size (k0_off8_inb j k))
        (window o.de (k0_off8 j k) S512x128.size (k0_off8_inb j k)) (ix2 r c)
      = gradM w (at512 (j.val + 1 + k.val) hi r) (at512 j.val hj c) := by
  have e6 : k0_off6 j k = ![0, 0, 512 * (j.val + 1 + k.val), 0] := by rw [k0_off6_eq]; congr 3; omega
  have e8 : k0_off8 j k = ![512 * (j.val + 1 + k.val), 0] := by rw [k0_off8_eq]; congr 1; omega
  rw [pay13_apply _ _ _ _ _ _ _ _ (fun r => w.ls (at512 (j.val + 1 + k.val) hi r)) (fun r => w.ds (at512 (j.val + 1 + k.val) hi r))
    (fun r => w.de (at512 (j.val + 1 + k.val) hi r))
    (fun r l => by rw [win128 _ _ _ _ hi e8]; exact w.hls _ _) (fun r l => by rw [win128 _ _ _ _ hi e8]; exact w.hds _ _)
    (fun r l => by rw [win128 _ _ _ _ hi e8]; exact w.hde _ _)]
  have hc : (at512 j.val hj c).val ≤ (at512 (j.val + 1 + k.val) hi r).val := by simp only [at512]; omega
  simp only [win4 _ _ _ _ hi e6, win4 _ _ _ _ hj (k0_off7_eq j), gradM, probM, hc, if_true, prob]

/-- The probability tile on the diagonal. -/
theorem p1_eq (j : Fin k0_t1_loop.trips) (hj : j.val < 4) (r c : Fin 512) :
    k0_pay16 o.sc (window o.q (k0_off3 j) S1x1x512x96.size (k0_off3_inb j)) (window o.k (k0_off3 j) S1x1x512x96.size (k0_off3_inb j))
        (window o.ls (k0_off4 j) S512x128.size (k0_off4_inb j)) (ix2 r c)
      = probM w (at512 j.val hj r) (at512 j.val hj c) := by
  rw [pay16_apply _ _ _ _ (fun r => w.ls (at512 j.val hj r)) (fun r l => by rw [win128 _ _ _ _ hj (k0_off4_eq j)]; exact w.hls _ _)]
  have hc : ((at512 j.val hj c).val ≤ (at512 j.val hj r).val) = (c.val ≤ r.val) := by simp only [at512]; exact propext ⟨fun _ => by omega, fun _ => by omega⟩
  simp only [win4 _ _ _ _ hj (k0_off3_eq j), probM, hc, prob]

/-- The score gradient tile on the diagonal. -/
theorem d1_eq (j : Fin k0_t1_loop.trips) (hj : j.val < 4) (r c : Fin 512) :
    k0_pay19 (k0_pay16 o.sc (window o.q (k0_off3 j) S1x1x512x96.size (k0_off3_inb j)) (window o.k (k0_off3 j) S1x1x512x96.size (k0_off3_inb j))
        (window o.ls (k0_off4 j) S512x128.size (k0_off4_inb j)))
        (k0_pay17 (window o.g (k0_off3 j) S1x1x512x96.size (k0_off3_inb j)) (window o.v (k0_off3 j) S1x1x512x96.size (k0_off3_inb j))
          (window o.ds (k0_off4 j) S512x128.size (k0_off4_inb j)))
        (k0_pay18 (window o.de (k0_off4 j) S512x128.size (k0_off4_inb j))) (ix2 r c)
      = gradM w (at512 j.val hj r) (at512 j.val hj c) := by
  rw [pay19_apply _ _ _ _ _ (fun r => w.ds (at512 j.val hj r)) (fun r => w.de (at512 j.val hj r))
    (fun r l => by rw [win128 _ _ _ _ hj (k0_off4_eq j)]; exact w.hds _ _) (fun r l => by rw [win128 _ _ _ _ hj (k0_off4_eq j)]; exact w.hde _ _),
    p1_eq w j hj]
  simp only [win4 _ _ _ _ hj (k0_off3_eq j), gradM]

/-- Row `r` of tile `i`, from its place in the tile. -/
theorem at512_sub (i : ℕ) (hi : i < 4) (r : Fin 2048) (hr : 512 * i ≤ r.val ∧ r.val < 512 * i + 512) :
    at512 i hi ⟨r.val - 512 * i, by omega⟩ = r := Fin.ext (by simp only [at512]; omega)

/-- What one diagonal tile does to the query gradient. -/
theorem step1_a (j : Fin k0_t1_loop.trips) (s : Acc Ideal) (r : Fin 2048) (d : Fin 96) :
    (step1 o j s).a (ix2 r d) = if 512 * (j.val) ≤ r.val ∧ r.val < 512 * (j.val) + 512 then s.a (ix2 r d) + TA w j.val r d else s.a (ix2 r d) := by
  have hj : j.val < 4 := Nat.lt_of_lt_of_eq j.isLt trips1
  unfold step1
  dsimp only
  rw [put96 _ _ _ (j.val) hj (k0_off5_eq j)]
  by_cases hr : 512 * (j.val) ≤ r.val ∧ r.val < 512 * (j.val) + 512
  · rw [dif_pos hr, if_pos hr, pay22_apply, win96 _ _ _ _ hj (k0_off5_eq j), at512_sub _ hj r hr]
    unfold TA
    rw [dif_pos hj]
    refine congrArg _ (Finset.sum_congr rfl fun x _ => ?_)
    rw [d1_eq w j hj, win4 _ _ _ _ hj (k0_off3_eq j), at512_sub _ hj r hr]
  · rw [dif_neg hr, if_neg hr]

/-- What one diagonal tile does to the key gradient. -/
theorem step1_b (j : Fin k0_t1_loop.trips) (s : Acc Ideal) (r : Fin 2048) (d : Fin 96) :
    (step1 o j s).b (ix2 r d) = if 512 * (j.val) ≤ r.val ∧ r.val < 512 * (j.val) + 512 then s.b (ix2 r d) + TB w (j.val) r d else s.b (ix2 r d) := by
  have hj : j.val < 4 := Nat.lt_of_lt_of_eq j.isLt trips1
  unfold step1
  dsimp only
  rw [put96 _ _ _ (j.val) hj (k0_off5_eq j)]
  by_cases hr : 512 * (j.val) ≤ r.val ∧ r.val < 512 * (j.val) + 512
  · rw [dif_pos hr, if_pos hr, pay21_apply, win96 _ _ _ _ hj (k0_off5_eq j), at512_sub _ hj r hr]
    unfold TB
    rw [dif_pos hj]
    refine congrArg _ (Finset.sum_congr rfl fun x _ => ?_)
    rw [d1_eq w j hj, win96 _ _ _ _ hj (k0_off5_eq j), at512_sub _ hj r hr]
  · rw [dif_neg hr, if_neg hr]

/-- What one diagonal tile does to the value gradient. -/
theorem step1_c (j : Fin k0_t1_loop.trips) (s : Acc Ideal) (r : Fin 2048) (d : Fin 96) :
    (step1 o j s).c (ix2 r d) = if 512 * (j.val) ≤ r.val ∧ r.val < 512 * (j.val) + 512 then s.c (ix2 r d) + TC w (j.val) r d else s.c (ix2 r d) := by
  have hj : j.val < 4 := Nat.lt_of_lt_of_eq j.isLt trips1
  unfold step1
  dsimp only
  rw [put96 _ _ _ (j.val) hj (k0_off5_eq j)]
  by_cases hr : 512 * (j.val) ≤ r.val ∧ r.val < 512 * (j.val) + 512
  · rw [dif_pos hr, if_pos hr, pay20_apply, win96 _ _ _ _ hj (k0_off5_eq j), at512_sub _ hj r hr]
    unfold TC
    rw [dif_pos hj]
    refine congrArg _ (Finset.sum_congr rfl fun x _ => ?_)
    rw [p1_eq w j hj, win96 _ _ _ _ hj (k0_off5_eq j), at512_sub _ hj r hr]
  · rw [dif_neg hr, if_neg hr]

/-- What one lower tile does to the query gradient. -/
theorem step2_a (j : Fin k0_t1_loop.trips) (k : Fin (k0_t2_loop j).trips) (s : Acc Ideal) (r : Fin 2048) (d : Fin 96) :
    (step2 o j k s).a (ix2 r d) = if 512 * (j.val + 1 + k.val) ≤ r.val ∧ r.val < 512 * (j.val + 1 + k.val) + 512 then s.a (ix2 r d) + TA w j.val r d else s.a (ix2 r d) := by
  have hj : j.val < 4 := Nat.lt_of_lt_of_eq j.isLt trips1
  have hi : j.val + 1 + k.val < 4 := by have := Nat.lt_of_lt_of_eq k.isLt (trips2 j); omega
  have e10 : k0_off10 j k = ![512 * (j.val + 1 + k.val), 0] := by rw [k0_off10_eq]; congr 1; omega
  unfold step2
  dsimp only
  rw [put96 _ _ _ (j.val + 1 + k.val) hi e10]
  by_cases hr : 512 * (j.val + 1 + k.val) ≤ r.val ∧ r.val < 512 * (j.val + 1 + k.val) + 512
  · rw [dif_pos hr, if_pos hr, pay5_apply, win96 _ _ _ _ hi e10, at512_sub _ hi r hr]
    unfold TA
    rw [dif_pos hj]
    refine congrArg _ (Finset.sum_congr rfl fun x _ => ?_)
    rw [d2_eq w j k hj hi, win4 _ _ _ _ hj (k0_off7_eq j), at512_sub _ hi r hr]
  · rw [dif_neg hr, if_neg hr]

/-- What one lower tile does to the key gradient. -/
theorem step2_b (j : Fin k0_t1_loop.trips) (k : Fin (k0_t2_loop j).trips) (s : Acc Ideal) (r : Fin 2048) (d : Fin 96) :
    (step2 o j k s).b (ix2 r d) = if 512 * (j.val) ≤ r.val ∧ r.val < 512 * (j.val) + 512 then s.b (ix2 r d) + TB w (j.val + 1 + k.val) r d else s.b (ix2 r d) := by
  have hj : j.val < 4 := Nat.lt_of_lt_of_eq j.isLt trips1
  have hi : j.val + 1 + k.val < 4 := by have := Nat.lt_of_lt_of_eq k.isLt (trips2 j); omega
  have e10 : k0_off10 j k = ![512 * (j.val + 1 + k.val), 0] := by rw [k0_off10_eq]; congr 1; omega
  unfold step2
  dsimp only
  rw [put96 _ _ _ (j.val) hj (k0_off9_eq j)]
  by_cases hr : 512 * (j.val) ≤ r.val ∧ r.val < 512 * (j.val) + 512
  · rw [dif_pos hr, if_pos hr, pay4_apply, win96 _ _ _ _ hj (k0_off9_eq j), at512_sub _ hj r hr]
    unfold TB
    rw [dif_pos hi]
    refine congrArg _ (Finset.sum_congr rfl fun x _ => ?_)
    rw [d2_eq w j k hj hi, win96 _ _ _ _ hi e10, at512_sub _ hj r hr]
  · rw [dif_neg hr, if_neg hr]

/-- What one lower tile does to the value gradient. -/
theorem step2_c (j : Fin k0_t1_loop.trips) (k : Fin (k0_t2_loop j).trips) (s : Acc Ideal) (r : Fin 2048) (d : Fin 96) :
    (step2 o j k s).c (ix2 r d) = if 512 * (j.val) ≤ r.val ∧ r.val < 512 * (j.val) + 512 then s.c (ix2 r d) + TC w (j.val + 1 + k.val) r d else s.c (ix2 r d) := by
  have hj : j.val < 4 := Nat.lt_of_lt_of_eq j.isLt trips1
  have hi : j.val + 1 + k.val < 4 := by have := Nat.lt_of_lt_of_eq k.isLt (trips2 j); omega
  have e10 : k0_off10 j k = ![512 * (j.val + 1 + k.val), 0] := by rw [k0_off10_eq]; congr 1; omega
  unfold step2
  dsimp only
  rw [put96 _ _ _ (j.val) hj (k0_off9_eq j)]
  by_cases hr : 512 * (j.val) ≤ r.val ∧ r.val < 512 * (j.val) + 512
  · rw [dif_pos hr, if_pos hr, pay3_apply, win96 _ _ _ _ hj (k0_off9_eq j), at512_sub _ hj r hr]
    unfold TC
    rw [dif_pos hi]
    refine congrArg _ (Finset.sum_congr rfl fun x _ => ?_)
    rw [p2_eq w j k hj hi, win96 _ _ _ _ hi e10, at512_sub _ hj r hr]
  · rw [dif_neg hr, if_neg hr]

end Cert.KernelIdeal.Gen
end
-- ==== Proof.TotalKI.lean ====
/- The two loops' sums put together, at the exact instance: after the outer loop the query gradient has gained the whole sum over
   the keys, and the key and value gradients the whole sums over the queries. -/
module

public import proofs.«01_k».proof.Proof.SumKI

@[expose] public section

set_option maxRecDepth 16384
set_option maxHeartbeats 1000000

noncomputable section

namespace Cert.KernelIdeal.Gen

open Idealize.ShloMosaic

variable {o : Ops Ideal} (w : Row o)

/-- The inner loop's query gradient. -/
theorem loop2_a (j : Fin k0_t1_loop.trips) (s : Acc Ideal) (r : Fin 2048) (d : Fin 96) (n : ℕ) (hn : n ≤ (k0_t2_loop j).trips) :
    (loop2 o j s n).a (ix2 r d)
      = if 512 * (j.val + 1) ≤ r.val ∧ r.val < 512 * (j.val + 1 + n) then s.a (ix2 r d) + TA w j.val r d else s.a (ix2 r d) := by
  induction n with
  | zero => rw [if_neg (by omega)]; rfl
  | succ n ih =>
    have h : n < (k0_t2_loop j).trips := hn
    rw [loop2, dif_pos h, step2_a w, ih (Nat.le_of_lt h)]
    dsimp only
    by_cases h1 : 512 * (j.val + 1 + n) ≤ r.val ∧ r.val < 512 * (j.val + 1 + n) + 512
    · rw [if_pos h1, if_neg (by omega), if_pos (by omega)]
    · rw [if_neg h1]
      by_cases h2 : 512 * (j.val + 1) ≤ r.val ∧ r.val < 512 * (j.val + 1 + n)
      · rw [if_pos h2, if_pos (by omega)]
      · rw [if_neg h2, if_neg (by omega)]

/-- The inner loop's key gradient. -/
theorem loop2_b (j : Fin k0_t1_loop.trips) (s : Acc Ideal) (c : Fin 2048) (d : Fin 96) (n : ℕ) (hn : n ≤ (k0_t2_loop j).trips) :
    (loop2 o j s n).b (ix2 c d)
      = if 512 * j.val ≤ c.val ∧ c.val < 512 * j.val + 512 then
          s.b (ix2 c d) + ∑ i ∈ Finset.range n, TB w (j.val + 1 + i) c d else s.b (ix2 c d) := by
  induction n with
  | zero => simp [loop2]
  | succ n ih =>
    have h : n < (k0_t2_loop j).trips := hn
    rw [loop2, dif_pos h, step2_b w, ih (Nat.le_of_lt h)]
    by_cases h1 : 512 * j.val ≤ c.val ∧ c.val < 512 * j.val + 512
    · rw [if_pos h1, if_pos h1, if_pos h1, Finset.sum_range_succ, add_assoc]
    · rw [if_neg h1, if_neg h1, if_neg h1]

/-- A key tile's sum over the query tiles from its own on is the sum over all of them. -/
theorem tail_b (j : ℕ) (hj : j < 4) (c : Fin 2048) (d : Fin 96) (h : 512 * j ≤ c.val) :
    TB w j c d + ∑ i ∈ Finset.range (3 - j), TB w (j + 1 + i) c d = ∑ i ∈ Finset.range 4, TB w i c d := by
  have z : ∀ i, i < j → TB w i c d = 0 := fun i hi => TB_zero w i c d (by omega)
  interval_cases j
  · simp [Finset.sum_range_succ, add_assoc]
  · simp [Finset.sum_range_succ, add_assoc, z 0]
  · simp [Finset.sum_range_succ, add_assoc, z 0, z 1]
  · simp [Finset.sum_range_succ, z 0, z 1, z 2]

/-- The inner loop's value gradient. -/
theorem loop2_c (j : Fin k0_t1_loop.trips) (s : Acc Ideal) (c : Fin 2048) (d : Fin 96) (n : ℕ) (hn : n ≤ (k0_t2_loop j).trips) :
    (loop2 o j s n).c (ix2 c d)
      = if 512 * j.val ≤ c.val ∧ c.val < 512 * j.val + 512 then
          s.c (ix2 c d) + ∑ i ∈ Finset.range n, TC w (j.val + 1 + i) c d else s.c (ix2 c d) := by
  induction n with
  | zero => simp [loop2]
  | succ n ih =>
    have h : n < (k0_t2_loop j).trips := hn
    rw [loop2, dif_pos h, step2_c w, ih (Nat.le_of_lt h)]
    by_cases h1 : 512 * j.val ≤ c.val ∧ c.val < 512 * j.val + 512
    · rw [if_pos h1, if_pos h1, if_pos h1, Finset.sum_range_succ, add_assoc]
    · rw [if_neg h1, if_neg h1, if_neg h1]

/-- A key tile's sum over the query tiles from its own on is the sum over all of them. -/
theorem tail_c (j : ℕ) (hj : j < 4) (c : Fin 2048) (d : Fin 96) (h : 512 * j ≤ c.val) :
    TC w j c d + ∑ i ∈ Finset.range (3 - j), TC w (j + 1 + i) c d = ∑ i ∈ Finset.range 4, TC w i c d := by
  have z : ∀ i, i < j → TC w i c d = 0 := fun i hi => TC_zero w i c d (by omega)
  interval_cases j
  · simp [Finset.sum_range_succ, add_assoc]
  · simp [Finset.sum_range_succ, add_assoc, z 0]
  · simp [Finset.sum_range_succ, add_assoc, z 0, z 1]
  · simp [Finset.sum_range_succ, z 0, z 1, z 2]

/-- The outer loop's query gradient. -/
theorem loop1_a (s : Acc Ideal) (r : Fin 2048) (d : Fin 96) (n : ℕ) (hn : n ≤ k0_t1_loop.trips) :
    (loop1 o s n).a (ix2 r d) = s.a (ix2 r d) + ∑ j ∈ Finset.range n, TA w j r d := by
  induction n with
  | zero => simp [loop1]
  | succ n ih =>
    have h : n < k0_t1_loop.trips := hn
    have h4 : n < 4 := Nat.lt_of_lt_of_eq h trips1
    rw [loop1, dif_pos h, loop2_a w _ _ _ _ _ le_rfl, step1_a w, ih (Nat.le_of_lt h), trips2, Finset.sum_range_succ, ← add_assoc]
    dsimp only
    by_cases h1 : 512 * (n + 1) ≤ r.val ∧ r.val < 512 * (n + 1 + (3 - n))
    · rw [if_pos h1, if_neg (by omega)]
    · rw [if_neg h1]
      by_cases h2 : 512 * n ≤ r.val ∧ r.val < 512 * n + 512
      · rw [if_pos h2]
      · rw [if_neg h2, TA_zero w n r d (by omega), add_zero]

/-- The outer loop's key gradient. -/
theorem loop1_b (s : Acc Ideal) (c : Fin 2048) (d : Fin 96) (n : ℕ) (hn : n ≤ k0_t1_loop.trips) :
    (loop1 o s n).b (ix2 c d)
      = if c.val < 512 * n then s.b (ix2 c d) + ∑ i ∈ Finset.range 4, TB w i c d else s.b (ix2 c d) := by
  induction n with
  | zero => simp [loop1]
  | succ n ih =>
    have h : n < k0_t1_loop.trips := hn
    have h4 : n < 4 := Nat.lt_of_lt_of_eq h trips1
    rw [loop1, dif_pos h, loop2_b w _ _ _ _ _ le_rfl, step1_b w, ih (Nat.le_of_lt h), trips2]
    dsimp only
    by_cases h1 : 512 * n ≤ c.val ∧ c.val < 512 * n + 512
    · rw [if_pos h1, if_pos h1, if_neg (by omega), if_pos (by omega), add_assoc, tail_b w n h4 c d h1.1]
    · rw [if_neg h1, if_neg h1]
      by_cases h2 : c.val < 512 * n
      · rw [if_pos h2, if_pos (by omega)]
      · rw [if_neg h2, if_neg (by omega)]

/-- The outer loop's value gradient. -/
theorem loop1_c (s : Acc Ideal) (c : Fin 2048) (d : Fin 96) (n : ℕ) (hn : n ≤ k0_t1_loop.trips) :
    (loop1 o s n).c (ix2 c d)
      = if c.val < 512 * n then s.c (ix2 c d) + ∑ i ∈ Finset.range 4, TC w i c d else s.c (ix2 c d) := by
  induction n with
  | zero => simp [loop1]
  | succ n ih =>
    have h : n < k0_t1_loop.trips := hn
    have h4 : n < 4 := Nat.lt_of_lt_of_eq h trips1
    rw [loop1, dif_pos h, loop2_c w _ _ _ _ _ le_rfl, step1_c w, ih (Nat.le_of_lt h), trips2]
    dsimp only
    by_cases h1 : 512 * n ≤ c.val ∧ c.val < 512 * n + 512
    · rw [if_pos h1, if_pos h1, if_neg (by omega), if_pos (by omega), add_assoc, tail_c w n h4 c d h1.1]
    · rw [if_neg h1, if_neg h1]
      by_cases h2 : c.val < 512 * n
      · rw [if_pos h2, if_pos (by omega)]
      · rw [if_neg h2, if_neg (by omega)]

/-- The query gradient after the loop: the whole sum over the keys. -/
theorem total_a (s : Acc Ideal) (r : Fin 2048) (d : Fin 96) :
    (loop1 o s k0_t1_loop.trips).a (ix2 r d) = s.a (ix2 r d) + ∑ c : Fin 2048, gradM w r c * o.k (ix4 0 0 c d) := by
  rw [loop1_a w s r d _ le_rfl, trips1, sum_tiles]
  rfl

/-- The key gradient after the loop: the whole sum over the queries. -/
theorem total_b (s : Acc Ideal) (c : Fin 2048) (d : Fin 96) :
    (loop1 o s k0_t1_loop.trips).b (ix2 c d) = s.b (ix2 c d) + ∑ r : Fin 2048, gradM w r c * o.qw (ix2 r d) := by
  rw [loop1_b w s c d _ le_rfl, if_pos (by have := c.isLt; have := trips1; omega), sum_tiles]
  rfl

/-- The value gradient after the loop: the whole sum over the queries. -/
theorem total_c (s : Acc Ideal) (c : Fin 2048) (d : Fin 96) :
    (loop1 o s k0_t1_loop.trips).c (ix2 c d) = s.c (ix2 c d) + ∑ r : Fin 2048, probM w r c * o.dw (ix2 r d) := by
  rw [loop1_c w s c d _ le_rfl, if_pos (by have := c.isLt; have := trips1; omega), sum_tiles]
  rfl

end Cert.KernelIdeal.Gen
end
-- ==== Proof.ValueKI.lean ====
/- The kernel's three results at the exact instance, by coordinates of its arguments: the query, key and value gradients of the
   specification. -/
module

public import proofs.«01_k».proof.Proof.HostKI
public import proofs.«01_k».proof.Proof.TotalKI

@[expose] public section

set_option maxRecDepth 16384
set_option maxHeartbeats 1000000

noncomputable section

namespace Cert.KernelIdeal.Gen

open Idealize.ShloMosaic Idealize.ShloMosaic.TcCoe Idealize.ShloMosaic.Tactic
open Idealize.SL Idealize.SL.Sem
open Idealize.ShloMosaic.StableHlo

variable (m : (ℓ : Loc nD τ sig) → Buf (Elt Ideal) ℓ) (c : Dev nD)

/-- The arguments, by coordinates. -/
def inK : Spec.In where
  q b r n d := (m ((c : Thread nD τ).loc main_arg0) : S6x2048x32x96.Idx → EReal) (ix4 b r n d)
  qs n := (m ((c : Thread nD τ).loc main_arg1) : S32.Idx → EReal) (ix1 n)
  k b r n d := (m ((c : Thread nD τ).loc main_arg2) : S6x2048x4x96.Idx → EReal) (ix4 b r n d)
  ks n := (m ((c : Thread nD τ).loc main_arg3) : S4.Idx → EReal) (ix1 n)
  v b r n d := (m ((c : Thread nD τ).loc main_arg4) : S6x2048x4x96.Idx → EReal) (ix4 b r n d)
  vs n := (m ((c : Thread nD τ).loc main_arg5) : S4.Idx → EReal) (ix1 n)
  o b r n d := (m ((c : Thread nD τ).loc main_arg6) : S6x2048x32x96.Idx → EReal) (ix4 b r n d)
  lse b n r := (m ((c : Thread nD τ).loc main_arg7) : S6x32x2048.Idx → EReal) (ix3 b n r)
  g b r n d := (m ((c : Thread nD τ).loc main_arg8) : S6x2048x32x96.Idx → EReal) (ix4 b r n d)
  gs b r n := (m ((c : Thread nD τ).loc main_arg9) : S6x2048x32.Idx → EReal) (ix3 b r n)

/-! ## One grid point -/

/-- What the loops read at point `t`. -/
def opsAt (t : Fin cfg0.N) : Ops Ideal :=
  ptOps (grid0.coords t) (iblk m c 0 t) (iblk m c 1 t) (iblk m c 2 t) (iblk m c 3 t) (iblk m c 4 t) (iblk m c 5 t) (iblk m c 6 t) (iblk m c 7 t) (iblk m c 8 t) (iblk m c 9 t)

theorem o_sc (t : Fin cfg0.N) : (opsAt m c t).sc = (inK m c).qs (tn t) * (inK m c).ks (th t) * Spec.SM := by
  show k0_pay23 (wordQ (grid0.coords t) (iblk m c 0 t)) (wordK (grid0.coords t) (iblk m c 1 t)) = _
  rw [wQ, wK1]; rfl
theorem o_q (t : Fin cfg0.N) (r : Fin 2048) (d : Fin 96) : (opsAt m c t).q (ix4 0 0 r d) = (inK m c).q (tb t) r (tn t) d := b3 m c t r d
theorem o_k (t : Fin cfg0.N) (r : Fin 2048) (d : Fin 96) : (opsAt m c t).k (ix4 0 0 r d) = (inK m c).k (tb t) r (th t) d := b4 m c t r d
theorem o_v (t : Fin cfg0.N) (r : Fin 2048) (d : Fin 96) : (opsAt m c t).v (ix4 0 0 r d) = (inK m c).v (tb t) r (th t) d := b5 m c t r d
theorem o_g (t : Fin cfg0.N) (r : Fin 2048) (d : Fin 96) : (opsAt m c t).g (ix4 0 0 r d) = (inK m c).g (tb t) r (tn t) d := b7 m c t r d
theorem o_qw (t : Fin cfg0.N) (r : Fin 2048) (d : Fin 96) :
    (opsAt m c t).qw (ix2 r d) = (inK m c).q (tb t) r (tn t) d * (inK m c).qs (tn t) := by
  refine (pay29_apply (wordQ (grid0.coords t) (iblk m c 0 t)) (iblk m c 3 t) r d).trans ?_
  rw [wQ, b3]; rfl
theorem o_dw (t : Fin cfg0.N) (r : Fin 2048) (d : Fin 96) :
    (opsAt m c t).dw (ix2 r d) = (inK m c).g (tb t) r (tn t) d * (inK m c).gs (tb t) r (tn t) := by
  refine (pay30_apply (iblk m c 9 t) (iblk m c 7 t) r d).trans ?_
  rw [b7, b9]; rfl

/-- The row functions of point `t`. -/
def rowAt (t : Fin cfg0.N) : Row (opsAt m c t) where
  ls r := (inK m c).lse (tb t) (tn t) r * LL
  de r := Spec.D (inK m c) (tb t) (th t) (tg t) r
  ds r := (inK m c).gs (tb t) r (tn t) * (inK m c).vs (th t)
  hls r l := by
    refine (pay24_apply (iblk m c 8 t) r l).trans ?_
    rw [b8]; rfl
  hde r l := by
    refine (pay28_apply (iblk m c 9 t) (iblk m c 7 t) (iblk m c 6 t) r l).trans ?_
    simp only [b6, b7, b9]; rfl
  hds r l := by
    refine (pay26_apply (wordK (grid0.coords t) (iblk m c 2 t)) (iblk m c 9 t) r l).trans ?_
    rw [wK2, b9]; rfl

/-- Its masked probabilities are the specification's, -/
theorem probM_at (t : Fin cfg0.N) (r k : Fin 2048) :
    probM (rowAt m c t) r k = Spec.P (inK m c) (tb t) (th t) (tg t) r k := by
  unfold probM Spec.P prob
  by_cases h : k.val ≤ r.val
  · rw [if_pos h, if_pos h]
    simp only [o_q, o_k, o_sc]
    exact Spec.exp2_scaled _ _ _
  · rw [if_neg h, if_neg h]

/-- and its score gradients. -/
theorem gradM_at (t : Fin cfg0.N) (r k : Fin 2048) :
    gradM (rowAt m c t) r k = Spec.G (inK m c) (tb t) (th t) (tg t) r k := by
  unfold gradM Spec.G
  rw [probM_at]
  simp only [o_g, o_v]
  rfl

/-! ## The accumulators -/

/-- Member `g`'s part of the key gradient. -/
def partB (b : Fin 6) (h : Fin 4) (k : Fin 2048) (d : Fin 96) (g : Fin 8) : EReal :=
  ∑ r : Fin 2048, Spec.G (inK m c) b h g r k * ((inK m c).q b r (Spec.hd h g) d * (inK m c).qs (Spec.hd h g))
/-- Member `g`'s part of the value gradient. -/
def partC (b : Fin 6) (h : Fin 4) (k : Fin 2048) (d : Fin 96) (g : Fin 8) : EReal :=
  ∑ r : Fin 2048, Spec.P (inK m c) b h g r k * ((inK m c).g b r (Spec.hd h g) d * (inK m c).gs b r (Spec.hd h g))

theorem pt_eq (t : Fin cfg0.N) (b d : Vec Ideal S2048x96 .f32) :
    ptAcc (grid0.coords t) (iblk m c 0 t) (iblk m c 1 t) (iblk m c 2 t) (iblk m c 3 t) (iblk m c 4 t) (iblk m c 5 t) (iblk m c 6 t) (iblk m c 7 t) (iblk m c 8 t) (iblk m c 9 t) b d = loop1 (opsAt m c t) ⟨k0_pay31 (F := Ideal), b, d⟩ k0_t1_loop.trips := by
  unfold ptAcc opsAt; rfl

theorem point_a (t : Fin cfg0.N) (b d : Vec Ideal S2048x96 .f32) (r : Fin 2048) (x : Fin 96) :
    (ptAcc (grid0.coords t) (iblk m c 0 t) (iblk m c 1 t) (iblk m c 2 t) (iblk m c 3 t) (iblk m c 4 t) (iblk m c 5 t) (iblk m c 6 t) (iblk m c 7 t) (iblk m c 8 t) (iblk m c 9 t) b d).a (ix2 r x)
      = ∑ k : Fin 2048, Spec.G (inK m c) (tb t) (th t) (tg t) r k * (inK m c).k (tb t) k (th t) x := by
  rw [pt_eq, total_a (rowAt m c t)]
  simp only [gradM_at, o_k, pay31_apply, zero_add]
theorem point_b (t : Fin cfg0.N) (b d : Vec Ideal S2048x96 .f32) (k : Fin 2048) (x : Fin 96) :
    (ptAcc (grid0.coords t) (iblk m c 0 t) (iblk m c 1 t) (iblk m c 2 t) (iblk m c 3 t) (iblk m c 4 t) (iblk m c 5 t) (iblk m c 6 t) (iblk m c 7 t) (iblk m c 8 t) (iblk m c 9 t) b d).b (ix2 k x)
      = b (ix2 k x) + partB m c (tb t) (th t) k x (tg t) := by
  rw [pt_eq, total_b (rowAt m c t)]
  simp only [gradM_at, o_qw]
  unfold partB tn; rfl
theorem point_c (t : Fin cfg0.N) (b d : Vec Ideal S2048x96 .f32) (k : Fin 2048) (x : Fin 96) :
    (ptAcc (grid0.coords t) (iblk m c 0 t) (iblk m c 1 t) (iblk m c 2 t) (iblk m c 3 t) (iblk m c 4 t) (iblk m c 5 t) (iblk m c 6 t) (iblk m c 7 t) (iblk m c 8 t) (iblk m c 9 t) b d).c (ix2 k x)
      = d (ix2 k x) + partC m c (tb t) (th t) k x (tg t) := by
  rw [pt_eq, total_c (rowAt m c t)]
  simp only [probM_at, o_dw]
  unfold partC tn; rfl

theorem acc_a (t : Fin cfg0.N) (r : Fin 2048) (x : Fin 96) :
    (accAt m c t.val).a (ix2 r x)
      = ∑ k : Fin 2048, Spec.G (inK m c) (tb t) (th t) (tg t) r k * (inK m c).k (tb t) k (th t) x := by
  by_cases h : t.val % 8 = 0
  · rw [accAt_first m c t h, point_a]
  · rw [accAt_next m c t h, point_a]

/-- A function of the members, on the natural numbers. -/
def ext8 (f : Fin 8 → EReal) (g : ℕ) : EReal := if h : g < 8 then f ⟨g, h⟩ else 0

theorem sum_ext8 (f : Fin 8 → EReal) : ∑ g ∈ Finset.range 8, ext8 f g = ∑ g : Fin 8, f g := by
  rw [Finset.sum_range]
  exact Finset.sum_congr rfl fun g _ => by unfold ext8; rw [dif_pos g.isLt]

theorem ext8_tg (f : Fin 8 → EReal) (t : Fin cfg0.N) (j : ℕ) (h : t.val % 8 = j) : f (tg t) = ext8 f j := by
  subst h; unfold ext8; rw [dif_pos (Nat.mod_lt _ (by decide))]; rfl

/-- The carried accumulators after a point: the parts of the members so far. -/
theorem acc_bc (k : Fin 2048) (x : Fin 96) : ∀ (j : ℕ) (t : Fin cfg0.N), t.val % 8 = j →
    (accAt m c t.val).b (ix2 k x) = ∑ g ∈ Finset.range (j + 1), ext8 (partB m c (tb t) (th t) k x) g
    ∧ (accAt m c t.val).c (ix2 k x) = ∑ g ∈ Finset.range (j + 1), ext8 (partC m c (tb t) (th t) k x) g := by
  intro j
  induction j with
  | zero =>
    intro t h
    rw [accAt_first m c t h, point_b, point_c, pay1_apply, pay2_apply, Finset.sum_range_one, Finset.sum_range_one]
    exact ⟨(zero_add _).trans (ext8_tg (partB m c (tb t) (th t) k x) t 0 h), (zero_add _).trans (ext8_tg (partC m c (tb t) (th t) k x) t 0 h)⟩
  | succ j ih =>
    intro t h
    have h0 : ¬ t.val % 8 = 0 := by omega
    obtain ⟨hb, hc⟩ := ih ⟨t.val - 1, by have := t.isLt; omega⟩ (by show (t.val - 1) % 8 = j; omega)
    have e1 : tb ⟨t.val - 1, by have := t.isLt; omega⟩ = tb t := Fin.ext (by show (t.val - 1) / 32 = t.val / 32; omega)
    have e2 : th ⟨t.val - 1, by have := t.isLt; omega⟩ = th t := Fin.ext (by show (t.val - 1) / 8 % 4 = t.val / 8 % 4; omega)
    rw [e1, e2] at hb hc
    rw [accAt_next m c t h0, point_b, point_c, hb, hc, Finset.sum_range_succ _ (j + 1), Finset.sum_range_succ _ (j + 1),
      ext8_tg (partB m c (tb t) (th t) k x) t (j + 1) h, ext8_tg (partC m c (tb t) (th t) k x) t (j + 1) h]
    exact ⟨rfl, rfl⟩

/-! ## The result arrays -/

/-- An index of a block. -/
theorem blk_idx (y : S1x1x2048x96.Idx) : y = ix4 0 0 (y 2) (y 3) := by
  funext a
  apply Fin.ext
  fin_cases a
  · have : (y 0).val < 1 := (y 0).isLt
    show (y 0).val = 0; omega
  · have : (y 1).val < 1 := (y 1).isLt
    show (y 1).val = 0; omega
  · rfl
  · rfl

/-- What the query gradient's array ends at, -/
def A10 : S6x32x2048x96.Idx → EReal := fun i => Spec.dqH (inK m c) (i 0) (i 2) (i 1) (i 3)
/-- the key gradient's, -/
def A11 : S6x4x2048x96.Idx → EReal := fun i => Spec.dk (inK m c) (i 0) (i 2) (i 1) (i 3)
/-- the value gradient's. -/
def A12 : S6x4x2048x96.Idx → EReal := fun i => Spec.dv (inK m c) (i 0) (i 2) (i 1) (i 3)

theorem fin10 (t : Fin cfg0.N) (r : Fin 2048) (d : Fin 96) :
    k0_pay9 (wordK (grid0.coords t) (iblk m c 1 t)) (accAt m c t.val).a (ix4 0 0 r d) = A10 m c (ix4 (tb t) (tn t) r d) := by
  refine Eq.trans ?_ (Spec.dqH_hd (inK m c) (tb t) r (th t) (tg t) d).symm
  rw [pay9_apply, wK1, acc_a]
  rfl
theorem fin11 (t : Fin cfg0.N) (ht : t.val % 8 = 7) (r : Fin 2048) (d : Fin 96) :
    k0_pay10 (accAt m c t.val).b (ix4 0 0 r d) = A11 m c (ix4 (tb t) (th t) r d) := by
  rw [pay10_apply, (acc_bc m c r d 7 t ht).1, sum_ext8]
  rfl
theorem fin12 (t : Fin cfg0.N) (ht : t.val % 8 = 7) (r : Fin 2048) (d : Fin 96) :
    k0_pay11 (accAt m c t.val).c (ix4 0 0 r d) = A12 m c (ix4 (tb t) (th t) r d) := by
  rw [pay11_apply, (acc_bc m c r d 7 t ht).2, sum_ext8]
  rfl

theorem arr10 : (dats m 0 c).arrAt 10 cfg0.N = A10 m c := by
  refine (dats m 0 c).arrAt_eq_of_covers 10 (A10 m c) (by decide +kernel) fun t hf y => ?_
  blk_simp
  rw [after0_10]
  have ee : (win0_10.blk t).view.emb y = (ix4 (tb t) (tn t) (y 2) (y 3) : S6x32x2048x96.Idx) := by
    blk_ext [e10, tb, th, tg, tn, Spec.hd]
  exact (congrArg (k0_pay9 (wordK (grid0.coords t) (iblk m c 1 t)) (accAt m c t.val).a) (blk_idx y)).trans ((fin10 m c t (y 2) (y 3)).trans (congrArg (A10 m c) ee.symm))

theorem arr11 : (dats m 0 c).arrAt 11 cfg0.N = A11 m c := by
  refine (dats m 0 c).arrAt_eq_of_covers 11 (A11 m c) (by decide +kernel) fun t hf y => ?_
  blk_simp
  rw [after0_11]
  have ee : (win0_11.blk t).view.emb y = (ix4 (tb t) (th t) (y 2) (y 3) : S6x4x2048x96.Idx) := by
    blk_ext [e11, tb, th, tg, tn, Spec.hd]
  exact (congrArg (k0_pay10 (accAt m c t.val).b) (blk_idx y)).trans ((fin11 m c t ((flush0_11 t).1 hf) (y 2) (y 3)).trans (congrArg (A11 m c) ee.symm))

theorem arr12 : (dats m 0 c).arrAt 12 cfg0.N = A12 m c := by
  refine (dats m 0 c).arrAt_eq_of_covers 12 (A12 m c) (by decide +kernel) fun t hf y => ?_
  blk_simp
  rw [after0_12]
  have ee : (win0_12.blk t).view.emb y = (ix4 (tb t) (th t) (y 2) (y 3) : S6x4x2048x96.Idx) := by
    blk_ext [e12, tb, th, tg, tn, Spec.hd]
  exact (congrArg (k0_pay11 (accAt m c t.val).c) (blk_idx y)).trans ((fin12 m c t ((flush0_12 t).1 hf) (y 2) (y 3)).trans (congrArg (A12 m c) ee.symm))

/-! ## The results -/

/-- The query gradient, as the program returns it, -/
def R9 : S6x2048x32x96.Idx → EReal := fun i => Spec.dqH (inK m c) (i 0) (i 1) (i 2) (i 3)
/-- the key gradient, -/
def R10 : S6x2048x4x96.Idx → EReal := fun i => Spec.dk (inK m c) (i 0) (i 1) (i 2) (i 3)
/-- the value gradient. -/
def R11 : S6x2048x4x96.Idx → EReal := fun i => Spec.dv (inK m c) (i 0) (i 1) (i 2) (i 3)

theorem idx32 (y : S6x2048x32x96.Idx) : y = ix4 (y 0) (y 1) (y 2) (y 3) := by
  funext a; fin_cases a <;> rfl
theorem idx4 (y : S6x2048x4x96.Idx) : y = ix4 (y 0) (y 1) (y 2) (y 3) := by
  funext a; fin_cases a <;> rfl

theorem fin_v9 : Pipeline.afterTail₀ cfgs (dats m) 0 (V0 m) [hostOps1] c main_v9 = R9 m c := by
  have e : Pipeline.afterTail₀ cfgs (dats m) 0 (V0 m) [hostOps1] c main_v9
      = transpose S6x2048x32x96 [0, 2, 1, 3] (A10 m c) transposes_S6x32x2048x96_S6x2048x32x96_0_2_1_3 := by
    have h : Pipeline.withArrays spec0 c (V0 m c) (fun w => (dats m 0 c).arrAt w cfg0.N) (Proc.devRef .tc main_v8_0) = A10 m c :=
      (Pipeline.withArrays_arr spec0 launch0.win.arr_inj c (V0 m c) _ 10).trans (arr10 m c)
    unfold Pipeline.afterTail₀
    simp only [hostOps1, List.flatten_cons, List.flatten_nil, List.append_nil]
    after_results
    exact congrArg (fun z => transpose S6x2048x32x96 [0, 2, 1, 3] z transposes_S6x32x2048x96_S6x2048x32x96_0_2_1_3) h
  rw [e]
  funext y
  rw [idx32 y]
  pointwise [A10, R9]

theorem fin_v10 : Pipeline.afterTail₀ cfgs (dats m) 0 (V0 m) [hostOps1] c main_v10 = R10 m c := by
  have e : Pipeline.afterTail₀ cfgs (dats m) 0 (V0 m) [hostOps1] c main_v10
      = transpose S6x2048x4x96 [0, 2, 1, 3] (A11 m c) transposes_S6x4x2048x96_S6x2048x4x96_0_2_1_3 := by
    have h : Pipeline.withArrays spec0 c (V0 m c) (fun w => (dats m 0 c).arrAt w cfg0.N) (Proc.devRef .tc main_v8_1) = A11 m c :=
      (Pipeline.withArrays_arr spec0 launch0.win.arr_inj c (V0 m c) _ 11).trans (arr11 m c)
    unfold Pipeline.afterTail₀
    simp only [hostOps1, List.flatten_cons, List.flatten_nil, List.append_nil]
    after_results
    exact congrArg (fun z => transpose S6x2048x4x96 [0, 2, 1, 3] z transposes_S6x4x2048x96_S6x2048x4x96_0_2_1_3) h
  rw [e]
  funext y
  rw [idx4 y]
  pointwise [A11, R10]

theorem fin_v11 : Pipeline.afterTail₀ cfgs (dats m) 0 (V0 m) [hostOps1] c main_v11 = R11 m c := by
  have e : Pipeline.afterTail₀ cfgs (dats m) 0 (V0 m) [hostOps1] c main_v11
      = transpose S6x2048x4x96 [0, 2, 1, 3] (A12 m c) transposes_S6x4x2048x96_S6x2048x4x96_0_2_1_3 := by
    have h : Pipeline.withArrays spec0 c (V0 m c) (fun w => (dats m 0 c).arrAt w cfg0.N) (Proc.devRef .tc main_v8_2) = A12 m c :=
      (Pipeline.withArrays_arr spec0 launch0.win.arr_inj c (V0 m c) _ 12).trans (arr12 m c)
    unfold Pipeline.afterTail₀
    simp only [hostOps1, List.flatten_cons, List.flatten_nil, List.append_nil]
    after_results
    exact congrArg (fun z => transpose S6x2048x4x96 [0, 2, 1, 3] z transposes_S6x4x2048x96_S6x2048x4x96_0_2_1_3) h
  rw [e]
  funext y
  rw [idx4 y]
  pointwise [A12, R11]

/-- The run: the three results are the specification's gradients of the arguments, which end unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v9) = R9 m c
      ∧ r.2.mem ((c.tc : Thread nD τ).loc main_v10) = R10 m c
      ∧ r.2.mem ((c.tc : Thread nD τ).loc main_v11) = R11 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h.1 c).2 main_v9 (Pipeline.mem_restRefs_of main_v9 (by decide) (by decide))).trans (fin_v9 m c),
      ((h.1 c).2 main_v10 (Pipeline.mem_restRefs_of main_v10 (by decide) (by decide))).trans (fin_v10 m c),
      ((h.1 c).2 main_v11 (Pipeline.mem_restRefs_of main_v11 (by decide) (by decide))).trans (fin_v11 m c), h.2.1 c⟩)
    (θ_run_and (run_main m ρ) (frame m ρ))

end Cert.KernelIdeal.Gen
end
-- ==== Proof.RefRI.lean ====
/- What the reference computes, read at an index at the exact instance: each of its three results is the mathematics of Spec.lean. -/
module

public import proofs.«01_k».proof.Proof.Gen.ReferenceIdeal.Read
public import proofs.«01_k».proof.Proof.Spec

@[expose] public section

set_option maxRecDepth 16384
set_option maxHeartbeats 1000000

noncomputable section

namespace Cert.ReferenceIdeal.RefValue

open Cert.ReferenceIdeal Cert.ReferenceIdeal.Gen Cert.ReferenceIdeal.Read Idealize.ShloMosaic
open Cert.Spec (hd SM)

variable (x1 : (⟨S32, .f32⟩ : BufTy).Contents (Elt Ideal)) (x3 x5 : (⟨S4, .f32⟩ : BufTy).Contents (Elt Ideal))
  (x6 : (⟨S6x2048x32x96, .bf16⟩ : BufTy).Contents (Elt Ideal)) (x7 : (⟨S6x32x2048, .f32⟩ : BufTy).Contents (Elt Ideal))
  (x9 : (⟨S6x2048x32, .f32⟩ : BufTy).Contents (Elt Ideal)) (r0 : (⟨S6x2048x32x96, .bf16⟩ : BufTy).Contents (Elt Ideal))
  (r1 r2 : (⟨S6x2048x4x96, .bf16⟩ : BufTy).Contents (Elt Ideal)) (r3 : (⟨S6x2048x32x96, .bf16⟩ : BufTy).Contents (Elt Ideal))
  (b : Fin 6) (r c : Fin 2048) (h : Fin 4) (g : Fin 8) (d : Fin 96)

/-- The arrays by coordinates. -/
def inp : Spec.In where
  q := fun b r h d => r0 (ix4 b r h d)
  qs := fun h => x1 (ix1 h)
  k := fun b r h d => r1 (ix4 b r h d)
  ks := fun h => x3 (ix1 h)
  v := fun b r h d => r2 (ix4 b r h d)
  vs := fun h => x5 (ix1 h)
  o := fun b r h d => x6 (ix4 b r h d)
  lse := fun b h r => x7 (ix3 b h r)
  g := fun b r h d => r3 (ix4 b r h d)
  gs := fun b r h => x9 (ix3 b r h)

theorem v1_at : val_main_v1 (F := Ideal) r0 (ix5 b r h g d) = r0 (ix4 b r (hd h g) d) := by
  pointwise [val_main_v1]
  rfl
theorem v2_at : val_main_v2 (F := Ideal) r3 (ix5 b r h g d) = r3 (ix4 b r (hd h g) d) := by
  pointwise [val_main_v2]
  rfl
/-- The scores' scale. -/
theorem v8_at : val_main_v8 (F := Ideal) x1 x3 (ix2 h g) = x1 (ix1 (hd h g)) * x3 (ix1 h) * SM := by
  pointwise [val_main_v8, val_main_v7, val_main_v6, val_main_v5, val_main_v4, val_main_v3, val_main_cst]
  rfl
theorem v11_at : val_main_v11 (F := Ideal) x9 (ix4 b h g r) = x9 (ix3 b r (hd h g)) := by
  pointwise [val_main_v11, val_main_v10]
  rfl
/-- The row term. -/
theorem v18_at : val_main_v18 (F := Ideal) x6 x9 r3 (ix4 b h g r) = Spec.D (inp x1 x3 x5 x6 x7 x9 r0 r1 r2 r3) b h g r := by
  pointwise [val_main_v18, val_main_v17, val_main_v16, val_main_v15, val_main_v14, val_main_v13, val_main_v12, val_main_cst_0]
  rfl
theorem v19_at : val_main_v19 (F := Ideal) x7 (ix4 b h g r) = x7 (ix3 b (hd h g) r) := by
  pointwise [val_main_v19]
  rfl
/-- The scaled queries. -/
theorem v25_at : val_main_v25 (F := Ideal) x1 r0 (ix5 b r h g d) = r0 (ix4 b r (hd h g) d) * x1 (ix1 (hd h g)) := by
  pointwise [val_main_v25, val_main_v24, val_main_v23, val_main_v22, val_main_v21, val_main_v20]
  rfl
/-- The scaled output gradients. -/
theorem v30_at : val_main_v30 (F := Ideal) x9 r3 (ix5 b r h g d) = r3 (ix4 b r (hd h g) d) * x9 (ix3 b r (hd h g)) := by
  pointwise [val_main_v30, val_main_v29, val_main_v28, val_main_v27, val_main_v26, val_main_v2]
  rfl
/-- The mask. -/
theorem v39_at : val_main_v39 (F := Ideal) (ix2 r c) = if c.val ≤ r.val then 1#1 else 0#1 := by
  pointwise [val_main_v39, val_main_v38, val_main_v37, val_main_v36, val_main_v35, val_main_v34]
  exact Spec.le_words _ _ c.isLt r.isLt
/-- The scores before their scale. -/
theorem v41_at : val_main_v41 (F := Ideal) r0 r1 (ix5 b h g r c) = ∑ d : Fin 96, r0 (ix4 b r (hd h g) d) * r1 (ix4 b c h d) := by
  pointwise [val_main_v41, val_main_v40]
  simp only [v1_at]
  exact Finset.sum_congr rfl fun _ _ => mul_comm _ _
/-- The scores. -/
theorem v44_at : val_main_v44 (F := Ideal) x1 x3 r0 r1 (ix5 b h g r c)
    = (∑ d : Fin 96, r0 (ix4 b r (hd h g) d) * r1 (ix4 b c h d)) * (x1 (ix1 (hd h g)) * x3 (ix1 h) * SM) := by
  pointwise [val_main_v44, val_main_v43, val_main_v42, val_main_v9]
  rw [v41_at, v8_at]
/-- The probabilities. -/
theorem v49_at : val_main_v49 (F := Ideal) x1 x3 x7 r0 r1 (ix5 b h g r c) = Spec.P (inp x1 x3 x5 x6 x7 x9 r0 r1 r2 r3) b h g r c := by
  pointwise [val_main_v49, val_main_v48, val_main_v47, val_main_v46, val_main_v45, val_main_call0_v0, val_main_call0_v1, val_main_call0_v2, val_main_cst_2]
  rw [v39_at, v44_at, v19_at]
  unfold Spec.P
  by_cases hc : c.val ≤ r.val
  · rw [if_pos hc, if_pos hc]; rfl
  · rw [if_neg hc, if_neg hc]
    exact (congrArg (fun z : EReal => Ideal.exp (z - x7 (ix3 b (hd h g) r))) Spec.ofBits_ninf).trans (Spec.exp_bot_sub _)
/-- The value products. -/
theorem v51_at : val_main_v51 (F := Ideal) r2 r3 (ix5 b h g r c) = ∑ d : Fin 96, r3 (ix4 b r (hd h g) d) * r2 (ix4 b c h d) := by
  pointwise [val_main_v51, val_main_v50]
  simp only [v2_at]
  exact Finset.sum_congr rfl fun _ _ => mul_comm _ _
/-- The score gradients. -/
theorem v62_at : val_main_v62 (F := Ideal) x1 x3 x5 x6 x7 x9 r0 r1 r2 r3 (ix5 b h g r c) = Spec.G (inp x1 x3 x5 x6 x7 x9 r0 r1 r2 r3) b h g r c := by
  pointwise [val_main_v62, val_main_v61, val_main_v60, val_main_v59, val_main_v58, val_main_v57, val_main_v56, val_main_v55, val_main_v54, val_main_v53, val_main_v52]
  rw [v49_at x1 x3 x5 x6 x7 x9 r0 r1 r2 r3, v51_at, v11_at, v18_at x1 x3 x5 x6 x7 x9 r0 r1 r2 r3, mul_assoc (∑ d : Fin 96, _)]
  rfl
/-- The query gradient, by group and member. -/
theorem v68_at : val_main_v68 (F := Ideal) x1 x3 x5 x6 x7 x9 r0 r1 r2 r3 (ix5 b r h g d) = Spec.dq (inp x1 x3 x5 x6 x7 x9 r0 r1 r2 r3) b r h g d := by
  pointwise [val_main_v68, val_main_v67, val_main_v66, val_main_v65, val_main_v64, val_main_v63, val_main_v33, val_main_v32, val_main_v31, val_main_cst_1]
  simp only [v62_at]
  exact congrArg (fun z : EReal => z * (x3 (ix1 h) * SM)) (Finset.sum_congr rfl fun _ _ => mul_comm _ _)
/-- The query gradient. -/
theorem v78_at (n : Fin 32) : val_main_v78 (F := Ideal) x1 x3 x5 x6 x7 x9 r0 r1 r2 r3 (ix4 b r n d) = Spec.dqH (inp x1 x3 x5 x6 x7 x9 r0 r1 r2 r3) b r n d := by
  pointwise [val_main_v78, val_main_v77]
  exact v68_at x1 x3 x5 x6 x7 x9 r0 r1 r2 r3 b r _ _ d
/-- The key gradient. -/
theorem v79_at : val_main_v79 (F := Ideal) x1 x3 x5 x6 x7 x9 r0 r1 r2 r3 (ix4 b c h d) = Spec.dk (inp x1 x3 x5 x6 x7 x9 r0 r1 r2 r3) b c h d := by
  pointwise [val_main_v79, val_main_v73, val_main_v72, val_main_v71, val_main_v70, val_main_v69, val_main_cst_3]
  simp only [v62_at, v25_at]
  exact congrArg (fun z : EReal => z * SM) (Finset.sum_congr rfl fun _ _ => Finset.sum_congr rfl fun _ _ => mul_comm _ _)
/-- The value gradient. -/
theorem v80_at : val_main_v80 (F := Ideal) x1 x3 x7 x9 r0 r1 r3 (ix4 b c h d) = Spec.dv (inp x1 x3 x5 x6 x7 x9 r0 r1 r2 r3) b c h d := by
  pointwise [val_main_v80, val_main_v76, val_main_v75, val_main_v74]
  simp only [v49_at x1 x3 x5 x6 x7 x9 r0 r1 r2 r3, v30_at]
  exact Finset.sum_congr rfl fun _ _ => Finset.sum_congr rfl fun _ _ => mul_comm _ _

end Cert.ReferenceIdeal.RefValue

end
-- ==== Proof.ValueRI.lean ====
/- The reference's three results at the exact instance, by coordinates of its arguments: the widened arrays are the arguments
   themselves, and the results are the gradients of the specification. -/
module

public import proofs.«01_k».proof.Proof.RefRI
public import proofs.«01_k».proof.Proof.Gen.ReferenceIdeal.Run
public import Idealize.ShloMosaic.Lib.Pipeline.ValueKit.Geometry
public import Idealize.ShloMosaic.Lib.Pipeline.ValueKit.Acc

@[expose] public section

set_option maxRecDepth 16384
set_option maxHeartbeats 1000000

noncomputable section

namespace Cert.ReferenceIdeal.RefValue

open Cert.ReferenceIdeal Cert.ReferenceIdeal.Gen Cert.ReferenceIdeal.Read Cert.ReferenceIdeal.Value
open Idealize.ShloMosaic Idealize.ShloMosaic.TcCoe Idealize.ShloMosaic.Tactic Idealize.SL.Sem Idealize.ShloMosaic.StableHlo

variable (m : (ℓ : Loc nD τ sig) → Buf (Elt Ideal) ℓ) (c : Dev nD)

/-! ## The widened arrays -/

theorem e0 : ∀ t : Fin cfg0.N, win0_0.index t = ![0, 0, 0, 0] := (by decide +kernel : ∀ t : Fin grid0.N, _)
theorem e1 : ∀ t : Fin cfg0.N, win0_1.index t = ![0, 0, 0, 0] := (by decide +kernel : ∀ t : Fin grid0.N, _)
theorem e2 : ∀ t : Fin cfg0.N, win0_2.index t = ![0, 0, 0, 0] := (by decide +kernel : ∀ t : Fin grid0.N, _)
theorem e3 : ∀ t : Fin cfg0.N, win0_3.index t = ![0, 0, 0, 0] := (by decide +kernel : ∀ t : Fin grid0.N, _)
theorem e4 : ∀ t : Fin cfg0.N, win0_4.index t = ![0, 0, 0, 0] := (by decide +kernel : ∀ t : Fin grid0.N, _)
theorem e5 : ∀ t : Fin cfg0.N, win0_5.index t = ![0, 0, 0, 0] := (by decide +kernel : ∀ t : Fin grid0.N, _)
theorem e6 : ∀ t : Fin cfg0.N, win0_6.index t = ![0, 0, 0, 0] := (by decide +kernel : ∀ t : Fin grid0.N, _)
theorem e7 : ∀ t : Fin cfg0.N, win0_7.index t = ![0, 0, 0, 0] := (by decide +kernel : ∀ t : Fin grid0.N, _)

theorem wide0 : reg_main_v0_0 m c = (m ((c.tc : Thread nD τ).loc main_arg0) : S6x2048x32x96.Idx → EReal) := by
  unfold reg_main_v0_0
  refine (dats m 0 c).arrAt_eq_of_covers 4 _ (by decide +kernel) fun t hf y => ?_
  blk_simp
  rw [after0_4]
  frame_out
  refine Eq.trans (b := (iblk m c 0 t y : EReal)) rfl ?_
  blk_simp [iblk]
  rw [V_main_arg0]
  refine congrArg (m ((c.tc : Thread nD τ).loc main_arg0) : S6x2048x32x96.Idx → EReal) ?_
  blk_ext [e0, e4]

theorem wide1 : reg_main_v0_1 m c = (m ((c.tc : Thread nD τ).loc main_arg2) : S6x2048x4x96.Idx → EReal) := by
  unfold reg_main_v0_1
  refine (dats m 0 c).arrAt_eq_of_covers 5 _ (by decide +kernel) fun t hf y => ?_
  blk_simp
  rw [after0_5]
  frame_out
  refine Eq.trans (b := (iblk m c 1 t y : EReal)) rfl ?_
  blk_simp [iblk]
  rw [V_main_arg2]
  refine congrArg (m ((c.tc : Thread nD τ).loc main_arg2) : S6x2048x4x96.Idx → EReal) ?_
  blk_ext [e1, e5]

theorem wide2 : reg_main_v0_2 m c = (m ((c.tc : Thread nD τ).loc main_arg4) : S6x2048x4x96.Idx → EReal) := by
  unfold reg_main_v0_2
  refine (dats m 0 c).arrAt_eq_of_covers 6 _ (by decide +kernel) fun t hf y => ?_
  blk_simp
  rw [after0_6]
  frame_out
  refine Eq.trans (b := (iblk m c 2 t y : EReal)) rfl ?_
  blk_simp [iblk]
  rw [V_main_arg4]
  refine congrArg (m ((c.tc : Thread nD τ).loc main_arg4) : S6x2048x4x96.Idx → EReal) ?_
  blk_ext [e2, e6]

theorem wide3 : reg_main_v0_3 m c = (m ((c.tc : Thread nD τ).loc main_arg8) : S6x2048x32x96.Idx → EReal) := by
  unfold reg_main_v0_3
  refine (dats m 0 c).arrAt_eq_of_covers 7 _ (by decide +kernel) fun t hf y => ?_
  blk_simp
  rw [after0_7]
  frame_out
  refine Eq.trans (b := (iblk m c 3 t y : EReal)) rfl ?_
  blk_simp [iblk]
  rw [V_main_arg8]
  refine congrArg (m ((c.tc : Thread nD τ).loc main_arg8) : S6x2048x32x96.Idx → EReal) ?_
  blk_ext [e3, e7]

/-! ## The results -/

/-- The arguments, by coordinates. -/
def inR : Spec.In := inp (m ((c.tc : Thread nD τ).loc main_arg1) : S32.Idx → EReal) (m ((c.tc : Thread nD τ).loc main_arg3) : S4.Idx → EReal) (m ((c.tc : Thread nD τ).loc main_arg5) : S4.Idx → EReal) (m ((c.tc : Thread nD τ).loc main_arg6) : S6x2048x32x96.Idx → EReal) (m ((c.tc : Thread nD τ).loc main_arg7) : S6x32x2048.Idx → EReal) (m ((c.tc : Thread nD τ).loc main_arg9) : S6x2048x32.Idx → EReal) (m ((c.tc : Thread nD τ).loc main_arg0) : S6x2048x32x96.Idx → EReal) (m ((c.tc : Thread nD τ).loc main_arg2) : S6x2048x4x96.Idx → EReal) (m ((c.tc : Thread nD τ).loc main_arg4) : S6x2048x4x96.Idx → EReal) (m ((c.tc : Thread nD τ).loc main_arg8) : S6x2048x32x96.Idx → EReal)

/-- The query gradient, as the program returns it, -/
def R78 : S6x2048x32x96.Idx → EReal := fun i => Spec.dqH (inR m c) (i 0) (i 1) (i 2) (i 3)
/-- the key gradient, -/
def R79 : S6x2048x4x96.Idx → EReal := fun i => Spec.dk (inR m c) (i 0) (i 1) (i 2) (i 3)
/-- the value gradient. -/
def R80 : S6x2048x4x96.Idx → EReal := fun i => Spec.dv (inR m c) (i 0) (i 1) (i 2) (i 3)

theorem idx32 (y : S6x2048x32x96.Idx) : y = ix4 (y 0) (y 1) (y 2) (y 3) := by
  funext a; fin_cases a <;> rfl
theorem idx4 (y : S6x2048x4x96.Idx) : y = ix4 (y 0) (y 1) (y 2) (y 3) := by
  funext a; fin_cases a <;> rfl

theorem val78 : val_main_v78 (F := Ideal) (exitV m c (Proc.devRef .tc main_arg1)) (exitV m c (Proc.devRef .tc main_arg3)) (exitV m c (Proc.devRef .tc main_arg5)) (exitV m c (Proc.devRef .tc main_arg6)) (exitV m c (Proc.devRef .tc main_arg7)) (exitV m c (Proc.devRef .tc main_arg9)) (exitV m c (Proc.devRef .tc main_v0_0)) (exitV m c (Proc.devRef .tc main_v0_1)) (exitV m c (Proc.devRef .tc main_v0_2)) (exitV m c (Proc.devRef .tc main_v0_3)) = R78 m c := by
  rw [exit_main_arg1, exit_main_arg3, exit_main_arg5, exit_main_arg6, exit_main_arg7, exit_main_arg9, exit_main_v0_0, wide0, exit_main_v0_1, wide1, exit_main_v0_2, wide2, exit_main_v0_3, wide3]
  funext y
  rw [idx32 y]
  exact v78_at (b := y 0) (r := y 1) (d := y 3) (n := y 2) ..

theorem val79 : val_main_v79 (F := Ideal) (exitV m c (Proc.devRef .tc main_arg1)) (exitV m c (Proc.devRef .tc main_arg3)) (exitV m c (Proc.devRef .tc main_arg5)) (exitV m c (Proc.devRef .tc main_arg6)) (exitV m c (Proc.devRef .tc main_arg7)) (exitV m c (Proc.devRef .tc main_arg9)) (exitV m c (Proc.devRef .tc main_v0_0)) (exitV m c (Proc.devRef .tc main_v0_1)) (exitV m c (Proc.devRef .tc main_v0_2)) (exitV m c (Proc.devRef .tc main_v0_3)) = R79 m c := by
  rw [exit_main_arg1, exit_main_arg3, exit_main_arg5, exit_main_arg6, exit_main_arg7, exit_main_arg9, exit_main_v0_0, wide0, exit_main_v0_1, wide1, exit_main_v0_2, wide2, exit_main_v0_3, wide3]
  funext y
  rw [idx4 y]
  exact v79_at (b := y 0) (c := y 1) (h := y 2) (d := y 3) ..

theorem val80 : val_main_v80 (F := Ideal) (exitV m c (Proc.devRef .tc main_arg1)) (exitV m c (Proc.devRef .tc main_arg3)) (exitV m c (Proc.devRef .tc main_arg7)) (exitV m c (Proc.devRef .tc main_arg9)) (exitV m c (Proc.devRef .tc main_v0_0)) (exitV m c (Proc.devRef .tc main_v0_1)) (exitV m c (Proc.devRef .tc main_v0_3)) = R80 m c := by
  rw [exit_main_arg1, exit_main_arg3, exit_main_arg7, exit_main_arg9, exit_main_v0_0, wide0, exit_main_v0_1, wide1, exit_main_v0_3, wide3]
  funext y
  rw [idx4 y]
  exact (v80_at (b := y 0) (c := y 1) (h := y 2) (d := y 3) (x5 := (m ((c.tc : Thread nD τ).loc main_arg5) : S4.Idx → EReal)) (x6 := (m ((c.tc : Thread nD τ).loc main_arg6) : S6x2048x32x96.Idx → EReal)) (r2 := (m ((c.tc : Thread nD τ).loc main_arg4) : S6x2048x4x96.Idx → EReal)) ..)

/-- The run: the three results are the specification's gradients of the arguments, which end unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v78) = R78 m c
      ∧ r.2.mem ((c.tc : Thread nD τ).loc main_v79) = R79 m c
      ∧ r.2.mem ((c.tc : Thread nD τ).loc main_v80) = R80 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c).1.trans ((val_main_v78_eq (exitV m c)).trans (val78 m c)), (h c).2.1.trans ((val_main_v79_eq (exitV m c)).trans (val79 m c)),
      (h c).2.2.1.trans ((val_main_v80_eq (exitV m c)).trans (val80 m c)), (h c).2.2.2⟩)
    (run m ρ)

end Cert.ReferenceIdeal.RefValue

end
-- ==== Proof.Algebra.lean ====
/- The two programs compute the same three gradients at the exact instance. -/
module

public import proofs.«01_k».proof.Proof.ValueKI
public import proofs.«01_k».proof.Proof.ValueRI

@[expose] public section

set_option maxRecDepth 16384
set_option maxHeartbeats 1000000

noncomputable section

namespace Cert.Proof

open Idealize.ShloMosaic Idealize.ShloMosaic.TcCoe Idealize.SL.Sem

/-- Memories that agree on the ten arguments give the specification the same arrays. -/
theorem in_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.RefValue.inR m' c = Cert.KernelIdeal.Gen.inK m c := by
  unfold Cert.ReferenceIdeal.RefValue.inR Cert.ReferenceIdeal.RefValue.inp Cert.KernelIdeal.Gen.inK
  rw [h0, h1, h2, h3, h4, h5, h6, h7, h8, h9]

end Cert.Proof

end
-- ==== Proof.lean ====
module

public import proofs.«01_k».proof.Defs
public import proofs.«01_k».proof.Proof.FrameK
public import proofs.«01_k».proof.Proof.FrameKI
public import proofs.«01_k».proof.Proof.Algebra
public import proofs.«01_k».proof.Proof.Gen.ReferenceIdeal.Frame
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem

/-- The kernel as written runs, changes no argument and ends with every semaphore at zero. -/
theorem frame_p : Cert.quiescent_Kernel := fun m ρ _ => Cert.Kernel.Gen.frame m ρ
/-- The idealized kernel runs, changes no argument and ends with every semaphore at zero. -/
theorem frame_pi : Cert.quiescent_KernelIdeal := fun m ρ _ => Cert.KernelIdeal.Gen.frame m ρ
/-- The idealized reference runs, changes no argument and ends with every semaphore at zero. -/
theorem frame_ri : Cert.quiescent_ReferenceIdeal := fun m ρ _ => Cert.ReferenceIdeal.Gen.frame m ρ

/-- The one rewrite of the idealization: the table gives `"log2e"` the value `(log 2)⁻¹`. -/
theorem preserves : Cert.preserves_Kernel_KernelIdeal :=
  IdealRules.named_const.statement Cert.KernelIdeal.κ "log2e" .f32 0x3FB8AA3B#32 (((Real.log 2)⁻¹ : ℝ) : EReal) rfl

/-- The kernel and the reference return the same three gradients, on every memory. -/
theorem algebraic : algebraic_KernelIdeal_ReferenceIdeal (hKernelIdeal := Cert.KernelIdeal.Gen.facts) (hReferenceIdeal := Cert.ReferenceIdeal.Gen.facts) := by
  intro m g m' g' _ h
  refine ⟨fun c => Cert.KernelIdeal.Gen.R9 m c, fun c => Cert.KernelIdeal.Gen.R10 m c, fun c => Cert.KernelIdeal.Gen.R11 m c,
    Cert.KernelIdeal.Gen.run_value m g, ?_⟩
  refine (θ_run _ _ _).mono (fun r hr c => ?_) (Cert.ReferenceIdeal.RefValue.run_value m' g')
  obtain ⟨h0, h1, h2, h3, h4, h5, h6, h7, h8, h9⟩ := h c
  have e := in_eq m m' c h0 h1 h2 h3 h4 h5 h6 h7 h8 h9
  obtain ⟨r0, r1, r2, ra⟩ := hr c
  refine ⟨r0.trans ?_, r1.trans ?_, r2.trans ?_, ra⟩
  · unfold Cert.ReferenceIdeal.RefValue.R78 Cert.KernelIdeal.Gen.R9; rw [e]
  · unfold Cert.ReferenceIdeal.RefValue.R79 Cert.KernelIdeal.Gen.R10; rw [e]
  · unfold Cert.ReferenceIdeal.RefValue.R80 Cert.KernelIdeal.Gen.R11; rw [e]

/-- Everything the certificate claims. -/
theorem claim : Cert.Claim :=
  ⟨Cert.Kernel.Gen.facts, Cert.KernelIdeal.Gen.facts, Cert.ReferenceIdeal.Gen.facts,
    frame_p, frame_pi, frame_ri, preserves, algebraic⟩

end Cert.Proof

end
